-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x128 : Shape := ⟨2, ![8192, 128]⟩
abbrev S32 : Shape := ⟨1, ![32]⟩
abbrev S_ : Shape := ⟨0, ![]⟩
abbrev S1 : Shape := ⟨1, ![1]⟩
abbrev S17 : Shape := ⟨1, ![17]⟩
abbrev S2 : Shape := ⟨1, ![2]⟩
abbrev S17x1 : Shape := ⟨2, ![17, 1]⟩
abbrev S16 : Shape := ⟨1, ![16]⟩
abbrev S16x1 : Shape := ⟨2, ![16, 1]⟩
abbrev S2x256x8192 : Shape := ⟨3, ![2, 256, 8192]⟩
abbrev S2x2 : Shape := ⟨2, ![2, 2]⟩
abbrev S1x1 : Shape := ⟨2, ![1, 1]⟩
abbrev S1x128x8192 : Shape := ⟨3, ![1, 128, 8192]⟩
abbrev S128x8192 : Shape := ⟨2, ![128, 8192]⟩
abbrev S256x128 : Shape := ⟨2, ![256, 128]⟩
abbrev S1x256x8192 : Shape := ⟨3, ![1, 256, 8192]⟩
abbrev S128x128 : Shape := ⟨2, ![128, 128]⟩

abbrev nBuf : Space → Nat
  | .hbm => 141
  | .vmem => 5
  | .smem => 3
  | _ => 0

abbrev hbmTy0_0 (i : Nat) : BufTy := match i % 128 with
  | 0 => ⟨S256x8192, .f32⟩
  | 1 => ⟨S8192x128, .f32⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S17, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S_, .i32⟩
  | 70 => ⟨S1, .i32⟩
  | 71 => ⟨S1, .i32⟩
  | 72 => ⟨S2, .i32⟩
  | 73 => ⟨S17, .i32⟩
  | 74 => ⟨S17, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S17, .i32⟩
  | 82 => ⟨S17, .i32⟩
  | 83 => ⟨S_, .i32⟩
  | 84 => ⟨S17, .i32⟩
  | 85 => ⟨S17, .i1⟩
  | 86 => ⟨S_, .i32⟩
  | 87 => ⟨S17, .i32⟩
  | 88 => ⟨S17, .i1⟩
  | 89 => ⟨S_, .i32⟩
  | 90 => ⟨S_, .i1⟩
  | 91 => ⟨S17, .i1⟩
  | 92 => ⟨S17, .i1⟩
  | 93 => ⟨S17, .i1⟩
  | 94 => ⟨S17, .i32⟩
  | 95 => ⟨S17, .i32⟩
  | 96 => ⟨S17, .i32⟩
  | 97 => ⟨S_, .i32⟩
  | 98 => ⟨S17, .i32⟩
  | 99 => ⟨S17, .i1⟩
  | 100 => ⟨S_, .i32⟩
  | 101 => ⟨S17, .i32⟩
  | 102 => ⟨S17, .i32⟩
  | 103 => ⟨S17, .i32⟩
  | 104 => ⟨S17x1, .i32⟩
  | 105 => ⟨S17, .i32⟩
  | 106 => ⟨S16, .i32⟩
  | 107 => ⟨S16, .i32⟩
  | 108 => ⟨S16, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S16, .i32⟩
  | 116 => ⟨S16, .i32⟩
  | 117 => ⟨S_, .i32⟩
  | 118 => ⟨S16, .i32⟩
  | 119 => ⟨S16, .i1⟩
  | 120 => ⟨S_, .i32⟩
  | 121 => ⟨S16, .i32⟩
  | 122 => ⟨S16, .i1⟩
  | 123 => ⟨S_, .i32⟩
  | 124 => ⟨S_, .i1⟩
  | 125 => ⟨S16, .i1⟩
  | 126 => ⟨S16, .i1⟩
  | 127 => ⟨S16, .i1⟩
  | _ => ⟨S256x8192, .f32⟩

abbrev hbmTy0_1 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16, .i32⟩
  | 12 => ⟨S8192x128, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S8192x128, .f32⟩
  | .local _ .vmem, ⟨2, _⟩ => ⟨S8192x128, .f32⟩
  | .local _ .vmem, ⟨3, _⟩ => ⟨S2x256x8192, .f32⟩
  | .local _ .vmem, ⟨4, _⟩ => ⟨S2x256x8192, .f32⟩
  | .local _ .smem, ⟨0, _⟩ => ⟨S2, .i32⟩
  | .local _ .smem, ⟨1, _⟩ => ⟨S17, .i32⟩
  | .local _ .smem, ⟨2, _⟩ => ⟨S16, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_c_6 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_c_1 : Ref sig .tc := ⟨.hbm, 27, rfl⟩
abbrev main_call0_v4 : Ref sig .tc := ⟨.hbm, 28, rfl⟩
abbrev main_call0_c_2 : Ref sig .tc := ⟨.hbm, 29, rfl⟩
abbrev main_call0_v5 : Ref sig .tc := ⟨.hbm, 30, rfl⟩
abbrev main_call0_c_3 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_v12 : Ref sig .tc := ⟨.hbm, 36, rfl⟩
abbrev main_c_7 : Ref sig .tc := ⟨.hbm, 37, rfl⟩
abbrev main_v13 : Ref sig .tc := ⟨.hbm, 38, rfl⟩
abbrev main_c_8 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_9 : Ref sig .tc := ⟨.hbm, 44, rfl⟩
abbrev main_v18 : Ref sig .tc := ⟨.hbm, 45, rfl⟩
abbrev main_c_10 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_c_1 : Ref sig .tc := ⟨.hbm, 53, rfl⟩
abbrev main_call1_v4 : Ref sig .tc := ⟨.hbm, 54, rfl⟩
abbrev main_call1_c_2 : Ref sig .tc := ⟨.hbm, 55, rfl⟩
abbrev main_call1_v5 : Ref sig .tc := ⟨.hbm, 56, rfl⟩
abbrev main_call1_c_3 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_v19 : Ref sig .tc := ⟨.hbm, 62, rfl⟩
abbrev main_c_11 : Ref sig .tc := ⟨.hbm, 63, rfl⟩
abbrev main_v20 : Ref sig .tc := ⟨.hbm, 64, rfl⟩
abbrev main_c_12 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_13 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v30 : Ref sig .tc := ⟨.hbm, 96, rfl⟩
abbrev main_c_14 : Ref sig .tc := ⟨.hbm, 97, rfl⟩
abbrev main_v31 : Ref sig .tc := ⟨.hbm, 98, rfl⟩
abbrev main_v32 : Ref sig .tc := ⟨.hbm, 99, rfl⟩
abbrev main_c_15 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_16 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v41 : Ref sig .tc := ⟨.hbm, 130, rfl⟩
abbrev main_c_17 : Ref sig .tc := ⟨.hbm, 131, rfl⟩
abbrev main_v42 : Ref sig .tc := ⟨.hbm, 132, rfl⟩
abbrev main_v43 : Ref sig .tc := ⟨.hbm, 133, rfl⟩
abbrev main_c_18 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v1 : BitVec 32) : Nat :=
  let c0_i32_10 : BitVec 32 := 0#32
  let c1_i32_9 : BitVec 32 := 1#32
  let v7 : BitVec 32 := Scalar.muli v1 c1_i32_9
  let v8 : BitVec 32 := Scalar.addi c0_i32_10 v7
  v8.toNat
def k0_dev4 (v0 : BitVec 32) : Nat :=
  let c0_i32_21 : BitVec 32 := 0#32
  let c1_i32_20 : BitVec 32 := 1#32
  let v16 : BitVec 32 := Scalar.muli v0 c1_i32_20
  let v17 : BitVec 32 := Scalar.addi c0_i32_21 v16
  v17.toNat
def k0_dev5 (v1 : BitVec 32) : Nat :=
  let c0_i32_32 : BitVec 32 := 0#32
  let c1_i32_31 : BitVec 32 := 1#32
  let v25 : BitVec 32 := Scalar.muli v1 c1_i32_31
  let v26 : BitVec 32 := Scalar.addi c0_i32_32 v25
  v26.toNat
def k0_dev6 (v0 : BitVec 32) : Nat :=
  let c0_i32_42 : BitVec 32 := 0#32
  let c1_i32_41 : BitVec 32 := 1#32
  let v34 : BitVec 32 := Scalar.muli v0 c1_i32_41
  let v35 : BitVec 32 := Scalar.addi c0_i32_42 v34
  v35.toNat
def k0_off1 (v50 : BitVec 32) : Fin 2 → Nat :=
  let c256_i32 : BitVec 32 := 256#32
  let v51 : BitVec 32 := Scalar.muli v50 c256_i32
  let v52 : Index := Scalar.indexCast v51
  let c0_53 : Index := 0#32
  ![v52.toNat, 0]

def k0_chk3 (v50 : BitVec 32) : Prop :=
  (∀ a, (k0_off1 v50) a + S256x128.size a ≤ S8192x128.size a)
theorem k0_off1_inb : ∀ (v50 : BitVec 32) (k0_hw3 : k0_chk3 v50), ∀ a, (k0_off1 v50) a + S256x128.size a ≤ S8192x128.size a := fun v50 k0_hw3 => k0_hw3

def k0_dev7 (v0 : BitVec 32) : Nat :=
  let c0_i32_66 : BitVec 32 := 0#32
  let c1_i32_65 : BitVec 32 := 1#32
  let v59 : BitVec 32 := Scalar.muli v0 c1_i32_65
  let v60 : BitVec 32 := Scalar.addi c0_i32_66 v59
  v60.toNat
def k0_dev8 (v1 : BitVec 32) : Nat :=
  let c0_i32_79 : BitVec 32 := 0#32
  let c1_i32_78 : BitVec 32 := 1#32
  let v66 : BitVec 32 := Scalar.muli v1 c1_i32_78
  let v67 : BitVec 32 := Scalar.addi c0_i32_79 v66
  v67.toNat
def k0_dev9 (v0 : BitVec 32) : Nat :=
  let c0_i32_92 : BitVec 32 := 0#32
  let c1_i32_91 : BitVec 32 := 1#32
  let v73 : BitVec 32 := Scalar.muli v0 c1_i32_91
  let v74 : BitVec 32 := Scalar.addi c0_i32_92 v73
  v74.toNat
def k0_dev10 (v1 : BitVec 32) : Nat :=
  let c0_i32_105 : BitVec 32 := 0#32
  let c1_i32_104 : BitVec 32 := 1#32
  let v80 : BitVec 32 := Scalar.muli v1 c1_i32_104
  let v81 : BitVec 32 := Scalar.addi c0_i32_105 v80
  v81.toNat
def k0_dev11 (v1 : BitVec 32) : Nat :=
  let c0_i32_127 : BitVec 32 := 0#32
  let c1_i32_126 : BitVec 32 := 1#32
  let v90 : BitVec 32 := Scalar.muli v1 c1_i32_126
  let v91 : BitVec 32 := Scalar.addi c0_i32_127 v90
  v91.toNat
def k0_dev12 (v0 : BitVec 32) : Nat :=
  let c0_i32_153 : BitVec 32 := 0#32
  let c1_i32_152 : BitVec 32 := 1#32
  let v108 : BitVec 32 := Scalar.muli v0 c1_i32_152
  let v109 : BitVec 32 := Scalar.addi c0_i32_153 v108
  v109.toNat
def k0_dev13 (v1 : BitVec 32) : Nat :=
  let c0_i32_179 : BitVec 32 := 0#32
  let c1_i32_178 : BitVec 32 := 1#32
  let v126 : BitVec 32 := Scalar.muli v1 c1_i32_178
  let v127 : BitVec 32 := Scalar.addi c0_i32_179 v126
  v127.toNat
def k0_dev14 (v0 : BitVec 32) : Nat :=
  let c0_i32_205 : BitVec 32 := 0#32
  let c1_i32_204 : BitVec 32 := 1#32
  let v144 : BitVec 32 := Scalar.muli v0 c1_i32_204
  let v145 : BitVec 32 := Scalar.addi c0_i32_205 v144
  v145.toNat
def k0_off2 (v161 : BitVec 32) : Fin 2 → Nat :=
  let c256_i32_218 : BitVec 32 := 256#32
  let v162 : BitVec 32 := Scalar.muli v161 c256_i32_218
  let v163 : Index := Scalar.indexCast v162
  let c0_219 : Index := 0#32
  ![v163.toNat, 0]

def k0_chk4 (v161 : BitVec 32) : Prop :=
  (∀ a, (k0_off2 v161) a + S256x128.size a ≤ S8192x128.size a)
theorem k0_off2_inb : ∀ (v161 : BitVec 32) (k0_hw4 : k0_chk4 v161), ∀ a, (k0_off2 v161) a + S256x128.size a ≤ S8192x128.size a := fun v161 k0_hw4 => k0_hw4

def k0_off3 (v172 : BitVec 32) : Fin 2 → Nat :=
  let c256_i32_228 : BitVec 32 := 256#32
  let v173 : BitVec 32 := Scalar.muli v172 c256_i32_228
  let v174 : Index := Scalar.indexCast v173
  let c0_229 : Index := 0#32
  ![v174.toNat, 0]

def k0_chk5 (v172 : BitVec 32) : Prop :=
  (∀ a, (k0_off3 v172) a + S256x128.size a ≤ S8192x128.size a)
theorem k0_off3_inb : ∀ (v172 : BitVec 32) (k0_hw5 : k0_chk5 v172), ∀ a, (k0_off3 v172) a + S256x128.size a ≤ S8192x128.size a := fun v172 k0_hw5 => k0_hw5

def k0_dev15 (v0 : BitVec 32) : Nat :=
  let c0_i32_243 : BitVec 32 := 0#32
  let c1_i32_242 : BitVec 32 := 1#32
  let v182 : BitVec 32 := Scalar.muli v0 c1_i32_242
  let v183 : BitVec 32 := Scalar.addi c0_i32_243 v182
  v183.toNat
def k0_dev16 (v1 : BitVec 32) : Nat :=
  let c0_i32_257 : BitVec 32 := 0#32
  let c1_i32_256 : BitVec 32 := 1#32
  let v190 : BitVec 32 := Scalar.muli v1 c1_i32_256
  let v191 : BitVec 32 := Scalar.addi c0_i32_257 v190
  v191.toNat
def k0_dev17 (v0 : BitVec 32) : Nat :=
  let c0_i32_271 : BitVec 32 := 0#32
  let c1_i32_270 : BitVec 32 := 1#32
  let v198 : BitVec 32 := Scalar.muli v0 c1_i32_270
  let v199 : BitVec 32 := Scalar.addi c0_i32_271 v198
  v199.toNat
def k0_dev18 (v1 : BitVec 32) : Nat :=
  let c0_i32_285 : BitVec 32 := 0#32
  let c1_i32_284 : BitVec 32 := 1#32
  let v206 : BitVec 32 := Scalar.muli v1 c1_i32_284
  let v207 : BitVec 32 := Scalar.addi c0_i32_285 v206
  v207.toNat
def k0_dev19 (v1 : BitVec 32) : Nat :=
  let c0_i32_307 : BitVec 32 := 0#32
  let c1_i32_306 : BitVec 32 := 1#32
  let v216 : BitVec 32 := Scalar.muli v1 c1_i32_306
  let v217 : BitVec 32 := Scalar.addi c0_i32_307 v216
  v217.toNat
def k0_dev20 (v0 : BitVec 32) : Nat :=
  let c0_i32_333 : BitVec 32 := 0#32
  let c1_i32_332 : BitVec 32 := 1#32
  let v234 : BitVec 32 := Scalar.muli v0 c1_i32_332
  let v235 : BitVec 32 := Scalar.addi c0_i32_333 v234
  v235.toNat
def k0_dev21 (v1 : BitVec 32) : Nat :=
  let c0_i32_359 : BitVec 32 := 0#32
  let c1_i32_358 : BitVec 32 := 1#32
  let v252 : BitVec 32 := Scalar.muli v1 c1_i32_358
  let v253 : BitVec 32 := Scalar.addi c0_i32_359 v252
  v253.toNat
def k0_dev22 (v0 : BitVec 32) : Nat :=
  let c0_i32_385 : BitVec 32 := 0#32
  let c1_i32_384 : BitVec 32 := 1#32
  let v270 : BitVec 32 := Scalar.muli v0 c1_i32_384
  let v271 : BitVec 32 := Scalar.addi c0_i32_385 v270
  v271.toNat
def k0_off4 (v287 : BitVec 32) : Fin 2 → Nat :=
  let c256_i32_397 : BitVec 32 := 256#32
  let v288 : BitVec 32 := Scalar.muli v287 c256_i32_397
  let v289 : Index := Scalar.indexCast v288
  let c0_398 : Index := 0#32
  ![v289.toNat, 0]

def k0_chk6 (v287 : BitVec 32) : Prop :=
  (∀ a, (k0_off4 v287) a + S256x128.size a ≤ S8192x128.size a)
theorem k0_off4_inb : ∀ (v287 : BitVec 32) (k0_hw6 : k0_chk6 v287), ∀ a, (k0_off4 v287) a + S256x128.size a ≤ S8192x128.size a := fun v287 k0_hw6 => k0_hw6

def k0_off5 (v298 : BitVec 32) : Fin 2 → Nat :=
  let c256_i32_407 : BitVec 32 := 256#32
  let v299 : BitVec 32 := Scalar.muli v298 c256_i32_407
  let v300 : Index := Scalar.indexCast v299
  let c0_408 : Index := 0#32
  ![v300.toNat, 0]

def k0_chk7 (v298 : BitVec 32) : Prop :=
  (∀ a, (k0_off5 v298) a + S256x128.size a ≤ S8192x128.size a)
theorem k0_off5_inb : ∀ (v298 : BitVec 32) (k0_hw7 : k0_chk7 v298), ∀ a, (k0_off5 v298) a + S256x128.size a ≤ S8192x128.size a := fun v298 k0_hw7 => k0_hw7

def k0_dev23 (v0 : BitVec 32) : Nat :=
  let c0_i32_422 : BitVec 32 := 0#32
  let c1_i32_421 : BitVec 32 := 1#32
  let v308 : BitVec 32 := Scalar.muli v0 c1_i32_421
  let v309 : BitVec 32 := Scalar.addi c0_i32_422 v308
  v309.toNat
def k0_dev24 (v1 : BitVec 32) : Nat :=
  let c0_i32_436 : BitVec 32 := 0#32
  let c1_i32_435 : BitVec 32 := 1#32
  let v316 : BitVec 32 := Scalar.muli v1 c1_i32_435
  let v317 : BitVec 32 := Scalar.addi c0_i32_436 v316
  v317.toNat
def k0_dev25 (v0 : BitVec 32) : Nat :=
  let c0_i32_450 : BitVec 32 := 0#32
  let c1_i32_449 : BitVec 32 := 1#32
  let v324 : BitVec 32 := Scalar.muli v0 c1_i32_449
  let v325 : BitVec 32 := Scalar.addi c0_i32_450 v324
  v325.toNat
def k0_dev26 (v1 : BitVec 32) : Nat :=
  let c0_i32_464 : BitVec 32 := 0#32
  let c1_i32_463 : BitVec 32 := 1#32
  let v332 : BitVec 32 := Scalar.muli v1 c1_i32_463
  let v333 : BitVec 32 := Scalar.addi c0_i32_464 v332
  v333.toNat
def k0_dev27 (v1 : BitVec 32) : Nat :=
  let c0_i32_486 : BitVec 32 := 0#32
  let c1_i32_485 : BitVec 32 := 1#32
  let v342 : BitVec 32 := Scalar.muli v1 c1_i32_485
  let v343 : BitVec 32 := Scalar.addi c0_i32_486 v342
  v343.toNat
def k0_dev28 (v0 : BitVec 32) : Nat :=
  let c0_i32_512 : BitVec 32 := 0#32
  let c1_i32_511 : BitVec 32 := 1#32
  let v360 : BitVec 32 := Scalar.muli v0 c1_i32_511
  let v361 : BitVec 32 := Scalar.addi c0_i32_512 v360
  v361.toNat
def k0_dev29 (v1 : BitVec 32) : Nat :=
  let c0_i32_538 : BitVec 32 := 0#32
  let c1_i32_537 : BitVec 32 := 1#32
  let v378 : BitVec 32 := Scalar.muli v1 c1_i32_537
  let v379 : BitVec 32 := Scalar.addi c0_i32_538 v378
  v379.toNat
def k0_dev30 (v0 : BitVec 32) : Nat :=
  let c0_i32_564 : BitVec 32 := 0#32
  let c1_i32_563 : BitVec 32 := 1#32
  let v396 : BitVec 32 := Scalar.muli v0 c1_i32_563
  let v397 : BitVec 32 := Scalar.addi c0_i32_564 v396
  v397.toNat
def k0_off6 (v413 : BitVec 32) : Fin 2 → Nat :=
  let c256_i32_576 : BitVec 32 := 256#32
  let v414 : BitVec 32 := Scalar.muli v413 c256_i32_576
  let v415 : Index := Scalar.indexCast v414
  let c0_577 : Index := 0#32
  ![v415.toNat, 0]

def k0_chk8 (v413 : BitVec 32) : Prop :=
  (∀ a, (k0_off6 v413) a + S256x128.size a ≤ S8192x128.size a)
theorem k0_off6_inb : ∀ (v413 : BitVec 32) (k0_hw8 : k0_chk8 v413), ∀ a, (k0_off6 v413) a + S256x128.size a ≤ S8192x128.size a := fun v413 k0_hw8 => k0_hw8

def k0_off7 (v424 : BitVec 32) : Fin 2 → Nat :=
  let c256_i32_586 : BitVec 32 := 256#32
  let v425 : BitVec 32 := Scalar.muli v424 c256_i32_586
  let v426 : Index := Scalar.indexCast v425
  let c0_587 : Index := 0#32
  ![v426.toNat, 0]

def k0_chk9 (v424 : BitVec 32) : Prop :=
  (∀ a, (k0_off7 v424) a + S256x128.size a ≤ S8192x128.size a)
theorem k0_off7_inb : ∀ (v424 : BitVec 32) (k0_hw9 : k0_chk9 v424), ∀ a, (k0_off7 v424) a + S256x128.size a ≤ S8192x128.size a := fun v424 k0_hw9 => k0_hw9

def k0_dev31 (v0 : BitVec 32) : Nat :=
  let c0_i32_601 : BitVec 32 := 0#32
  let c1_i32_600 : BitVec 32 := 1#32
  let v434 : BitVec 32 := Scalar.muli v0 c1_i32_600
  let v435 : BitVec 32 := Scalar.addi c0_i32_601 v434
  v435.toNat
def k0_dev32 (v1 : BitVec 32) : Nat :=
  let c0_i32_615 : BitVec 32 := 0#32
  let c1_i32_614 : BitVec 32 := 1#32
  let v442 : BitVec 32 := Scalar.muli v1 c1_i32_614
  let v443 : BitVec 32 := Scalar.addi c0_i32_615 v442
  v443.toNat
def k0_dev33 (v0 : BitVec 32) : Nat :=
  let c0_i32_629 : BitVec 32 := 0#32
  let c1_i32_628 : BitVec 32 := 1#32
  let v450 : BitVec 32 := Scalar.muli v0 c1_i32_628
  let v451 : BitVec 32 := Scalar.addi c0_i32_629 v450
  v451.toNat
def k0_dev34 (v1 : BitVec 32) : Nat :=
  let c0_i32_643 : BitVec 32 := 0#32
  let c1_i32_642 : BitVec 32 := 1#32
  let v458 : BitVec 32 := Scalar.muli v1 c1_i32_642
  let v459 : BitVec 32 := Scalar.addi c0_i32_643 v458
  v459.toNat
def k0_dev35 (v1 : BitVec 32) : Nat :=
  let c0_i32_665 : BitVec 32 := 0#32
  let c1_i32_664 : BitVec 32 := 1#32
  let v468 : BitVec 32 := Scalar.muli v1 c1_i32_664
  let v469 : BitVec 32 := Scalar.addi c0_i32_665 v468
  v469.toNat
def k0_dev36 (v0 : BitVec 32) : Nat :=
  let c0_i32_691 : BitVec 32 := 0#32
  let c1_i32_690 : BitVec 32 := 1#32
  let v486 : BitVec 32 := Scalar.muli v0 c1_i32_690
  let v487 : BitVec 32 := Scalar.addi c0_i32_691 v486
  v487.toNat
def k0_dev37 (v1 : BitVec 32) : Nat :=
  let c0_i32_717 : BitVec 32 := 0#32
  let c1_i32_716 : BitVec 32 := 1#32
  let v504 : BitVec 32 := Scalar.muli v1 c1_i32_716
  let v505 : BitVec 32 := Scalar.addi c0_i32_717 v504
  v505.toNat
def k0_dev38 (v0 : BitVec 32) : Nat :=
  let c0_i32_743 : BitVec 32 := 0#32
  let c1_i32_742 : BitVec 32 := 1#32
  let v522 : BitVec 32 := Scalar.muli v0 c1_i32_742
  let v523 : BitVec 32 := Scalar.addi c0_i32_743 v522
  v523.toNat
def k0_off8 (v539 : BitVec 32) : Fin 2 → Nat :=
  let c256_i32_755 : BitVec 32 := 256#32
  let v540 : BitVec 32 := Scalar.muli v539 c256_i32_755
  let v541 : Index := Scalar.indexCast v540
  let c0_756 : Index := 0#32
  ![v541.toNat, 0]

def k0_chk10 (v539 : BitVec 32) : Prop :=
  (∀ a, (k0_off8 v539) a + S256x128.size a ≤ S8192x128.size a)
theorem k0_off8_inb : ∀ (v539 : BitVec 32) (k0_hw10 : k0_chk10 v539), ∀ a, (k0_off8 v539) a + S256x128.size a ≤ S8192x128.size a := fun v539 k0_hw10 => k0_hw10

def k0_off9 (v550 : BitVec 32) : Fin 2 → Nat :=
  let c256_i32_765 : BitVec 32 := 256#32
  let v551 : BitVec 32 := Scalar.muli v550 c256_i32_765
  let v552 : Index := Scalar.indexCast v551
  let c0_766 : Index := 0#32
  ![v552.toNat, 0]

def k0_chk11 (v550 : BitVec 32) : Prop :=
  (∀ a, (k0_off9 v550) a + S256x128.size a ≤ S8192x128.size a)
theorem k0_off9_inb : ∀ (v550 : BitVec 32) (k0_hw11 : k0_chk11 v550), ∀ a, (k0_off9 v550) a + S256x128.size a ≤ S8192x128.size a := fun v550 k0_hw11 => k0_hw11

def k0_dev39 (v0 : BitVec 32) : Nat :=
  let c0_i32_780 : BitVec 32 := 0#32
  let c1_i32_779 : BitVec 32 := 1#32
  let v560 : BitVec 32 := Scalar.muli v0 c1_i32_779
  let v561 : BitVec 32 := Scalar.addi c0_i32_780 v560
  v561.toNat
def k0_dev40 (v1 : BitVec 32) : Nat :=
  let c0_i32_794 : BitVec 32 := 0#32
  let c1_i32_793 : BitVec 32 := 1#32
  let v568 : BitVec 32 := Scalar.muli v1 c1_i32_793
  let v569 : BitVec 32 := Scalar.addi c0_i32_794 v568
  v569.toNat
def k0_dev41 (v0 : BitVec 32) : Nat :=
  let c0_i32_808 : BitVec 32 := 0#32
  let c1_i32_807 : BitVec 32 := 1#32
  let v576 : BitVec 32 := Scalar.muli v0 c1_i32_807
  let v577 : BitVec 32 := Scalar.addi c0_i32_808 v576
  v577.toNat
def k0_dev42 (v1 : BitVec 32) : Nat :=
  let c0_i32_822 : BitVec 32 := 0#32
  let c1_i32_821 : BitVec 32 := 1#32
  let v584 : BitVec 32 := Scalar.muli v1 c1_i32_821
  let v585 : BitVec 32 := Scalar.addi c0_i32_822 v584
  v585.toNat
def k0_dev43 (v1 : BitVec 32) : Nat :=
  let c0_i32_844 : BitVec 32 := 0#32
  let c1_i32_843 : BitVec 32 := 1#32
  let v594 : BitVec 32 := Scalar.muli v1 c1_i32_843
  let v595 : BitVec 32 := Scalar.addi c0_i32_844 v594
  v595.toNat
def k0_dev44 (v0 : BitVec 32) : Nat :=
  let c0_i32_870 : BitVec 32 := 0#32
  let c1_i32_869 : BitVec 32 := 1#32
  let v612 : BitVec 32 := Scalar.muli v0 c1_i32_869
  let v613 : BitVec 32 := Scalar.addi c0_i32_870 v612
  v613.toNat
def k0_dev45 (v1 : BitVec 32) : Nat :=
  let c0_i32_896 : BitVec 32 := 0#32
  let c1_i32_895 : BitVec 32 := 1#32
  let v630 : BitVec 32 := Scalar.muli v1 c1_i32_895
  let v631 : BitVec 32 := Scalar.addi c0_i32_896 v630
  v631.toNat
def k0_dev46 (v0 : BitVec 32) : Nat :=
  let c0_i32_922 : BitVec 32 := 0#32
  let c1_i32_921 : BitVec 32 := 1#32
  let v648 : BitVec 32 := Scalar.muli v0 c1_i32_921
  let v649 : BitVec 32 := Scalar.addi c0_i32_922 v648
  v649.toNat
def k0_off10 (v665 : BitVec 32) : Fin 2 → Nat :=
  let c256_i32_934 : BitVec 32 := 256#32
  let v666 : BitVec 32 := Scalar.muli v665 c256_i32_934
  let v667 : Index := Scalar.indexCast v666
  let c0_935 : Index := 0#32
  ![v667.toNat, 0]

def k0_chk12 (v665 : BitVec 32) : Prop :=
  (∀ a, (k0_off10 v665) a + S256x128.size a ≤ S8192x128.size a)
theorem k0_off10_inb : ∀ (v665 : BitVec 32) (k0_hw12 : k0_chk12 v665), ∀ a, (k0_off10 v665) a + S256x128.size a ≤ S8192x128.size a := fun v665 k0_hw12 => k0_hw12

def k0_off11 (v676 : BitVec 32) : Fin 2 → Nat :=
  let c256_i32_944 : BitVec 32 := 256#32
  let v677 : BitVec 32 := Scalar.muli v676 c256_i32_944
  let v678 : Index := Scalar.indexCast v677
  let c0_945 : Index := 0#32
  ![v678.toNat, 0]

def k0_chk13 (v676 : BitVec 32) : Prop :=
  (∀ a, (k0_off11 v676) a + S256x128.size a ≤ S8192x128.size a)
theorem k0_off11_inb : ∀ (v676 : BitVec 32) (k0_hw13 : k0_chk13 v676), ∀ a, (k0_off11 v676) a + S256x128.size a ≤ S8192x128.size a := fun v676 k0_hw13 => k0_hw13

def k0_dev47 (v0 : BitVec 32) : Nat :=
  let c0_i32_959 : BitVec 32 := 0#32
  let c1_i32_958 : BitVec 32 := 1#32
  let v686 : BitVec 32 := Scalar.muli v0 c1_i32_958
  let v687 : BitVec 32 := Scalar.addi c0_i32_959 v686
  v687.toNat
def k0_dev48 (v1 : BitVec 32) : Nat :=
  let c0_i32_973 : BitVec 32 := 0#32
  let c1_i32_972 : BitVec 32 := 1#32
  let v694 : BitVec 32 := Scalar.muli v1 c1_i32_972
  let v695 : BitVec 32 := Scalar.addi c0_i32_973 v694
  v695.toNat
def k0_dev49 (v0 : BitVec 32) : Nat :=
  let c0_i32_987 : BitVec 32 := 0#32
  let c1_i32_986 : BitVec 32 := 1#32
  let v702 : BitVec 32 := Scalar.muli v0 c1_i32_986
  let v703 : BitVec 32 := Scalar.addi c0_i32_987 v702
  v703.toNat
def k0_dev50 (v1 : BitVec 32) : Nat :=
  let c0_i32_1001 : BitVec 32 := 0#32
  let c1_i32_1000 : BitVec 32 := 1#32
  let v710 : BitVec 32 := Scalar.muli v1 c1_i32_1000
  let v711 : BitVec 32 := Scalar.addi c0_i32_1001 v710
  v711.toNat
def k0_dev51 (v1 : BitVec 32) : Nat :=
  let c0_i32_1023 : BitVec 32 := 0#32
  let c1_i32_1022 : BitVec 32 := 1#32
  let v720 : BitVec 32 := Scalar.muli v1 c1_i32_1022
  let v721 : BitVec 32 := Scalar.addi c0_i32_1023 v720
  v721.toNat
def k0_dev52 (v0 : BitVec 32) : Nat :=
  let c0_i32_1049 : BitVec 32 := 0#32
  let c1_i32_1048 : BitVec 32 := 1#32
  let v738 : BitVec 32 := Scalar.muli v0 c1_i32_1048
  let v739 : BitVec 32 := Scalar.addi c0_i32_1049 v738
  v739.toNat
def k0_dev53 (v1 : BitVec 32) : Nat :=
  let c0_i32_1075 : BitVec 32 := 0#32
  let c1_i32_1074 : BitVec 32 := 1#32
  let v756 : BitVec 32 := Scalar.muli v1 c1_i32_1074
  let v757 : BitVec 32 := Scalar.addi c0_i32_1075 v756
  v757.toNat
def k0_dev54 (v0 : BitVec 32) : Nat :=
  let c0_i32_1101 : BitVec 32 := 0#32
  let c1_i32_1100 : BitVec 32 := 1#32
  let v774 : BitVec 32 := Scalar.muli v0 c1_i32_1100
  let v775 : BitVec 32 := Scalar.addi c0_i32_1101 v774
  v775.toNat
def k0_off12 (v791 : BitVec 32) : Fin 2 → Nat :=
  let c256_i32_1113 : BitVec 32 := 256#32
  let v792 : BitVec 32 := Scalar.muli v791 c256_i32_1113
  let v793 : Index := Scalar.indexCast v792
  let c0_1114 : Index := 0#32
  ![v793.toNat, 0]

def k0_chk14 (v791 : BitVec 32) : Prop :=
  (∀ a, (k0_off12 v791) a + S256x128.size a ≤ S8192x128.size a)
theorem k0_off12_inb : ∀ (v791 : BitVec 32) (k0_hw14 : k0_chk14 v791), ∀ a, (k0_off12 v791) a + S256x128.size a ≤ S8192x128.size a := fun v791 k0_hw14 => k0_hw14

def k0_off13 (v802 : BitVec 32) : Fin 2 → Nat :=
  let c256_i32_1123 : BitVec 32 := 256#32
  let v803 : BitVec 32 := Scalar.muli v802 c256_i32_1123
  let v804 : Index := Scalar.indexCast v803
  let c0_1124 : Index := 0#32
  ![v804.toNat, 0]

def k0_chk15 (v802 : BitVec 32) : Prop :=
  (∀ a, (k0_off13 v802) a + S256x128.size a ≤ S8192x128.size a)
theorem k0_off13_inb : ∀ (v802 : BitVec 32) (k0_hw15 : k0_chk15 v802), ∀ a, (k0_off13 v802) a + S256x128.size a ≤ S8192x128.size a := fun v802 k0_hw15 => k0_hw15

def k0_dev55 (v0 : BitVec 32) : Nat :=
  let c0_i32_1138 : BitVec 32 := 0#32
  let c1_i32_1137 : BitVec 32 := 1#32
  let v812 : BitVec 32 := Scalar.muli v0 c1_i32_1137
  let v813 : BitVec 32 := Scalar.addi c0_i32_1138 v812
  v813.toNat
def k0_dev56 (v1 : BitVec 32) : Nat :=
  let c0_i32_1152 : BitVec 32 := 0#32
  let c1_i32_1151 : BitVec 32 := 1#32
  let v820 : BitVec 32 := Scalar.muli v1 c1_i32_1151
  let v821 : BitVec 32 := Scalar.addi c0_i32_1152 v820
  v821.toNat
def k0_dev57 (v0 : BitVec 32) : Nat :=
  let c0_i32_1166 : BitVec 32 := 0#32
  let c1_i32_1165 : BitVec 32 := 1#32
  let v828 : BitVec 32 := Scalar.muli v0 c1_i32_1165
  let v829 : BitVec 32 := Scalar.addi c0_i32_1166 v828
  v829.toNat
def k0_dev58 (v1 : BitVec 32) : Nat :=
  let c0_i32_1180 : BitVec 32 := 0#32
  let c1_i32_1179 : BitVec 32 := 1#32
  let v836 : BitVec 32 := Scalar.muli v1 c1_i32_1179
  let v837 : BitVec 32 := Scalar.addi c0_i32_1180 v836
  v837.toNat
def k0_dev59 (v1 : BitVec 32) : Nat :=
  let c0_i32_1202 : BitVec 32 := 0#32
  let c1_i32_1201 : BitVec 32 := 1#32
  let v846 : BitVec 32 := Scalar.muli v1 c1_i32_1201
  let v847 : BitVec 32 := Scalar.addi c0_i32_1202 v846
  v847.toNat
def k0_dev60 (v0 : BitVec 32) : Nat :=
  let c0_i32_1228 : BitVec 32 := 0#32
  let c1_i32_1227 : BitVec 32 := 1#32
  let v864 : BitVec 32 := Scalar.muli v0 c1_i32_1227
  let v865 : BitVec 32 := Scalar.addi c0_i32_1228 v864
  v865.toNat
def k0_dev61 (v1 : BitVec 32) : Nat :=
  let c0_i32_1254 : BitVec 32 := 0#32
  let c1_i32_1253 : BitVec 32 := 1#32
  let v882 : BitVec 32 := Scalar.muli v1 c1_i32_1253
  let v883 : BitVec 32 := Scalar.addi c0_i32_1254 v882
  v883.toNat
def k0_dev62 (v0 : BitVec 32) : Nat :=
  let c0_i32_1280 : BitVec 32 := 0#32
  let c1_i32_1279 : BitVec 32 := 1#32
  let v900 : BitVec 32 := Scalar.muli v0 c1_i32_1279
  let v901 : BitVec 32 := Scalar.addi c0_i32_1280 v900
  v901.toNat
def k0_off14 (v917 : BitVec 32) : Fin 2 → Nat :=
  let c256_i32_1292 : BitVec 32 := 256#32
  let v918 : BitVec 32 := Scalar.muli v917 c256_i32_1292
  let v919 : Index := Scalar.indexCast v918
  let c0_1293 : Index := 0#32
  ![v919.toNat, 0]

def k0_chk16 (v917 : BitVec 32) : Prop :=
  (∀ a, (k0_off14 v917) a + S256x128.size a ≤ S8192x128.size a)
theorem k0_off14_inb : ∀ (v917 : BitVec 32) (k0_hw16 : k0_chk16 v917), ∀ a, (k0_off14 v917) a + S256x128.size a ≤ S8192x128.size a := fun v917 k0_hw16 => k0_hw16

def k0_off15 (v928 : BitVec 32) : Fin 2 → Nat :=
  let c256_i32_1302 : BitVec 32 := 256#32
  let v929 : BitVec 32 := Scalar.muli v928 c256_i32_1302
  let v930 : Index := Scalar.indexCast v929
  let c0_1303 : Index := 0#32
  ![v930.toNat, 0]

def k0_chk17 (v928 : BitVec 32) : Prop :=
  (∀ a, (k0_off15 v928) a + S256x128.size a ≤ S8192x128.size a)
theorem k0_off15_inb : ∀ (v928 : BitVec 32) (k0_hw17 : k0_chk17 v928), ∀ a, (k0_off15 v928) a + S256x128.size a ≤ S8192x128.size a := fun v928 k0_hw17 => k0_hw17

def k0_dev63 (v0 : BitVec 32) : Nat :=
  let c0_i32_1317 : BitVec 32 := 0#32
  let c1_i32_1316 : BitVec 32 := 1#32
  let v938 : BitVec 32 := Scalar.muli v0 c1_i32_1316
  let v939 : BitVec 32 := Scalar.addi c0_i32_1317 v938
  v939.toNat
def k0_dev64 (v1 : BitVec 32) : Nat :=
  let c0_i32_1331 : BitVec 32 := 0#32
  let c1_i32_1330 : BitVec 32 := 1#32
  let v946 : BitVec 32 := Scalar.muli v1 c1_i32_1330
  let v947 : BitVec 32 := Scalar.addi c0_i32_1331 v946
  v947.toNat
def k0_dev65 (v0 : BitVec 32) : Nat :=
  let c0_i32_1345 : BitVec 32 := 0#32
  let c1_i32_1344 : BitVec 32 := 1#32
  let v954 : BitVec 32 := Scalar.muli v0 c1_i32_1344
  let v955 : BitVec 32 := Scalar.addi c0_i32_1345 v954
  v955.toNat
def k0_dev66 (v1 : BitVec 32) : Nat :=
  let c0_i32_1359 : BitVec 32 := 0#32
  let c1_i32_1358 : BitVec 32 := 1#32
  let v962 : BitVec 32 := Scalar.muli v1 c1_i32_1358
  let v963 : BitVec 32 := Scalar.addi c0_i32_1359 v962
  v963.toNat
def k0_dev67 (v1 : BitVec 32) : Nat :=
  let c0_i32_1381 : BitVec 32 := 0#32
  let c1_i32_1380 : BitVec 32 := 1#32
  let v972 : BitVec 32 := Scalar.muli v1 c1_i32_1380
  let v973 : BitVec 32 := Scalar.addi c0_i32_1381 v972
  v973.toNat
def k0_dev68 (v0 : BitVec 32) : Nat :=
  let c0_i32_1407 : BitVec 32 := 0#32
  let c1_i32_1406 : BitVec 32 := 1#32
  let v990 : BitVec 32 := Scalar.muli v0 c1_i32_1406
  let v991 : BitVec 32 := Scalar.addi c0_i32_1407 v990
  v991.toNat
def k0_dev69 (v1 : BitVec 32) : Nat :=
  let c0_i32_1433 : BitVec 32 := 0#32
  let c1_i32_1432 : BitVec 32 := 1#32
  let v1008 : BitVec 32 := Scalar.muli v1 c1_i32_1432
  let v1009 : BitVec 32 := Scalar.addi c0_i32_1433 v1008
  v1009.toNat
def k0_dev70 (v0 : BitVec 32) : Nat :=
  let c0_i32_1459 : BitVec 32 := 0#32
  let c1_i32_1458 : BitVec 32 := 1#32
  let v1026 : BitVec 32 := Scalar.muli v0 c1_i32_1458
  let v1027 : BitVec 32 := Scalar.addi c0_i32_1459 v1026
  v1027.toNat
def k0_off16 (v1043 : BitVec 32) : Fin 2 → Nat :=
  let c256_i32_1471 : BitVec 32 := 256#32
  let v1044 : BitVec 32 := Scalar.muli v1043 c256_i32_1471
  let v1045 : Index := Scalar.indexCast v1044
  let c0_1472 : Index := 0#32
  ![v1045.toNat, 0]

def k0_chk18 (v1043 : BitVec 32) : Prop :=
  (∀ a, (k0_off16 v1043) a + S256x128.size a ≤ S8192x128.size a)
theorem k0_off16_inb : ∀ (v1043 : BitVec 32) (k0_hw18 : k0_chk18 v1043), ∀ a, (k0_off16 v1043) a + S256x128.size a ≤ S8192x128.size a := fun v1043 k0_hw18 => k0_hw18

def k0_off17 (v1054 : BitVec 32) : Fin 2 → Nat :=
  let c256_i32_1481 : BitVec 32 := 256#32
  let v1055 : BitVec 32 := Scalar.muli v1054 c256_i32_1481
  let v1056 : Index := Scalar.indexCast v1055
  let c0_1482 : Index := 0#32
  ![v1056.toNat, 0]

def k0_chk19 (v1054 : BitVec 32) : Prop :=
  (∀ a, (k0_off17 v1054) a + S256x128.size a ≤ S8192x128.size a)
theorem k0_off17_inb : ∀ (v1054 : BitVec 32) (k0_hw19 : k0_chk19 v1054), ∀ a, (k0_off17 v1054) a + S256x128.size a ≤ S8192x128.size a := fun v1054 k0_hw19 => k0_hw19

def k0_dev71 (v0 : BitVec 32) : Nat :=
  let c0_i32_1496 : BitVec 32 := 0#32
  let c1_i32_1495 : BitVec 32 := 1#32
  let v1064 : BitVec 32 := Scalar.muli v0 c1_i32_1495
  let v1065 : BitVec 32 := Scalar.addi c0_i32_1496 v1064
  v1065.toNat
def k0_dev72 (v1 : BitVec 32) : Nat :=
  let c0_i32_1510 : BitVec 32 := 0#32
  let c1_i32_1509 : BitVec 32 := 1#32
  let v1072 : BitVec 32 := Scalar.muli v1 c1_i32_1509
  let v1073 : BitVec 32 := Scalar.addi c0_i32_1510 v1072
  v1073.toNat
def k0_dev73 (v0 : BitVec 32) : Nat :=
  let c0_i32_1524 : BitVec 32 := 0#32
  let c1_i32_1523 : BitVec 32 := 1#32
  let v1080 : BitVec 32 := Scalar.muli v0 c1_i32_1523
  let v1081 : BitVec 32 := Scalar.addi c0_i32_1524 v1080
  v1081.toNat
def k0_dev74 (v1 : BitVec 32) : Nat :=
  let c0_i32_1538 : BitVec 32 := 0#32
  let c1_i32_1537 : BitVec 32 := 1#32
  let v1088 : BitVec 32 := Scalar.muli v1 c1_i32_1537
  let v1089 : BitVec 32 := Scalar.addi c0_i32_1538 v1088
  v1089.toNat
def k0_dev75 (v1 : BitVec 32) : Nat :=
  let c0_i32_1560 : BitVec 32 := 0#32
  let c1_i32_1559 : BitVec 32 := 1#32
  let v1098 : BitVec 32 := Scalar.muli v1 c1_i32_1559
  let v1099 : BitVec 32 := Scalar.addi c0_i32_1560 v1098
  v1099.toNat
def k0_dev76 (v0 : BitVec 32) : Nat :=
  let c0_i32_1586 : BitVec 32 := 0#32
  let c1_i32_1585 : BitVec 32 := 1#32
  let v1116 : BitVec 32 := Scalar.muli v0 c1_i32_1585
  let v1117 : BitVec 32 := Scalar.addi c0_i32_1586 v1116
  v1117.toNat
def k0_dev77 (v1 : BitVec 32) : Nat :=
  let c0_i32_1612 : BitVec 32 := 0#32
  let c1_i32_1611 : BitVec 32 := 1#32
  let v1134 : BitVec 32 := Scalar.muli v1 c1_i32_1611
  let v1135 : BitVec 32 := Scalar.addi c0_i32_1612 v1134
  v1135.toNat
def k0_dev78 (v0 : BitVec 32) : Nat :=
  let c0_i32_1638 : BitVec 32 := 0#32
  let c1_i32_1637 : BitVec 32 := 1#32
  let v1152 : BitVec 32 := Scalar.muli v0 c1_i32_1637
  let v1153 : BitVec 32 := Scalar.addi c0_i32_1638 v1152
  v1153.toNat
def k0_off18 (v1169 : BitVec 32) : Fin 2 → Nat :=
  let c256_i32_1650 : BitVec 32 := 256#32
  let v1170 : BitVec 32 := Scalar.muli v1169 c256_i32_1650
  let v1171 : Index := Scalar.indexCast v1170
  let c0_1651 : Index := 0#32
  ![v1171.toNat, 0]

def k0_chk20 (v1169 : BitVec 32) : Prop :=
  (∀ a, (k0_off18 v1169) a + S256x128.size a ≤ S8192x128.size a)
theorem k0_off18_inb : ∀ (v1169 : BitVec 32) (k0_hw20 : k0_chk20 v1169), ∀ a, (k0_off18 v1169) a + S256x128.size a ≤ S8192x128.size a := fun v1169 k0_hw20 => k0_hw20

def k0_off19 (v1180 : BitVec 32) : Fin 2 → Nat :=
  let c256_i32_1660 : BitVec 32 := 256#32
  let v1181 : BitVec 32 := Scalar.muli v1180 c256_i32_1660
  let v1182 : Index := Scalar.indexCast v1181
  let c0_1661 : Index := 0#32
  ![v1182.toNat, 0]

def k0_chk21 (v1180 : BitVec 32) : Prop :=
  (∀ a, (k0_off19 v1180) a + S256x128.size a ≤ S8192x128.size a)
theorem k0_off19_inb : ∀ (v1180 : BitVec 32) (k0_hw21 : k0_chk21 v1180), ∀ a, (k0_off19 v1180) a + S256x128.size a ≤ S8192x128.size a := fun v1180 k0_hw21 => k0_hw21

def k0_dev79 (v0 : BitVec 32) : Nat :=
  let c0_i32_1675 : BitVec 32 := 0#32
  let c1_i32_1674 : BitVec 32 := 1#32
  let v1190 : BitVec 32 := Scalar.muli v0 c1_i32_1674
  let v1191 : BitVec 32 := Scalar.addi c0_i32_1675 v1190
  v1191.toNat
def k0_dev80 (v1 : BitVec 32) : Nat :=
  let c0_i32_1689 : BitVec 32 := 0#32
  let c1_i32_1688 : BitVec 32 := 1#32
  let v1198 : BitVec 32 := Scalar.muli v1 c1_i32_1688
  let v1199 : BitVec 32 := Scalar.addi c0_i32_1689 v1198
  v1199.toNat
def k0_dev81 (v0 : BitVec 32) : Nat :=
  let c0_i32_1703 : BitVec 32 := 0#32
  let c1_i32_1702 : BitVec 32 := 1#32
  let v1206 : BitVec 32 := Scalar.muli v0 c1_i32_1702
  let v1207 : BitVec 32 := Scalar.addi c0_i32_1703 v1206
  v1207.toNat
def k0_dev82 (v1 : BitVec 32) : Nat :=
  let c0_i32_1717 : BitVec 32 := 0#32
  let c1_i32_1716 : BitVec 32 := 1#32
  let v1214 : BitVec 32 := Scalar.muli v1 c1_i32_1716
  let v1215 : BitVec 32 := Scalar.addi c0_i32_1717 v1214
  v1215.toNat
def k0_dev83 (v1 : BitVec 32) : Nat :=
  let c0_i32_1739 : BitVec 32 := 0#32
  let c1_i32_1738 : BitVec 32 := 1#32
  let v1224 : BitVec 32 := Scalar.muli v1 c1_i32_1738
  let v1225 : BitVec 32 := Scalar.addi c0_i32_1739 v1224
  v1225.toNat
def k0_dev84 (v0 : BitVec 32) : Nat :=
  let c0_i32_1765 : BitVec 32 := 0#32
  let c1_i32_1764 : BitVec 32 := 1#32
  let v1242 : BitVec 32 := Scalar.muli v0 c1_i32_1764
  let v1243 : BitVec 32 := Scalar.addi c0_i32_1765 v1242
  v1243.toNat
def k0_dev85 (v1 : BitVec 32) : Nat :=
  let c0_i32_1791 : BitVec 32 := 0#32
  let c1_i32_1790 : BitVec 32 := 1#32
  let v1260 : BitVec 32 := Scalar.muli v1 c1_i32_1790
  let v1261 : BitVec 32 := Scalar.addi c0_i32_1791 v1260
  v1261.toNat
def k0_dev86 (v0 : BitVec 32) : Nat :=
  let c0_i32_1817 : BitVec 32 := 0#32
  let c1_i32_1816 : BitVec 32 := 1#32
  let v1278 : BitVec 32 := Scalar.muli v0 c1_i32_1816
  let v1279 : BitVec 32 := Scalar.addi c0_i32_1817 v1278
  v1279.toNat
def k0_off20 (v1295 : BitVec 32) : Fin 2 → Nat :=
  let c256_i32_1829 : BitVec 32 := 256#32
  let v1296 : BitVec 32 := Scalar.muli v1295 c256_i32_1829
  let v1297 : Index := Scalar.indexCast v1296
  let c0_1830 : Index := 0#32
  ![v1297.toNat, 0]

def k0_chk22 (v1295 : BitVec 32) : Prop :=
  (∀ a, (k0_off20 v1295) a + S256x128.size a ≤ S8192x128.size a)
theorem k0_off20_inb : ∀ (v1295 : BitVec 32) (k0_hw22 : k0_chk22 v1295), ∀ a, (k0_off20 v1295) a + S256x128.size a ≤ S8192x128.size a := fun v1295 k0_hw22 => k0_hw22

def k0_off21 (v1306 : BitVec 32) : Fin 2 → Nat :=
  let c256_i32_1839 : BitVec 32 := 256#32
  let v1307 : BitVec 32 := Scalar.muli v1306 c256_i32_1839
  let v1308 : Index := Scalar.indexCast v1307
  let c0_1840 : Index := 0#32
  ![v1308.toNat, 0]

def k0_chk23 (v1306 : BitVec 32) : Prop :=
  (∀ a, (k0_off21 v1306) a + S256x128.size a ≤ S8192x128.size a)
theorem k0_off21_inb : ∀ (v1306 : BitVec 32) (k0_hw23 : k0_chk23 v1306), ∀ a, (k0_off21 v1306) a + S256x128.size a ≤ S8192x128.size a := fun v1306 k0_hw23 => k0_hw23

def k0_dev87 (v0 : BitVec 32) : Nat :=
  let c0_i32_1854 : BitVec 32 := 0#32
  let c1_i32_1853 : BitVec 32 := 1#32
  let v1316 : BitVec 32 := Scalar.muli v0 c1_i32_1853
  let v1317 : BitVec 32 := Scalar.addi c0_i32_1854 v1316
  v1317.toNat
def k0_dev88 (v1 : BitVec 32) : Nat :=
  let c0_i32_1868 : BitVec 32 := 0#32
  let c1_i32_1867 : BitVec 32 := 1#32
  let v1324 : BitVec 32 := Scalar.muli v1 c1_i32_1867
  let v1325 : BitVec 32 := Scalar.addi c0_i32_1868 v1324
  v1325.toNat
def k0_dev89 (v0 : BitVec 32) : Nat :=
  let c0_i32_1882 : BitVec 32 := 0#32
  let c1_i32_1881 : BitVec 32 := 1#32
  let v1332 : BitVec 32 := Scalar.muli v0 c1_i32_1881
  let v1333 : BitVec 32 := Scalar.addi c0_i32_1882 v1332
  v1333.toNat
def k0_dev90 (v1 : BitVec 32) : Nat :=
  let c0_i32_1896 : BitVec 32 := 0#32
  let c1_i32_1895 : BitVec 32 := 1#32
  let v1340 : BitVec 32 := Scalar.muli v1 c1_i32_1895
  let v1341 : BitVec 32 := Scalar.addi c0_i32_1896 v1340
  v1341.toNat
def k0_dev91 (v1 : BitVec 32) : Nat :=
  let c0_i32_1918 : BitVec 32 := 0#32
  let c1_i32_1917 : BitVec 32 := 1#32
  let v1350 : BitVec 32 := Scalar.muli v1 c1_i32_1917
  let v1351 : BitVec 32 := Scalar.addi c0_i32_1918 v1350
  v1351.toNat
def k0_dev92 (v0 : BitVec 32) : Nat :=
  let c0_i32_1944 : BitVec 32 := 0#32
  let c1_i32_1943 : BitVec 32 := 1#32
  let v1368 : BitVec 32 := Scalar.muli v0 c1_i32_1943
  let v1369 : BitVec 32 := Scalar.addi c0_i32_1944 v1368
  v1369.toNat
def k0_dev93 (v1 : BitVec 32) : Nat :=
  let c0_i32_1970 : BitVec 32 := 0#32
  let c1_i32_1969 : BitVec 32 := 1#32
  let v1386 : BitVec 32 := Scalar.muli v1 c1_i32_1969
  let v1387 : BitVec 32 := Scalar.addi c0_i32_1970 v1386
  v1387.toNat
def k0_dev94 (v0 : BitVec 32) : Nat :=
  let c0_i32_1996 : BitVec 32 := 0#32
  let c1_i32_1995 : BitVec 32 := 1#32
  let v1404 : BitVec 32 := Scalar.muli v0 c1_i32_1995
  let v1405 : BitVec 32 := Scalar.addi c0_i32_1996 v1404
  v1405.toNat
def k0_off22 (v1421 : BitVec 32) : Fin 2 → Nat :=
  let c256_i32_2008 : BitVec 32 := 256#32
  let v1422 : BitVec 32 := Scalar.muli v1421 c256_i32_2008
  let v1423 : Index := Scalar.indexCast v1422
  let c0_2009 : Index := 0#32
  ![v1423.toNat, 0]

def k0_chk24 (v1421 : BitVec 32) : Prop :=
  (∀ a, (k0_off22 v1421) a + S256x128.size a ≤ S8192x128.size a)
theorem k0_off22_inb : ∀ (v1421 : BitVec 32) (k0_hw24 : k0_chk24 v1421), ∀ a, (k0_off22 v1421) a + S256x128.size a ≤ S8192x128.size a := fun v1421 k0_hw24 => k0_hw24

def k0_off23 (v1432 : BitVec 32) : Fin 2 → Nat :=
  let c256_i32_2018 : BitVec 32 := 256#32
  let v1433 : BitVec 32 := Scalar.muli v1432 c256_i32_2018
  let v1434 : Index := Scalar.indexCast v1433
  let c0_2019 : Index := 0#32
  ![v1434.toNat, 0]

def k0_chk25 (v1432 : BitVec 32) : Prop :=
  (∀ a, (k0_off23 v1432) a + S256x128.size a ≤ S8192x128.size a)
theorem k0_off23_inb : ∀ (v1432 : BitVec 32) (k0_hw25 : k0_chk25 v1432), ∀ a, (k0_off23 v1432) a + S256x128.size a ≤ S8192x128.size a := fun v1432 k0_hw25 => k0_hw25

def k0_dev95 (v0 : BitVec 32) : Nat :=
  let c0_i32_2033 : BitVec 32 := 0#32
  let c1_i32_2032 : BitVec 32 := 1#32
  let v1442 : BitVec 32 := Scalar.muli v0 c1_i32_2032
  let v1443 : BitVec 32 := Scalar.addi c0_i32_2033 v1442
  v1443.toNat
def k0_dev96 (v1 : BitVec 32) : Nat :=
  let c0_i32_2047 : BitVec 32 := 0#32
  let c1_i32_2046 : BitVec 32 := 1#32
  let v1450 : BitVec 32 := Scalar.muli v1 c1_i32_2046
  let v1451 : BitVec 32 := Scalar.addi c0_i32_2047 v1450
  v1451.toNat
def k0_dev97 (v0 : BitVec 32) : Nat :=
  let c0_i32_2061 : BitVec 32 := 0#32
  let c1_i32_2060 : BitVec 32 := 1#32
  let v1458 : BitVec 32 := Scalar.muli v0 c1_i32_2060
  let v1459 : BitVec 32 := Scalar.addi c0_i32_2061 v1458
  v1459.toNat
def k0_dev98 (v1 : BitVec 32) : Nat :=
  let c0_i32_2075 : BitVec 32 := 0#32
  let c1_i32_2074 : BitVec 32 := 1#32
  let v1466 : BitVec 32 := Scalar.muli v1 c1_i32_2074
  let v1467 : BitVec 32 := Scalar.addi c0_i32_2075 v1466
  v1467.toNat
def k0_dev99 (v1 : BitVec 32) : Nat :=
  let c0_i32_2097 : BitVec 32 := 0#32
  let c1_i32_2096 : BitVec 32 := 1#32
  let v1476 : BitVec 32 := Scalar.muli v1 c1_i32_2096
  let v1477 : BitVec 32 := Scalar.addi c0_i32_2097 v1476
  v1477.toNat
def k0_dev100 (v0 : BitVec 32) : Nat :=
  let c0_i32_2123 : BitVec 32 := 0#32
  let c1_i32_2122 : BitVec 32 := 1#32
  let v1494 : BitVec 32 := Scalar.muli v0 c1_i32_2122
  let v1495 : BitVec 32 := Scalar.addi c0_i32_2123 v1494
  v1495.toNat
def k0_dev101 (v1 : BitVec 32) : Nat :=
  let c0_i32_2149 : BitVec 32 := 0#32
  let c1_i32_2148 : BitVec 32 := 1#32
  let v1512 : BitVec 32 := Scalar.muli v1 c1_i32_2148
  let v1513 : BitVec 32 := Scalar.addi c0_i32_2149 v1512
  v1513.toNat
def k0_dev102 (v0 : BitVec 32) : Nat :=
  let c0_i32_2175 : BitVec 32 := 0#32
  let c1_i32_2174 : BitVec 32 := 1#32
  let v1530 : BitVec 32 := Scalar.muli v0 c1_i32_2174
  let v1531 : BitVec 32 := Scalar.addi c0_i32_2175 v1530
  v1531.toNat
def k0_off24 (v1547 : BitVec 32) : Fin 2 → Nat :=
  let c256_i32_2187 : BitVec 32 := 256#32
  let v1548 : BitVec 32 := Scalar.muli v1547 c256_i32_2187
  let v1549 : Index := Scalar.indexCast v1548
  let c0_2188 : Index := 0#32
  ![v1549.toNat, 0]

def k0_chk26 (v1547 : BitVec 32) : Prop :=
  (∀ a, (k0_off24 v1547) a + S256x128.size a ≤ S8192x128.size a)
theorem k0_off24_inb : ∀ (v1547 : BitVec 32) (k0_hw26 : k0_chk26 v1547), ∀ a, (k0_off24 v1547) a + S256x128.size a ≤ S8192x128.size a := fun v1547 k0_hw26 => k0_hw26

def k0_off25 (v1558 : BitVec 32) : Fin 2 → Nat :=
  let c256_i32_2197 : BitVec 32 := 256#32
  let v1559 : BitVec 32 := Scalar.muli v1558 c256_i32_2197
  let v1560 : Index := Scalar.indexCast v1559
  let c0_2198 : Index := 0#32
  ![v1560.toNat, 0]

def k0_chk27 (v1558 : BitVec 32) : Prop :=
  (∀ a, (k0_off25 v1558) a + S256x128.size a ≤ S8192x128.size a)
theorem k0_off25_inb : ∀ (v1558 : BitVec 32) (k0_hw27 : k0_chk27 v1558), ∀ a, (k0_off25 v1558) a + S256x128.size a ≤ S8192x128.size a := fun v1558 k0_hw27 => k0_hw27

def k0_dev103 (v0 : BitVec 32) : Nat :=
  let c0_i32_2212 : BitVec 32 := 0#32
  let c1_i32_2211 : BitVec 32 := 1#32
  let v1568 : BitVec 32 := Scalar.muli v0 c1_i32_2211
  let v1569 : BitVec 32 := Scalar.addi c0_i32_2212 v1568
  v1569.toNat
def k0_dev104 (v1 : BitVec 32) : Nat :=
  let c0_i32_2226 : BitVec 32 := 0#32
  let c1_i32_2225 : BitVec 32 := 1#32
  let v1576 : BitVec 32 := Scalar.muli v1 c1_i32_2225
  let v1577 : BitVec 32 := Scalar.addi c0_i32_2226 v1576
  v1577.toNat
def k0_dev105 (v0 : BitVec 32) : Nat :=
  let c0_i32_2240 : BitVec 32 := 0#32
  let c1_i32_2239 : BitVec 32 := 1#32
  let v1584 : BitVec 32 := Scalar.muli v0 c1_i32_2239
  let v1585 : BitVec 32 := Scalar.addi c0_i32_2240 v1584
  v1585.toNat
def k0_dev106 (v1 : BitVec 32) : Nat :=
  let c0_i32_2254 : BitVec 32 := 0#32
  let c1_i32_2253 : BitVec 32 := 1#32
  let v1592 : BitVec 32 := Scalar.muli v1 c1_i32_2253
  let v1593 : BitVec 32 := Scalar.addi c0_i32_2254 v1592
  v1593.toNat
def k0_dev107 (v1 : BitVec 32) : Nat :=
  let c0_i32_2276 : BitVec 32 := 0#32
  let c1_i32_2275 : BitVec 32 := 1#32
  let v1602 : BitVec 32 := Scalar.muli v1 c1_i32_2275
  let v1603 : BitVec 32 := Scalar.addi c0_i32_2276 v1602
  v1603.toNat
def k0_dev108 (v0 : BitVec 32) : Nat :=
  let c0_i32_2302 : BitVec 32 := 0#32
  let c1_i32_2301 : BitVec 32 := 1#32
  let v1620 : BitVec 32 := Scalar.muli v0 c1_i32_2301
  let v1621 : BitVec 32 := Scalar.addi c0_i32_2302 v1620
  v1621.toNat
def k0_dev109 (v1 : BitVec 32) : Nat :=
  let c0_i32_2328 : BitVec 32 := 0#32
  let c1_i32_2327 : BitVec 32 := 1#32
  let v1638 : BitVec 32 := Scalar.muli v1 c1_i32_2327
  let v1639 : BitVec 32 := Scalar.addi c0_i32_2328 v1638
  v1639.toNat
def k0_dev110 (v0 : BitVec 32) : Nat :=
  let c0_i32_2354 : BitVec 32 := 0#32
  let c1_i32_2353 : BitVec 32 := 1#32
  let v1656 : BitVec 32 := Scalar.muli v0 c1_i32_2353
  let v1657 : BitVec 32 := Scalar.addi c0_i32_2354 v1656
  v1657.toNat
def k0_off26 (v1673 : BitVec 32) : Fin 2 → Nat :=
  let c256_i32_2366 : BitVec 32 := 256#32
  let v1674 : BitVec 32 := Scalar.muli v1673 c256_i32_2366
  let v1675 : Index := Scalar.indexCast v1674
  let c0_2367 : Index := 0#32
  ![v1675.toNat, 0]

def k0_chk28 (v1673 : BitVec 32) : Prop :=
  (∀ a, (k0_off26 v1673) a + S256x128.size a ≤ S8192x128.size a)
theorem k0_off26_inb : ∀ (v1673 : BitVec 32) (k0_hw28 : k0_chk28 v1673), ∀ a, (k0_off26 v1673) a + S256x128.size a ≤ S8192x128.size a := fun v1673 k0_hw28 => k0_hw28

def k0_off27 (v1684 : BitVec 32) : Fin 2 → Nat :=
  let c256_i32_2376 : BitVec 32 := 256#32
  let v1685 : BitVec 32 := Scalar.muli v1684 c256_i32_2376
  let v1686 : Index := Scalar.indexCast v1685
  let c0_2377 : Index := 0#32
  ![v1686.toNat, 0]

def k0_chk29 (v1684 : BitVec 32) : Prop :=
  (∀ a, (k0_off27 v1684) a + S256x128.size a ≤ S8192x128.size a)
theorem k0_off27_inb : ∀ (v1684 : BitVec 32) (k0_hw29 : k0_chk29 v1684), ∀ a, (k0_off27 v1684) a + S256x128.size a ≤ S8192x128.size a := fun v1684 k0_hw29 => k0_hw29

def k0_dev111 (v0 : BitVec 32) : Nat :=
  let c0_i32_2391 : BitVec 32 := 0#32
  let c1_i32_2390 : BitVec 32 := 1#32
  let v1694 : BitVec 32 := Scalar.muli v0 c1_i32_2390
  let v1695 : BitVec 32 := Scalar.addi c0_i32_2391 v1694
  v1695.toNat
def k0_dev112 (v1 : BitVec 32) : Nat :=
  let c0_i32_2405 : BitVec 32 := 0#32
  let c1_i32_2404 : BitVec 32 := 1#32
  let v1702 : BitVec 32 := Scalar.muli v1 c1_i32_2404
  let v1703 : BitVec 32 := Scalar.addi c0_i32_2405 v1702
  v1703.toNat
def k0_dev113 (v0 : BitVec 32) : Nat :=
  let c0_i32_2419 : BitVec 32 := 0#32
  let c1_i32_2418 : BitVec 32 := 1#32
  let v1710 : BitVec 32 := Scalar.muli v0 c1_i32_2418
  let v1711 : BitVec 32 := Scalar.addi c0_i32_2419 v1710
  v1711.toNat
def k0_dev114 (v1 : BitVec 32) : Nat :=
  let c0_i32_2433 : BitVec 32 := 0#32
  let c1_i32_2432 : BitVec 32 := 1#32
  let v1718 : BitVec 32 := Scalar.muli v1 c1_i32_2432
  let v1719 : BitVec 32 := Scalar.addi c0_i32_2433 v1718
  v1719.toNat
def k0_dev115 (v1 : BitVec 32) : Nat :=
  let c0_i32_2455 : BitVec 32 := 0#32
  let c1_i32_2454 : BitVec 32 := 1#32
  let v1728 : BitVec 32 := Scalar.muli v1 c1_i32_2454
  let v1729 : BitVec 32 := Scalar.addi c0_i32_2455 v1728
  v1729.toNat
def k0_dev116 (v0 : BitVec 32) : Nat :=
  let c0_i32_2481 : BitVec 32 := 0#32
  let c1_i32_2480 : BitVec 32 := 1#32
  let v1746 : BitVec 32 := Scalar.muli v0 c1_i32_2480
  let v1747 : BitVec 32 := Scalar.addi c0_i32_2481 v1746
  v1747.toNat
def k0_dev117 (v1 : BitVec 32) : Nat :=
  let c0_i32_2507 : BitVec 32 := 0#32
  let c1_i32_2506 : BitVec 32 := 1#32
  let v1764 : BitVec 32 := Scalar.muli v1 c1_i32_2506
  let v1765 : BitVec 32 := Scalar.addi c0_i32_2507 v1764
  v1765.toNat
def k0_dev118 (v0 : BitVec 32) : Nat :=
  let c0_i32_2533 : BitVec 32 := 0#32
  let c1_i32_2532 : BitVec 32 := 1#32
  let v1782 : BitVec 32 := Scalar.muli v0 c1_i32_2532
  let v1783 : BitVec 32 := Scalar.addi c0_i32_2533 v1782
  v1783.toNat
def k0_off28 (v1799 : BitVec 32) : Fin 2 → Nat :=
  let c256_i32_2545 : BitVec 32 := 256#32
  let v1800 : BitVec 32 := Scalar.muli v1799 c256_i32_2545
  let v1801 : Index := Scalar.indexCast v1800
  let c0_2546 : Index := 0#32
  ![v1801.toNat, 0]

def k0_chk30 (v1799 : BitVec 32) : Prop :=
  (∀ a, (k0_off28 v1799) a + S256x128.size a ≤ S8192x128.size a)
theorem k0_off28_inb : ∀ (v1799 : BitVec 32) (k0_hw30 : k0_chk30 v1799), ∀ a, (k0_off28 v1799) a + S256x128.size a ≤ S8192x128.size a := fun v1799 k0_hw30 => k0_hw30

def k0_off29 (v1810 : BitVec 32) : Fin 2 → Nat :=
  let c256_i32_2555 : BitVec 32 := 256#32
  let v1811 : BitVec 32 := Scalar.muli v1810 c256_i32_2555
  let v1812 : Index := Scalar.indexCast v1811
  let c0_2556 : Index := 0#32
  ![v1812.toNat, 0]

def k0_chk31 (v1810 : BitVec 32) : Prop :=
  (∀ a, (k0_off29 v1810) a + S256x128.size a ≤ S8192x128.size a)
theorem k0_off29_inb : ∀ (v1810 : BitVec 32) (k0_hw31 : k0_chk31 v1810), ∀ a, (k0_off29 v1810) a + S256x128.size a ≤ S8192x128.size a := fun v1810 k0_hw31 => k0_hw31

def k0_dev119 (v0 : BitVec 32) : Nat :=
  let c0_i32_2570 : BitVec 32 := 0#32
  let c1_i32_2569 : BitVec 32 := 1#32
  let v1820 : BitVec 32 := Scalar.muli v0 c1_i32_2569
  let v1821 : BitVec 32 := Scalar.addi c0_i32_2570 v1820
  v1821.toNat
def k0_dev120 (v1 : BitVec 32) : Nat :=
  let c0_i32_2584 : BitVec 32 := 0#32
  let c1_i32_2583 : BitVec 32 := 1#32
  let v1828 : BitVec 32 := Scalar.muli v1 c1_i32_2583
  let v1829 : BitVec 32 := Scalar.addi c0_i32_2584 v1828
  v1829.toNat
def k0_dev121 (v0 : BitVec 32) : Nat :=
  let c0_i32_2598 : BitVec 32 := 0#32
  let c1_i32_2597 : BitVec 32 := 1#32
  let v1836 : BitVec 32 := Scalar.muli v0 c1_i32_2597
  let v1837 : BitVec 32 := Scalar.addi c0_i32_2598 v1836
  v1837.toNat
def k0_dev122 (v1 : BitVec 32) : Nat :=
  let c0_i32_2612 : BitVec 32 := 0#32
  let c1_i32_2611 : BitVec 32 := 1#32
  let v1844 : BitVec 32 := Scalar.muli v1 c1_i32_2611
  let v1845 : BitVec 32 := Scalar.addi c0_i32_2612 v1844
  v1845.toNat
def k0_dev123 (v1 : BitVec 32) : Nat :=
  let c0_i32_2634 : BitVec 32 := 0#32
  let c1_i32_2633 : BitVec 32 := 1#32
  let v1854 : BitVec 32 := Scalar.muli v1 c1_i32_2633
  let v1855 : BitVec 32 := Scalar.addi c0_i32_2634 v1854
  v1855.toNat

def k0_chk2_0 (v1 : BitVec 32) : Prop :=
  ((k0_dev2 v1) < nD) ∧
  ((k0_dev3 v1) < nD) ∧
  ((k0_dev5 v1) < nD) ∧
  ((k0_dev8 v1) < nD) ∧
  ((k0_dev10 v1) < nD) ∧
  ((k0_dev11 v1) < nD) ∧
  ((k0_dev13 v1) < nD) ∧
  ((k0_dev16 v1) < nD) ∧
  ((k0_dev18 v1) < nD) ∧
  ((k0_dev19 v1) < nD) ∧
  ((k0_dev21 v1) < nD) ∧
  ((k0_dev24 v1) < nD) ∧
  ((k0_dev26 v1) < nD) ∧
  ((k0_dev27 v1) < nD) ∧
  ((k0_dev29 v1) < nD) ∧
  ((k0_dev32 v1) < nD) ∧
  ((k0_dev34 v1) < nD) ∧
  ((k0_dev35 v1) < nD) ∧
  ((k0_dev37 v1) < nD) ∧
  ((k0_dev40 v1) < nD) ∧
  ((k0_dev42 v1) < nD) ∧
  ((k0_dev43 v1) < nD) ∧
  ((k0_dev45 v1) < nD) ∧
  ((k0_dev48 v1) < nD) ∧
  ((k0_dev50 v1) < nD) ∧
  ((k0_dev51 v1) < nD) ∧
  ((k0_dev53 v1) < nD) ∧
  ((k0_dev56 v1) < nD) ∧
  ((k0_dev58 v1) < nD) ∧
  ((k0_dev59 v1) < nD) ∧
  ((k0_dev61 v1) < nD) ∧
  ((k0_dev64 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev74 v1) < nD) ∧
  ((k0_dev75 v1) < nD) ∧
  ((k0_dev77 v1) < nD) ∧
  ((k0_dev80 v1) < nD) ∧
  ((k0_dev82 v1) < nD) ∧
  ((k0_dev83 v1) < nD) ∧
  ((k0_dev85 v1) < nD) ∧
  ((k0_dev88 v1) < nD) ∧
  ((k0_dev90 v1) < nD) ∧
  ((k0_dev91 v1) < nD) ∧
  ((k0_dev93 v1) < nD) ∧
  ((k0_dev96 v1) < nD) ∧
  ((k0_dev98 v1) < nD) ∧
  ((k0_dev99 v1) < nD) ∧
  ((k0_dev101 v1) < nD) ∧
  ((k0_dev104 v1) < nD) ∧
  ((k0_dev106 v1) < nD) ∧
  ((k0_dev107 v1) < nD) ∧
  ((k0_dev109 v1) < nD) ∧
  ((k0_dev112 v1) < nD) ∧
  ((k0_dev114 v1) < nD) ∧
  ((k0_dev115 v1) < nD) ∧
  ((k0_dev117 v1) < nD) ∧
  ((k0_dev120 v1) < nD) ∧
  ((k0_dev122 v1) < nD) ∧
  ((k0_dev123 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev72_lt : ∀ (v1 : BitVec 32) (k0_hw2 : k0_chk2 v1), (k0_dev72 v1) < nD := fun v1 k0_hw2 => k0_hw2.2.2.2.2.1
theorem k0_dev74_lt : ∀ (v1 : BitVec 32) (k0_hw2 : k0_chk2 v1), (k0_dev74 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev80_lt : ∀ (v1 : BitVec 32) (k0_hw2 : k0_chk2 v1), (k0_dev80 v1) < nD := fun v1 k0_hw2 => k0_hw2.2.2.2.2.2.2.2.2.1
theorem k0_dev82_lt : ∀ (v1 : BitVec 32) (k0_hw2 : k0_chk2 v1), (k0_dev82 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev88_lt : ∀ (v1 : BitVec 32) (k0_hw2 : k0_chk2 v1), (k0_dev88 v1) < nD := fun v1 k0_hw2 => k0_hw2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev96_lt : ∀ (v1 : BitVec 32) (k0_hw2 : k0_chk2 v1), (k0_dev96 v1) < nD := fun v1 k0_hw2 => k0_hw2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev104_lt : ∀ (v1 : BitVec 32) (k0_hw2 : k0_chk2 v1), (k0_dev104 v1) < nD := fun v1 k0_hw2 => k0_hw2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.2.2.2.2.2.2.2.2.2.2.2.2.2.2.2.2.2.2.2.2.2.2.2.2.2.2.2.2.2

def k0_dev124 (v0 : BitVec 32) : Nat :=
  let c0_i32_2688 : BitVec 32 := 0#32
  let c1_i32_2687 : BitVec 32 := 1#32
  let v1888 : BitVec 32 := Scalar.muli v0 c1_i32_2687
  let v1889 : BitVec 32 := Scalar.addi c0_i32_2688 v1888
  v1889.toNat

def k0_chk1_0 (v0 : BitVec 32) : Prop :=
  ((k0_dev1 v0) < nD) ∧
  ((k0_dev4 v0) < nD) ∧
  ((k0_dev6 v0) < nD) ∧
  ((k0_dev7 v0) < nD) ∧
  ((k0_dev9 v0) < nD) ∧
  ((k0_dev12 v0) < nD) ∧
  ((k0_dev14 v0) < nD) ∧
  ((k0_dev15 v0) < nD) ∧
  ((k0_dev17 v0) < nD) ∧
  ((k0_dev20 v0) < nD) ∧
  ((k0_dev22 v0) < nD) ∧
  ((k0_dev23 v0) < nD) ∧
  ((k0_dev25 v0) < nD) ∧
  ((k0_dev28 v0) < nD) ∧
  ((k0_dev30 v0) < nD) ∧
  ((k0_dev31 v0) < nD) ∧
  ((k0_dev33 v0) < nD) ∧
  ((k0_dev36 v0) < nD) ∧
  ((k0_dev38 v0) < nD) ∧
  ((k0_dev39 v0) < nD) ∧
  ((k0_dev41 v0) < nD) ∧
  ((k0_dev44 v0) < nD) ∧
  ((k0_dev46 v0) < nD) ∧
  ((k0_dev47 v0) < nD) ∧
  ((k0_dev49 v0) < nD) ∧
  ((k0_dev52 v0) < nD) ∧
  ((k0_dev54 v0) < nD) ∧
  ((k0_dev55 v0) < nD) ∧
  ((k0_dev57 v0) < nD) ∧
  ((k0_dev60 v0) < nD) ∧
  ((k0_dev62 v0) < nD) ∧
  ((k0_dev63 v0) < nD)
def k0_chk1_1 (v0 : BitVec 32) : Prop :=
  ((k0_dev65 v0) < nD) ∧
  ((k0_dev68 v0) < nD) ∧
  ((k0_dev70 v0) < nD) ∧
  ((k0_dev71 v0) < nD) ∧
  ((k0_dev73 v0) < nD) ∧
  ((k0_dev76 v0) < nD) ∧
  ((k0_dev78 v0) < nD) ∧
  ((k0_dev79 v0) < nD) ∧
  ((k0_dev81 v0) < nD) ∧
  ((k0_dev84 v0) < nD) ∧
  ((k0_dev86 v0) < nD) ∧
  ((k0_dev87 v0) < nD) ∧
  ((k0_dev89 v0) < nD) ∧
  ((k0_dev92 v0) < nD) ∧
  ((k0_dev94 v0) < nD) ∧
  ((k0_dev95 v0) < nD) ∧
  ((k0_dev97 v0) < nD) ∧
  ((k0_dev100 v0) < nD) ∧
  ((k0_dev102 v0) < nD) ∧
  ((k0_dev103 v0) < nD) ∧
  ((k0_dev105 v0) < nD) ∧
  ((k0_dev108 v0) < nD) ∧
  ((k0_dev110 v0) < nD) ∧
  ((k0_dev111 v0) < nD) ∧
  ((k0_dev113 v0) < nD) ∧
  ((k0_dev116 v0) < nD) ∧
  ((k0_dev118 v0) < nD) ∧
  ((k0_dev119 v0) < nD) ∧
  ((k0_dev121 v0) < nD) ∧
  ((k0_dev124 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev4_lt : ∀ (v0 : BitVec 32) (k0_hw1 : k0_chk1 v0), (k0_dev4 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev7_lt : ∀ (v0 : BitVec 32) (k0_hw1 : k0_chk1 v0), (k0_dev7 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1
theorem k0_dev68_lt : ∀ (v0 : BitVec 32) (k0_hw1 : k0_chk1 v0), (k0_dev68 v0) < nD := fun v0 k0_hw1 => k0_hw1.2.2.1
theorem k0_dev70_lt : ∀ (v0 : BitVec 32) (k0_hw1 : k0_chk1 v0), (k0_dev70 v0) < nD := fun v0 k0_hw1 => k0_hw1.2.2.2.1
theorem k0_dev71_lt : ∀ (v0 : BitVec 32) (k0_hw1 : k0_chk1 v0), (k0_dev71 v0) < nD := fun v0 k0_hw1 => k0_hw1.2.2.2.2.1
theorem k0_dev73_lt : ∀ (v0 : BitVec 32) (k0_hw1 : k0_chk1 v0), (k0_dev73 v0) < nD := fun v0 k0_hw1 => k0_hw1.2.2.2.2.2.1
theorem k0_dev76_lt : ∀ (v0 : BitVec 32) (k0_hw1 : k0_chk1 v0), (k0_dev76 v0) < nD := fun v0 k0_hw1 => k0_hw1.2.2.2.2.2.2.1
theorem k0_dev78_lt : ∀ (v0 : BitVec 32) (k0_hw1 : k0_chk1 v0), (k0_dev78 v0) < nD := fun v0 k0_hw1 => k0_hw1.2.2.2.2.2.2.2.1
theorem k0_dev79_lt : ∀ (v0 : BitVec 32) (k0_hw1 : k0_chk1 v0), (k0_dev79 v0) < nD := fun v0 k0_hw1 => k0_hw1.2.2.2.2.2.2.2.2.1
theorem k0_dev81_lt : ∀ (v0 : BitVec 32) (k0_hw1 : k0_chk1 v0), (k0_dev81 v0) < nD := fun v0 k0_hw1 => k0_hw1.2.2.2.2.2.2.2.2.2.1
theorem k0_dev84_lt : ∀ (v0 : BitVec 32) (k0_hw1 : k0_chk1 v0), (k0_dev84 v0) < nD := fun v0 k0_hw1 => k0_hw1.2.2.2.2.2.2.2.2.2.2.1
theorem k0_dev86_lt : ∀ (v0 : BitVec 32) (k0_hw1 : k0_chk1 v0), (k0_dev86 v0) < nD := fun v0 k0_hw1 => k0_hw1.2.2.2.2.2.2.2.2.2.2.2.1
theorem k0_dev87_lt : ∀ (v0 : BitVec 32) (k0_hw1 : k0_chk1 v0), (k0_dev87 v0) < nD := fun v0 k0_hw1 => k0_hw1.2.2.2.2.2.2.2.2.2.2.2.2.1
theorem k0_dev89_lt : ∀ (v0 : BitVec 32) (k0_hw1 : k0_chk1 v0), (k0_dev89 v0) < nD := fun v0 k0_hw1 => k0_hw1.2.2.2.2.2.2.2.2.2.2.2.2.2.1
theorem k0_dev92_lt : ∀ (v0 : BitVec 32) (k0_hw1 : k0_chk1 v0), (k0_dev92 v0) < nD := fun v0 k0_hw1 => k0_hw1.2.2.2.2.2.2.2.2.2.2.2.2.2.2.1
theorem k0_dev94_lt : ∀ (v0 : BitVec 32) (k0_hw1 : k0_chk1 v0), (k0_dev94 v0) < nD := fun v0 k0_hw1 => k0_hw1.2.2.2.2.2.2.2.2.2.2.2.2.2.2.2.1
theorem k0_dev95_lt : ∀ (v0 : BitVec 32) (k0_hw1 : k0_chk1 v0), (k0_dev95 v0) < nD := fun v0 k0_hw1 => k0_hw1.2.2.2.2.2.2.2.2.2.2.2.2.2.2.2.2.1
theorem k0_dev97_lt : ∀ (v0 : BitVec 32) (k0_hw1 : k0_chk1 v0), (k0_dev97 v0) < nD := fun v0 k0_hw1 => k0_hw1.2.2.2.2.2.2.2.2.2.2.2.2.2.2.2.2.2.1
theorem k0_dev100_lt : ∀ (v0 : BitVec 32) (k0_hw1 : k0_chk1 v0), (k0_dev100 v0) < nD := fun v0 k0_hw1 => k0_hw1.2.2.2.2.2.2.2.2.2.2.2.2.2.2.2.2.2.2.1
theorem k0_dev102_lt : ∀ (v0 : BitVec 32) (k0_hw1 : k0_chk1 v0), (k0_dev102 v0) < nD := fun v0 k0_hw1 => k0_hw1.2.2.2.2.2.2.2.2.2.2.2.2.2.2.2.2.2.2.2.1
theorem k0_dev103_lt : ∀ (v0 : BitVec 32) (k0_hw1 : k0_chk1 v0), (k0_dev103 v0) < nD := fun v0 k0_hw1 => k0_hw1.2.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.2.2.2.2.2.2.2.2.2.2.2.2.2.2.2.2.2.2.2.2.2.2.2.2.2.1
theorem k0_dev118_lt : ∀ (v0 : BitVec 32) (k0_hw1 : k0_chk1 v0), (k0_dev118 v0) < nD := fun v0 k0_hw1 => k0_hw1.2.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.2.2.2.2.2.2.2.2.2.2.2.2.2.2.2.2.2.2.2.2.2.2.2.2.2.2.2.2.1
theorem k0_dev124_lt : ∀ (v0 : BitVec 32) (k0_hw1 : k0_chk1 v0), (k0_dev124 v0) < nD := fun v0 k0_hw1 => k0_hw1.2.2.2.2.2.2.2.2.2.2.2.2.2.2.2.2.2.2.2.2.2.2.2.2.2.2.2.2.2.2

def k0_off30 (v1905 : BitVec 32) : Fin 2 → Nat :=
  let c256_i32_2700 : BitVec 32 := 256#32
  let v1906 : BitVec 32 := Scalar.muli v1905 c256_i32_2700
  let v1907 : Index := Scalar.indexCast v1906
  let c0_2701 : Index := 0#32
  ![v1907.toNat, 0]

def k0_chk32 (v1905 : BitVec 32) : Prop :=
  (∀ a, (k0_off30 v1905) a + S256x128.size a ≤ S8192x128.size a)
theorem k0_off30_inb : ∀ (v1905 : BitVec 32) (k0_hw32 : k0_chk32 v1905), ∀ a, (k0_off30 v1905) a + S256x128.size a ≤ S8192x128.size a := fun v1905 k0_hw32 => k0_hw32

def k0_off31 (v1916 : BitVec 32) : Fin 2 → Nat :=
  let c256_i32_2710 : BitVec 32 := 256#32
  let v1917 : BitVec 32 := Scalar.muli v1916 c256_i32_2710
  let v1918 : Index := Scalar.indexCast v1917
  let c0_2711 : Index := 0#32
  ![v1918.toNat, 0]

def k0_chk33 (v1916 : BitVec 32) : Prop :=
  (∀ a, (k0_off31 v1916) a + S256x128.size a ≤ S8192x128.size a)
theorem k0_off31_inb : ∀ (v1916 : BitVec 32) (k0_hw33 : k0_chk33 v1916), ∀ a, (k0_off31 v1916) a + S256x128.size a ≤ S8192x128.size a := fun v1916 k0_hw33 => k0_hw33

def k0_off32 (v1948 : BitVec 32) : Fin 2 → Nat :=
  let c256_i32_2758 : BitVec 32 := 256#32
  let v1949 : BitVec 32 := Scalar.muli v1948 c256_i32_2758
  let v1957 : Index := Scalar.indexCast v1949
  let c0_2766 : Index := 0#32
  ![v1957.toNat, 0]

def k0_off33 (v1948 : BitVec 32) : Fin 2 → Nat :=
  let c256_i32_2758 : BitVec 32 := 256#32
  let v1949 : BitVec 32 := Scalar.muli v1948 c256_i32_2758
  let c128_i32_2773 : BitVec 32 := 128#32
  let v1966 : BitVec 32 := Scalar.addi v1949 c128_i32_2773
  let v1967 : Index := Scalar.indexCast v1966
  let c0_2774 : Index := 0#32
  ![v1967.toNat, 0]

def k0_chk34 (v1948 : BitVec 32) : Prop :=
  (∀ a, (k0_off32 v1948) a + S128x128.size a ≤ S8192x128.size a) ∧
  (∀ a, (k0_off33 v1948) a + S128x128.size a ≤ S8192x128.size a)
theorem k0_off32_inb : ∀ (v1948 : BitVec 32) (k0_hw34 : k0_chk34 v1948), ∀ a, (k0_off32 v1948) a + S128x128.size a ≤ S8192x128.size a := fun v1948 k0_hw34 => k0_hw34.1
theorem k0_off33_inb : ∀ (v1948 : BitVec 32) (k0_hw34 : k0_chk34 v1948), ∀ a, (k0_off33 v1948) a + S128x128.size a ≤ S8192x128.size a := fun v1948 k0_hw34 => k0_hw34.2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S17 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.K.ProgEq.lean ====
/-
# The printed body is the sixteen steps
-/
module

public import proofs.«01_k».proof.Proof.K.Prog

@[expose] public section

noncomputable section

namespace Cert.Kernel.RingProof

open Cert.Kernel Cert.Kernel.Gen
open Idealize.ShloMosaic Idealize.SL.Sem

variable {F : FTy → Type} [FloatOps F]

set_option maxHeartbeats 40000000 in
set_option maxRecDepth 100000 in
/-- The body the pipeline calls is `bodyProg`. -/
theorem body_eq (t : Fin cfg0.N) : bodyAt0 (F := F) t = bodyProg := rfl

end Cert.Kernel.RingProof
-- ==== Proof.KI.Prog.lean ====
/-
# The kernel's body as sixteen steps

`cc0_body` is straight-line code: a neighbour barrier, sixteen steps of a bidirectional ring and a last half step.
This module writes the same sequence with the ring (`true`: clockwise, `false`: counter-clockwise), the half of a
block, the slot and the step as parameters (`bodyProg`), and proves that the printed body is that sequence.
-/
module

public import proofs.«01_k».proof.Proof.Gen.KernelIdeal
public import proofs.«01_k».proof.Proof.Gen.KernelIdeal.Points

@[expose] public section

noncomputable section

namespace Cert.KernelIdeal.RingProof

open Cert.KernelIdeal Cert.KernelIdeal.Gen
open Idealize.ShloMosaic Idealize.ShloMosaic.TcCoe Idealize.SL.Sem

variable {F : FTy → Type} [FloatOps F]

abbrev PG (F : FTy → Type) : Type 1 := Prog (TpuEff nD τ sig (Elt F) Λ₀ .tc) PUnit

/-! ## The buffers and the semaphores -/

abbrev nbrM : Memref sig .tc .smem S2 .i32 := Memref.whole cc0_stg0_0
abbrev orM : Memref sig .tc .smem S17 .i32 := Memref.whole cc0_stg1_0
abbrev olM : Memref sig .tc .smem S16 .i32 := Memref.whole cc0_stg2_0
abbrev xM : Memref sig .tc .vmem S256x8192 .f32 := Memref.whole cc0_stg3_0
abbrev wM : Memref sig .tc .vmem S8192x128 .f32 := Memref.whole cc0_stg4_0
abbrev outM : Memref sig .tc .vmem S8192x128 .f32 := Memref.whole cc0_stg5_0

/-- The two-slot receive buffer of a ring. -/
def bufM : Bool → Memref sig .tc .vmem S2x256x8192 .f32
  | true => Memref.whole cc0_scratch0
  | false => Memref.whole cc0_scratch1

theorem inb_half : ∀ (s j : Fin 2), ∀ a, (![s.val, 128 * j.val, 0] : Fin 3 → Nat) a + S1x128x8192.size a ≤ S2x256x8192.size a := by decide
theorem inb_slot : ∀ (s : Fin 2), ∀ a, (![s.val, 0, 0] : Fin 3 → Nat) a + S1x256x8192.size a ≤ S2x256x8192.size a := by decide
theorem inb_x : ∀ (j : Fin 2), ∀ a, (![128 * j.val, 0] : Fin 2 → Nat) a + S128x8192.size a ≤ S256x8192.size a := by decide
theorem inb_sem : ∀ (s j : Fin 2), ∀ a, (![s.val, j.val] : Fin 2 → Nat) a + S1x1.size a ≤ S2x2.size a := by decide
theorem inb_or : ∀ (t : Fin 17), ∀ a, (![t.val] : Fin 1 → Nat) a + S1.size a ≤ S17.size a := by decide
theorem inb_ol : ∀ (t : Fin 16), ∀ a, (![t.val] : Fin 1 → Nat) a + S1.size a ≤ S16.size a := by decide
theorem inb_nbr : ∀ (i : Fin 2), ∀ a, (![i.val] : Fin 1 → Nat) a + S1.size a ≤ S2.size a := by decide

/-- Half `j` of slot `s` of a ring's buffer. -/
def halfM (ρ : Bool) (s j : Fin 2) : Memref sig .tc .vmem S128x8192 .f32 :=
  ((bufM ρ).slice (Rect.unit (s := S2x256x8192) ![s.val, 128 * j.val, 0] S1x128x8192.size (inb_half s j)) (fun _ => rfl)).squeeze S128x8192
    squeezes_S1x128x8192_S128x8192

/-- Half `j` of the device's own block. -/
def xHalfM (j : Fin 2) : Memref sig .tc .vmem S128x8192 .f32 :=
  xM.slice (Rect.unit (s := S256x8192) ![128 * j.val, 0] S128x8192.size (inb_x j)) (fun _ => rfl)

def sendA : Bool → DmaSems sig S2x2
  | true => cc0_scratch2
  | false => cc0_scratch4
def recvA : Bool → DmaSems sig S2x2
  | true => cc0_scratch3
  | false => cc0_scratch5

def sendS (ρ : Bool) (s j : Fin 2) : DmaSem sig :=
  (((sendA ρ).slice (Rect.unit (s := S2x2) ![s.val, j.val] S1x1.size (inb_sem s j))).squeeze S_ squeezes_S1x1_S_).sem
def recvS (ρ : Bool) (s j : Fin 2) : DmaSem sig :=
  (((recvA ρ).slice (Rect.unit (s := S2x2) ![s.val, j.val] S1x1.size (inb_sem s j))).squeeze S_ squeezes_S1x1_S_).sem

def credS : Bool → Fin 2 → Sem sig
  | true, 0 => cc0_scratch6.sem
  | true, 1 => cc0_scratch7.sem
  | false, 0 => cc0_scratch8.sem
  | false, 1 => cc0_scratch9.sem

abbrev barM : Sems sig S_ := SemArray.scalar (sig.barrier 0 rfl)
abbrev barS : Sem sig := barM.sem

theorem half_hsc (ρ : Bool) (s j : Fin 2) : (halfM ρ s j).view.ref.isScScratch = false := by cases ρ <;> rfl
theorem half_wordExact (ρ : Bool) (s j : Fin 2) : (halfM ρ s j).view.WordExact := (View.wordExact_bits rfl).reshape _ _
theorem xHalf_wordExact (j : Fin 2) : (xHalfM j).view.WordExact := View.wordExact_bits rfl

/-! ## The acts -/

/-- Send half `j` of the device's own block to device `d`'s slot 1. -/
def sendX (d : Dev nD) (ρ : Bool) (j : Fin 2) (k : PG F) : PG F :=
  .op (.enqueueDma (xHalfM j) (.remote (Dev.tc d) (halfM ρ 1 j) (.dma (sendS ρ 0 j)) (half_hsc ρ 1 j)) (.dma (recvS ρ 1 j))
    (xHalf_wordExact j) (half_wordExact ρ 1 j) ⟨⟨rfl, Or.inl rfl⟩, trivial⟩) fun _ => k

/-- Send half `j` of slot `s` to device `d`'s other slot `s'`. -/
def sendB (d : Dev nD) (ρ : Bool) (s s' j : Fin 2) (k : PG F) : PG F :=
  .op (.enqueueDma (halfM ρ s j) (.remote (Dev.tc d) (halfM ρ s' j) (.dma (sendS ρ s j)) (half_hsc ρ s' j)) (.dma (recvS ρ s' j))
    (half_wordExact ρ s j) (half_wordExact ρ s' j) ⟨⟨rfl, Or.inl rfl⟩, trivial⟩) fun _ => k

/-- Wait for the send of half `j` of the device's own block. -/
def waitX (ρ : Bool) (j : Fin 2) (k : PG F) : PG F :=
  .op (.waitDma2 (sendS ρ 0 j) (halfM ρ 1 j) (xHalfM j) (half_wordExact ρ 1 j) (xHalf_wordExact j)) fun _ => k

/-- Wait for the send of half `j` of slot `s`. -/
def waitS (ρ : Bool) (s s' j : Fin 2) (k : PG F) : PG F :=
  .op (.waitDma2 (sendS ρ s j) (halfM ρ s' j) (halfM ρ s j) (half_wordExact ρ s' j) (half_wordExact ρ s j)) fun _ => k

/-- Wait for half `j` of slot `s` to land. -/
def waitR (ρ : Bool) (s s' j : Fin 2) (k : PG F) : PG F :=
  .op (.waitDma2 (recvS ρ s j) (halfM ρ s' j) (halfM ρ s j) (half_wordExact ρ s' j) (half_wordExact ρ s j)) fun _ => k

def signalC (d : Dev nD) (s : Sem sig) (k : PG F) : PG F := .op (.semSignal (d, .tc) s (1#32 : BitVec 32).toInt) fun _ => k
def waitC (s : Sem sig) (n : BitVec 32) (k : PG F) : PG F := .op (.semWait s n.toInt) fun _ => k

def loadNbr (i : Fin 2) (k : BitVec 32 → PG F) : PG F :=
  smemLoadElt nbrM (Rect.unit (s := S2) ![i.val] S1.size (inb_nbr i)) (View.loads_smem_one rfl numel1_S1) (Shape.Idx.first (numel1_S1.symm ▸ Nat.one_pos)) k
def loadOr (t : Fin 17) (k : BitVec 32 → PG F) : PG F :=
  smemLoadElt orM (Rect.unit (s := S17) ![t.val] S1.size (inb_or t)) (View.loads_smem_one rfl numel1_S1) (Shape.Idx.first (numel1_S1.symm ▸ Nat.one_pos)) k
def loadOl (t : Fin 16) (k : BitVec 32 → PG F) : PG F :=
  smemLoadElt olM (Rect.unit (s := S16) ![t.val] S1.size (inb_ol t)) (View.loads_smem_one rfl numel1_S1) (Shape.Idx.first (numel1_S1.symm ▸ Nat.one_pos)) k

/-- relu (X · W) for a block of 256 rows; for a half of 128. -/
def gemm (X : Vec F S256x8192 .f32) (W : Vec F S8192x128 .f32) : Vec F S256x128 .f32 :=
  maximumf (matmul dot_S256x8192_S8192x128_S256x128_1_0_0_1_n_n none X (shapeCast S8192x128 W shapeCasts_S8192x128_S8192x128)
    (constant S256x128 .f32 0x00000000#32)) (broadcast S256x128 (Scalar.ofBits .f32 0x00000000#32))
def gemmH (X : Vec F S128x8192 .f32) (W : Vec F S8192x128 .f32) : Vec F S128x128 .f32 :=
  maximumf (matmul dot_S128x8192_S8192x128_S128x128_1_0_0_1_n_n none X (shapeCast S8192x128 W shapeCasts_S8192x128_S8192x128)
    (constant S128x128 .f32 0x00000000#32)) (broadcast S128x128 (Scalar.ofBits .f32 0x00000000#32))

abbrev rX : Rect S256x8192 := Rect.unit (s := S256x8192) ![0, 0] S256x8192.size inb_S256x8192_S256x8192_0_0
abbrev rW : Rect S8192x128 := Rect.unit (s := S8192x128) ![0, 0] S8192x128.size inb_S8192x128_S8192x128_0_0
abbrev rSlot (s : Fin 2) : Rect S2x256x8192 := Rect.unit (s := S2x256x8192) ![s.val, 0, 0] S1x256x8192.size (inb_slot s)
abbrev rHalf (s j : Fin 2) : Rect S2x256x8192 := Rect.unit (s := S2x256x8192) ![s.val, 128 * j.val, 0] S1x128x8192.size (inb_half s j)
abbrev rOut (v : BitVec 32) (h : k0_chk3 v) : Rect S8192x128 := Rect.unit (s := S8192x128) (k0_off1 v) S256x128.size h

def loadW (k : Vec F S8192x128 .f32 → PG F) : PG F := .op (.load wM rW.toLoadRect (View.loadsAt_vmem h_S8192x128)) k
def loadX (k : Vec F S256x8192 .f32 → PG F) : PG F := .op (.load xM rX.toLoadRect (View.loadsAt_vmem h_S256x8192)) k
def loadSlot (ρ : Bool) (s : Fin 2) (k : Vec F S1x256x8192 .f32 → PG F) : PG F :=
  .op (.load (bufM ρ) (rSlot s).toLoadRect (View.loadsAt_vmem h_S1x256x8192)) k
def loadHalf (ρ : Bool) (s j : Fin 2) (k : Vec F S1x128x8192 .f32 → PG F) : PG F :=
  .op (.load (bufM ρ) (rHalf s j).toLoadRect (View.loadsAt_vmem h_S1x128x8192)) k

/-- Write a block of 256 rows of the result at block row `v`. -/
def storeOut (v : BitVec 32) (X : Vec F S256x128 .f32) (k : PG F) : PG F :=
  .op (.assume (k0_chk3 v) (k0_chk3.dec v)) fun h =>
  .op (.load outM (rOut v h.down).toLoadRect (View.loadsAt_vmem h_S256x128)) fun _ =>
  .op (.store outM (rOut v h.down) X Finset.univ (View.stores_vmem_bits_univ h_S256x128 rfl) (.inl rfl)) fun _ => k

/-- The product of the block in ring `true`'s slot, to its rows of the result; of the block in ring `false`'s. -/
def gemmR (t : Fin 17) (s : Fin 2) (k : PG F) : PG F :=
  loadSlot true s fun X => loadW fun W => loadOr t fun v =>
    storeOut v (gemm (shapeCast S256x8192 X shapeCasts_S1x256x8192_S256x8192) W) k
def gemmL (t : Fin 16) (s : Fin 2) (k : PG F) : PG F :=
  loadSlot false s fun X => loadW fun W => loadOl t fun v =>
    storeOut v (gemm (shapeCast S256x8192 X shapeCasts_S1x256x8192_S256x8192) W) k
def gemm0 (k : PG F) : PG F :=
  loadX fun X => loadW fun W => loadOr 0 fun v => storeOut v (gemm (shapeCast S256x8192 X shapeCasts_S256x8192_S256x8192) W) k

/-! ## The steps -/

def slotOf (t : ℕ) : Fin 2 := ⟨t % 2, Nat.mod_lt _ Nat.two_pos⟩

/-- The half whose transfer ring `ρ` still makes in the last step. -/
def lastHalf : Bool → Fin 2
  | true => 0
  | false => 1

/-- Does ring `ρ` send half `j` in step `t`? -/
def sends (ρ : Bool) (j : Fin 2) (t : ℕ) : Bool := decide (t ≤ 14) || decide (j = lastHalf ρ)

/-- The receiving half of a lane (a ring and a half) in a step after the first. -/
def laneIn (d : Bool → Dev nD) (ρ : Bool) (j : Fin 2) (t : ℕ) (k : PG F) : PG F :=
  waitC (credS ρ j) 1#32 (waitR ρ (slotOf t) (slotOf (t + 1)) j
    (bif sends ρ j t then sendB (d ρ) ρ (slotOf t) (slotOf (t + 1)) j k else k))

/-- The releasing half of a lane in a step after the first: wait for its transfer, hand the slot back. -/
def laneOut (d : Bool → Dev nD) (ρ : Bool) (j : Fin 2) (t : ℕ) (k : PG F) : PG F :=
  bif sends ρ j t then waitS ρ (slotOf t) (slotOf (t + 1)) j (bif decide (t ≤ 14) then signalC (d (!ρ)) (credS ρ j) k else k) else k

/-- A step after the first. -/
def stepProg (d : Bool → Dev nD) (t : ℕ) (h : t < 16) (k : PG F) : PG F :=
  laneIn d true 0 t <| laneIn d false 0 t <| laneIn d true 1 t <| laneIn d false 1 t <|
  gemmR ⟨t, Nat.lt_succ_of_lt h⟩ (slotOf t) <| gemmL ⟨t, h⟩ (slotOf t) <|
  laneOut d true 0 t <| laneOut d false 0 t <| laneOut d true 1 t <| laneOut d false 1 t k

/-- The releasing half of a lane in the first step. -/
def laneOut0 (d : Bool → Dev nD) (ρ : Bool) (j : Fin 2) (k : PG F) : PG F := waitX ρ j (signalC (d (!ρ)) (credS ρ j) k)

/-- The first step. -/
def step0Prog (d : Bool → Dev nD) (k : PG F) : PG F :=
  sendX (d true) true 0 <| sendX (d false) false 0 <| sendX (d true) true 1 <| sendX (d false) false 1 <|
  gemm0 <|
  laneOut0 d true 0 <| laneOut0 d false 0 <| laneOut0 d true 1 <| laneOut0 d false 1 k

/-- The `n` steps that end with step 15. -/
def stepsProg (d : Bool → Dev nD) : (n : ℕ) → n ≤ 15 → PG F → PG F
  | 0, _, k => k
  | n + 1, h, k => stepProg d (15 - n) (by omega) (stepsProg d n (by omega) k)

/-- One half of the last half step: the half block's product to its rows. -/
def finalHalf (off : Fin 2 → ℕ) (h : ∀ a, off a + S128x128.size a ≤ S8192x128.size a) (ρ : Bool) (j : Fin 2) (k : PG F) : PG F :=
  loadHalf ρ 0 j fun X => loadW fun W =>
  .op (.load outM (Rect.unit (s := S8192x128) off S128x128.size h).toLoadRect (View.loadsAt_vmem h_S128x128)) fun _ =>
  .op (.store outM (Rect.unit (s := S8192x128) off S128x128.size h) (gemmH (shapeCast S128x8192 X shapeCasts_S1x128x8192_S128x8192) W) Finset.univ
    (View.stores_vmem_bits_univ h_S128x128 rfl) (.inl rfl)) fun _ => k

def finalProg (k : PG F) : PG F :=
  waitR true 0 1 0 <| waitR false 0 1 1 <| loadOr 16 fun v =>
  .op (.assume (k0_chk34 v) (k0_chk34.dec v)) fun h =>
  finalHalf (k0_off32 v) h.down.1 true 0 <| finalHalf (k0_off33 v) h.down.2 false 1 k

/-- The device a neighbour word names. -/
def devs (v0 : BitVec 32) (h0 : k0_chk1 v0) (v1 : BitVec 32) (h1 : k0_chk2 v1) : Bool → Dev nD
  | true => ⟨k0_dev2 v1, k0_dev2_lt v1 h1⟩
  | false => ⟨k0_dev1 v0, k0_dev1_lt v0 h0⟩

def barProg (d : Bool → Dev nD) (k : PG F) : PG F :=
  signalC (d false) barS <| signalC (d true) barS <| waitC barS 2#32 k

def mainProg (d : Bool → Dev nD) : PG F :=
  barProg d <| step0Prog d <| stepsProg d 15 le_rfl <| finalProg (.ret ⟨⟩)

def bodyProg : PG F :=
  loadNbr 0 fun v0 => .op (.assume (k0_chk1 v0) (k0_chk1.dec v0)) fun h0 =>
  loadNbr 1 fun v1 => .op (.assume (k0_chk2 v1) (k0_chk2.dec v1)) fun h1 =>
  mainProg (devs v0 h0.down v1 h1.down)

end Cert.KernelIdeal.RingProof
-- ==== Proof.KI.Base.lean ====
/-
# The ring, the semaphore cells, the buffers' contents

The devices sit on a cycle (`cyc`); ring `true` sends every block to the next device of the cycle, ring `false` to the
previous one. This module names a device's place on the cycle, the 21 semaphore cells of a device, and the contents a
slot of a receive buffer holds when it holds a block, with the facts about halves of slots the protocol needs.
-/
module

public import proofs.«01_k».proof.Proof.KI.Prog
public import Idealize.ShloMosaic.Lib.Release
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

/-! ## The cycle -/

/-- The device at each place of the cycle. -/
def cyc : Fin 32 → Fin 32 :=
  ![0, 3, 4, 7, 15, 12, 11, 8, 16, 19, 20, 23, 31, 28, 27, 24, 25, 26, 29, 30, 22, 21, 18, 17, 9, 10, 13, 14, 6, 5, 2, 1]
/-- The place of each device. -/
def inv : Fin 32 → Fin 32 :=
  ![0, 31, 30, 1, 2, 29, 28, 3, 7, 24, 25, 6, 5, 26, 27, 4, 8, 23, 22, 9, 10, 21, 20, 11, 15, 16, 17, 14, 13, 18, 19, 12]

theorem cyc_inv : ∀ d, cyc (inv d) = d := by decide
theorem inv_cyc : ∀ p, inv (cyc p) = p := by decide

def devAt (n : ℕ) : Dev nD := cyc ⟨n % 32, Nat.mod_lt _ (by decide)⟩
def pos (c : Dev nD) : ℕ := (inv c).val

theorem pos_lt (c : Dev nD) : pos c < 32 := (inv c).isLt
theorem pos_devAt (n : ℕ) : pos (devAt n) = n % 32 := by unfold pos devAt; rw [inv_cyc]
theorem devAt_pos (c : Dev nD) : devAt (pos c) = c := by
  unfold devAt pos
  have h : (⟨(inv c).val % 32, Nat.mod_lt _ (by decide)⟩ : Fin 32) = inv c := Fin.ext (Nat.mod_eq_of_lt (inv c).isLt)
  rw [h]; exact cyc_inv c
theorem devAt_congr {m n : ℕ} (h : m % 32 = n % 32) : devAt m = devAt n := by unfold devAt; congr 1; exact Fin.ext h

/-- The device ring `ρ` sends to. -/
def tgt : Bool → Dev nD → Dev nD
  | true, c => devAt (pos c + 1)
  | false, c => devAt (pos c + 31)
/-- The device whose block ring `ρ` has delivered to `c` when step `t` starts. -/
def orig : Bool → Dev nD → ℕ → Dev nD
  | true, c, t => devAt (pos c + 32 - t)
  | false, c, t => devAt (pos c + t)

theorem tgt_tgt (ρ : Bool) (c : Dev nD) : tgt ρ (tgt (!ρ) c) = c := by
  cases ρ <;> simp only [tgt, Bool.not_true, Bool.not_false, pos_devAt] <;> refine (devAt_congr ?_).trans (devAt_pos c) <;> omega
theorem tgt_tgt' (ρ : Bool) (c : Dev nD) : tgt (!ρ) (tgt ρ c) = c := by
  have h := tgt_tgt (!ρ) c; rwa [Bool.not_not] at h
theorem orig_zero (ρ : Bool) (c : Dev nD) : orig ρ c 0 = c := by
  cases ρ <;> simp only [orig] <;> refine (devAt_congr ?_).trans (devAt_pos c) <;> omega
theorem orig_tgt (ρ : Bool) (c : Dev nD) (t : ℕ) (ht : t ≤ 31) : orig ρ (tgt ρ c) (t + 1) = orig ρ c t := by
  cases ρ <;> simp only [orig, tgt, pos_devAt] <;> refine devAt_congr ?_ <;> have := pos_lt c <;> omega
theorem orig_16 (c : Dev nD) : orig false c 16 = orig true c 16 := by
  simp only [orig]; refine devAt_congr ?_; omega
/-- Every block but the opposite device's arrives whole in one of the first sixteen steps. -/
theorem orig_cover (c d : Dev nD) : d = orig true c 16 ∨ ∃ t < 16, d = orig true c t ∨ d = orig false c t := by
  have hc := pos_lt c; have hd := pos_lt d
  by_cases h : (pos c + 16) % 32 = pos d
  · left; rw [← devAt_pos d]; simp only [orig]; refine devAt_congr ?_; omega
  right
  by_cases h2 : (pos d + 32 - pos c) % 32 < 16
  · refine ⟨_, h2, .inr ?_⟩; rw [← devAt_pos d]; simp only [orig]; refine devAt_congr ?_; rw [pos_devAt]; omega
  · refine ⟨(pos c + 32 - pos d) % 32, by omega, .inl ?_⟩
    rw [← devAt_pos d]; simp only [orig]; refine devAt_congr ?_; rw [pos_devAt]; omega
/-- The opposite device's block is none of the others'. -/
theorem orig_16_ne (c : Dev nD) (ρ : Bool) (t : ℕ) (ht : t < 16) : orig ρ c t ≠ orig true c 16 := by
  intro h
  have h := congrArg pos h
  cases ρ <;> simp only [orig, pos_devAt] at h <;> have := pos_lt c <;> omega

/-- Ring `ρ` as a permutation of the devices. -/
def ringE (ρ : Bool) : Dev nD ≃ Dev nD := ⟨tgt ρ, tgt (!ρ), tgt_tgt' ρ, tgt_tgt ρ⟩

/-! ## The cells -/

/-- The kinds of cells of a device: the barrier's; the credits of a ring and half; the transfers' send (`true`) and receive
    (`false`) cells of a ring, slot and half. -/
abbrev CK : Type := Option ((Bool × Fin 2) ⊕ (Bool × Bool × Fin 2 × Fin 2))

abbrev kBar : CK := none
abbrev kCred (ρ : Bool) (j : Fin 2) : CK := some (.inl (ρ, j))
abbrev kSend (ρ : Bool) (s j : Fin 2) : CK := some (.inr (true, ρ, s, j))
abbrev kRecv (ρ : Bool) (s j : Fin 2) : CK := some (.inr (false, ρ, s, j))

def semOf : CK → SemLoc sig
  | none => .reg barS
  | some (.inl (ρ, j)) => .reg (credS ρ j)
  | some (.inr (true, ρ, s, j)) => .dma (sendS ρ s j)
  | some (.inr (false, ρ, s, j)) => .dma (recvS ρ s j)

theorem semOf_inj : Function.Injective semOf := by decide +kernel

/-- The kind of a semaphore. -/
def kindOf (sm : SemLoc sig) : Option CK := Idealize.ShloMosaic.preimage? ⟨semOf, semOf_inj⟩ sm

theorem kindOf_semOf (k : CK) : kindOf (semOf k) = some k := Idealize.ShloMosaic.preimage?_emb ⟨semOf, semOf_inj⟩ k

abbrev cell (c : Dev nD) (k : CK) : GSem nD τ sig := ((c : Thread nD τ), semOf k)

theorem cell_inj {c c' : Dev nD} {k k' : CK} (h : cell c k = cell c' k') : c = c' ∧ k = k' := by
  have h1 := congrArg (fun g => g.1.1) h
  have h2 := congrArg (fun g => g.2) h
  exact ⟨h1, semOf_inj h2⟩

/-! ## Contents -/

section Contents
variable {F : FTy → Type}

/-- Both slots of a receive buffer holding the block `x`. -/
def bufOf (x : Vec F S256x8192 .f32) : Vec F S2x256x8192 .f32 := fun i => x (fun a => i a.succ)

/-- The index of a half's element in its block. -/
def xRow (j : Fin 2) (y : S128x8192.Idx) : S256x8192.Idx :=
  (Rect.unit (s := S256x8192) ![128 * j.val, 0] S128x8192.size (inb_x j)).emb y
/-- Half `j` of a block. -/
def halfOf (x : Vec F S256x8192 .f32) (j : Fin 2) : Vec F S128x8192 .f32 := fun y => x (xRow j y)

/-- The elements of half `j` of slot `s`; of slot `s`; of half `j` of the device's own block. -/
def halfSet (s j : Fin 2) : Finset S2x256x8192.Idx := (rHalf s j).toLoadRect.set
def slotSet (s : Fin 2) : Finset S2x256x8192.Idx := (rSlot s).toLoadRect.set
def xSet (j : Fin 2) : Finset S256x8192.Idx := (Rect.unit (s := S256x8192) ![128 * j.val, 0] S128x8192.size (inb_x j)).toLoadRect.set

theorem mem_halfSet {s j : Fin 2} {i : S2x256x8192.Idx} : i ∈ halfSet s j ↔ (i 0).val = s.val ∧ (i 1).val / 128 = j.val := by
  unfold halfSet
  rw [Rect.mem_set_unit]
  have h1 := (i 1).isLt; have h2 := (i 2).isLt
  constructor
  · intro h
    have a0 := h 0; have a1 := h 1
    simp [S1x128x8192] at a0 a1
    omega
  · rintro ⟨h0, h1'⟩ a
    fin_cases a
    · simp [S1x128x8192]; omega
    · simp [S1x128x8192]; omega
    · simp [S1x128x8192]; exact h2

theorem mem_slotSet {s : Fin 2} {i : S2x256x8192.Idx} : i ∈ slotSet s ↔ (i 0).val = s.val := by
  unfold slotSet
  rw [Rect.mem_set_unit]
  have h1 := (i 1).isLt; have h2 := (i 2).isLt
  constructor
  · intro h
    have a0 := h 0
    simp [S1x256x8192] at a0
    omega
  · rintro h0 a
    fin_cases a
    · simp [S1x256x8192]; omega
    · simp [S1x256x8192]; exact h1
    · simp [S1x256x8192]; exact h2

theorem mem_xSet {j : Fin 2} {i : S256x8192.Idx} : i ∈ xSet j ↔ (i 0).val / 128 = j.val := by
  unfold xSet
  rw [Rect.mem_set_unit]
  have h1 := (i 1).isLt; have h0 := (i 0).isLt
  constructor
  · intro h
    have a0 := h 0
    simp [S128x8192] at a0
    omega
  · rintro h0 a
    fin_cases a
    · simp [S128x8192]; omega
    · simp [S128x8192]; exact h1

theorem halfSet_union (s : Fin 2) : halfSet s 0 ∪ halfSet s 1 = slotSet s := by
  ext i; rw [Finset.mem_union, mem_halfSet, mem_halfSet, mem_slotSet]
  have h1 : (i 1).val < 256 := (i 1).isLt
  simp; omega
theorem halfSet_disjoint (s : Fin 2) : Disjoint (halfSet s 0) (halfSet s 1) :=
  Finset.disjoint_left.mpr fun i h h' => by rw [mem_halfSet] at h h'; have := h.2.symm.trans h'.2; simp at this
theorem slotSet_union : slotSet 0 ∪ slotSet 1 = Finset.univ := by
  ext i; rw [Finset.mem_union, mem_slotSet, mem_slotSet]
  have h1 : (i 0).val < 2 := (i 0).isLt
  simp; omega
theorem slotSet_disjoint : Disjoint (slotSet 0) (slotSet 1) :=
  Finset.disjoint_left.mpr fun i h h' => by rw [mem_slotSet] at h h'; have := h.symm.trans h'; simp at this
theorem xSet_union : xSet 0 ∪ xSet 1 = Finset.univ := by
  ext i; rw [Finset.mem_union, mem_xSet, mem_xSet]
  have h1 : (i 0).val < 256 := (i 0).isLt
  simp; omega
theorem xSet_disjoint : Disjoint (xSet 0) (xSet 1) :=
  Finset.disjoint_left.mpr fun i h h' => by rw [mem_xSet] at h h'; have := h.symm.trans h'; simp at this
theorem halfSet_nonempty (s j : Fin 2) : (halfSet s j).Nonempty :=
  ⟨fun a => match a with | 0 => s | 1 => ⟨128 * j.val, by have := j.isLt; show _ < 256; omega⟩ | 2 => ⟨0, by decide⟩,
    mem_halfSet.mpr ⟨rfl, by show 128 * j.val / 128 = _; omega⟩⟩

/-! ### The views of the halves -/

theorem halfM_true_emb (s j : Fin 2) (y : S128x8192.Idx) : (halfM true s j).view.emb y = (rHalf s j).emb (Fin.cons ⟨0, Nat.one_pos⟩ y) :=
  congrArg (fun z => (rHalf s j).emb z) (Shape.reshapeEquiv_cons_one (d := ![128, 8192]) _ y)
theorem halfM_false_emb (s j : Fin 2) (y : S128x8192.Idx) : (halfM false s j).view.emb y = (rHalf s j).emb (Fin.cons ⟨0, Nat.one_pos⟩ y) :=
  congrArg (fun z => (rHalf s j).emb z) (Shape.reshapeEquiv_cons_one (d := ![128, 8192]) _ y)

theorem bufOf_half (x : Vec F S256x8192 .f32) (s j : Fin 2) (y : S128x8192.Idx) :
    bufOf x ((rHalf s j).emb (Fin.cons ⟨0, Nat.one_pos⟩ y)) = halfOf x j y := by
  unfold bufOf halfOf xRow
  congr 1

theorem halfM_true_set (s j : Fin 2) : (halfM true s j).view.set = halfSet s j :=
  (View.set_reshape _ _).trans (View.set_slice_whole _ _)
theorem halfM_false_set (s j : Fin 2) : (halfM false s j).view.set = halfSet s j :=
  (View.set_reshape _ _).trans (View.set_slice_whole _ _)
theorem xHalfM_set (j : Fin 2) : (xHalfM j).view.set = xSet j := View.set_slice_whole _ _

theorem halfM_true_read (x : Vec F S256x8192 .f32) (s j : Fin 2) : (halfM true s j).view.read (Elt F) (bufOf x) = halfOf x j :=
  funext fun y => (congrArg (bufOf x) (halfM_true_emb s j y)).trans (bufOf_half x s j y)
theorem halfM_false_read (x : Vec F S256x8192 .f32) (s j : Fin 2) : (halfM false s j).view.read (Elt F) (bufOf x) = halfOf x j :=
  funext fun y => (congrArg (bufOf x) (halfM_false_emb s j y)).trans (bufOf_half x s j y)
theorem xHalfM_read (x : Vec F S256x8192 .f32) (j : Fin 2) : (xHalfM j).view.read (Elt F) x = halfOf x j := rfl

/-- What a half block's transfer leaves under the half it lands on. -/
theorem halfM_true_write (x : Vec F S256x8192 .f32) (s j : Fin 2) (fd : Vec F S2x256x8192 .f32) :
    ∀ i ∈ (halfM true s j).view.set, (halfM true s j).view.write (Elt F) fd (halfOf x j) Finset.univ i = bufOf x i := by
  intro i hi
  obtain ⟨y, -, rfl⟩ := Finset.mem_map.mp hi
  refine (View.write_emb_of_mem _ _ (Finset.mem_univ y)).trans ?_
  exact ((congrArg (bufOf x) (halfM_true_emb s j y)).trans (bufOf_half x s j y)).symm
theorem halfM_false_write (x : Vec F S256x8192 .f32) (s j : Fin 2) (fd : Vec F S2x256x8192 .f32) :
    ∀ i ∈ (halfM false s j).view.set, (halfM false s j).view.write (Elt F) fd (halfOf x j) Finset.univ i = bufOf x i := by
  intro i hi
  obtain ⟨y, -, rfl⟩ := Finset.mem_map.mp hi
  refine (View.write_emb_of_mem _ _ (Finset.mem_univ y)).trans ?_
  exact ((congrArg (bufOf x) (halfM_false_emb s j y)).trans (bufOf_half x s j y)).symm

/-- What a load of a slot, of a half, reads. -/
def slotVec (x : Vec F S256x8192 .f32) : Vec F S1x256x8192 .f32 := fun i => x (fun a => i a.succ)
def halfVec (x : Vec F S256x8192 .f32) (j : Fin 2) : Vec F S1x128x8192 .f32 := fun i => halfOf x j (fun a => i a.succ)

theorem slotVec_cast (x : Vec F S256x8192 .f32) : shapeCast S256x8192 (slotVec x) shapeCasts_S1x256x8192_S256x8192 = x :=
  funext fun i => (shapeCast_dropUnit_apply ![256, 8192] (slotVec x) _ i).trans rfl
theorem halfVec_cast (x : Vec F S256x8192 .f32) (j : Fin 2) : shapeCast S128x8192 (halfVec x j) shapeCasts_S1x128x8192_S128x8192 = halfOf x j :=
  funext fun i => (shapeCast_dropUnit_apply ![128, 8192] (halfVec x j) _ i).trans rfl

theorem bufOf_slot (x : Vec F S256x8192 .f32) (s : Fin 2) (i : S1x256x8192.Idx) : bufOf x ((rSlot s).toLoadRect.idx i) = slotVec x i := by
  unfold bufOf slotVec
  congr 1
  funext a
  apply Fin.ext
  fin_cases a <;> show 0 + 1 * _ = _ <;> omega
theorem bufOf_halfLoad (x : Vec F S256x8192 .f32) (s j : Fin 2) (i : S1x128x8192.Idx) : bufOf x ((rHalf s j).toLoadRect.idx i) = halfVec x j i := by
  unfold bufOf halfVec halfOf xRow
  congr 1

end Contents

end Cert.KernelIdeal.RingProof
-- ==== Proof.KI.Sched.lean ====
/-
# The schedule of the protocol

Which units a cell receives, in which round, and what they carry. A block's half is sent in step `t` from slot `t % 2` to
slot `(t + 1) % 2` of the next device of its ring; the slot it lands in is known to be free by evidence (`ev`) that its
owner has released it for this write, which travels with the credit signals (and, for the first step, with the barrier's).
-/
module

public import proofs.«01_k».proof.Proof.KI.Base

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type}

/-- A slot's half: its device, its ring, the half and the slot. -/
abbrev KK : Type := Dev nD × Bool × Fin 2 × Fin 2
abbrev UB : Type := URounds (GSem nD τ sig) ℕ
abbrev UU : Type := UR sig nD τ × (UB × USlots KK)

local notation "𝕄" => MT nD τ sig ℕ (Elt F) ℕ UU ℕ

abbrev EP : Emb (UR sig nD τ) 𝕄 := embL
abbrev ER : Emb UB 𝕄 := (Emb.inl : Emb UB (UB × USlots KK)).trans embR
abbrev ES : Emb (USlots KK) 𝕄 := (Emb.inr : Emb (USlots KK) (UB × USlots KK)).trans embR

instance ER_landsIn : (ER (F := F)).LandsIn (upEmb : UEmb _ 𝕄) := by unfold ER; infer_instance
instance ES_landsIn : (ES (F := F)).LandsIn (upEmb : UEmb _ 𝕄) := by unfold ES; infer_instance

/-! ## The pieces of the buffers -/

/-- The contents of ring `ρ`'s buffer at device `c` with both slots holding the block `x`; of the device's own block. -/
def bufH (ρ : Bool) (s j : Fin 2) (c : Dev nD) (x : Vec F S256x8192 .f32) : Buf (Elt F) ((halfM ρ s j).view.loc (c : Thread nD τ)) :=
  match ρ with
  | true => bufOf x
  | false => bufOf x
def bufX (j : Fin 2) (c : Dev nD) (x : Vec F S256x8192 .f32) : Buf (Elt F) ((xHalfM j).view.loc (c : Thread nD τ)) := x

/-- Half `j` of slot `s` of ring `ρ`'s buffer at share `q`, holding the block `x`. -/
def halfPts (ρ : Bool) (s j : Fin 2) (c : Dev nD) (q : PosShare TreeShare) (x : Vec F S256x8192 .f32) : sProp 𝕄 :=
  (halfM ρ s j).view.loc (c : Thread nD τ) ↦[(halfM ρ s j).view.set]{q} bufH ρ s j c x
/-- Half `j` of slot `s` at some contents. -/
def slotPts (ρ : Bool) (s j : Fin 2) (c : Dev nD) : sProp 𝕄 := slot ((halfM ρ s j).view.loc (c : Thread nD τ)) (halfM ρ s j).view.set
/-- Half `j` of the device's own block at share `q`. -/
def xPts (j : Fin 2) (c : Dev nD) (q : PosShare TreeShare) (x : Vec F S256x8192 .f32) : sProp 𝕄 :=
  (xHalfM j).view.loc (c : Thread nD τ) ↦[(xHalfM j).view.set]{q} bufX j c x

instance halfPts_storable (ρ : Bool) (s j : Fin 2) (c : Dev nD) (q) (x : Vec F S256x8192 .f32) :
    BI.Storable (upEmb : UEmb _ 𝕄) (halfPts ρ s j c q x) := by unfold halfPts; infer_instance
instance slotPts_storable (ρ : Bool) (s j : Fin 2) (c : Dev nD) : BI.Storable (upEmb : UEmb _ 𝕄) (slotPts (F := F) ρ s j c) := by
  unfold slotPts; infer_instance
instance xPts_storable (j : Fin 2) (c : Dev nD) (q) (x : Vec F S256x8192 .f32) :
    BI.Storable (upEmb : UEmb _ 𝕄) (xPts j c q x) := by unfold xPts; infer_instance

theorem halfPts_slot (ρ : Bool) (s j : Fin 2) (c : Dev nD) (x : Vec F S256x8192 .f32) :
    halfPts ρ s j c fullShare x ⊢ (slotPts ρ s j c : sProp 𝕄) := by
  unfold halfPts slotPts slot; iintro H; iexists (bufH ρ s j c x); iexact H
theorem slotPts_false (ρ : Bool) (s j : Fin 2) (c : Dev nD) :
    iprop(slotPts ρ s j c ∗ slotPts ρ s j c) ⊢ (False : sProp 𝕄) := by
  cases ρ
  · exact slot_slot_false (by rw [halfM_false_set]; exact halfSet_nonempty s j)
  · exact slot_slot_false (by rw [halfM_true_set]; exact halfSet_nonempty s j)
theorem halfPts_share (ρ : Bool) (s j : Fin 2) (c : Dev nD) (x : Vec F S256x8192 .f32) :
    halfPts ρ s j c fullShare x ⊣⊢ (iprop(halfPts ρ s j c fullShare.left x ∗ halfPts ρ s j c fullShare.right x) : sProp 𝕄) :=
  pointsTo_share (PosShare.mem_left_op_right fullShare)

/-- A transfer of half `j` of the block `x` leaves the half it lands on holding `x`. -/
theorem write_half (ρ : Bool) (s j : Fin 2) (c : Dev nD) (x : Vec F S256x8192 .f32) (fd : Buf (Elt F) ((halfM ρ s j).view.loc (c : Thread nD τ))) :
    ((halfM ρ s j).view.loc (c : Thread nD τ) ↦[(halfM ρ s j).view.set]{fullShare} ((halfM ρ s j).view.write (Elt F) fd (halfOf x j) Finset.univ))
      ⊢ (halfPts ρ s j c fullShare x : sProp 𝕄) := by
  unfold halfPts
  refine Entails.of_eq (pointsTo_congr ?_)
  cases ρ
  · exact halfM_false_write x s j fd
  · exact halfM_true_write x s j fd
theorem read_half (ρ : Bool) (s j : Fin 2) (c : Dev nD) (x : Vec F S256x8192 .f32) :
    (halfM ρ s j).view.read (Elt F) (bufH ρ s j c x) = halfOf x j := by
  cases ρ
  · exact halfM_false_read x s j
  · exact halfM_true_read x s j
theorem read_xHalf (j : Fin 2) (c : Dev nD) (x : Vec F S256x8192 .f32) : (xHalfM j).view.read (Elt F) (bufX j c x) = halfOf x j := rfl

/-! ## The schedule -/

/-- The units of a half block's transfer. -/
def NN : ℕ := (halfM true 0 0).view.dmaCredit
theorem NN_pos : 0 < NN := View.dmaCredit_pos _ (by decide)
theorem half_credit (ρ : Bool) (s j : Fin 2) : (halfM ρ s j).view.dmaCredit = NN := by cases ρ <;> rfl
theorem xHalf_credit (j : Fin 2) : (xHalfM j).view.dmaCredit = NN := rfl

/-- Evidence that half `j` of the slot that ring `ρ`'s step-`t` transfer writes at device `p` is free for it. -/
def ev (p : Dev nD) (ρ : Bool) (j : Fin 2) (t : ℕ) : sProp 𝕄 :=
  iprop(released ES (p, ρ, j, slotOf (t + 1)) (t / 2 + 1) ∗ reached ER (cell p (kRecv ρ (slotOf (t + 1)) j)) (t / 2))

instance ev_persistent (p : Dev nD) (ρ : Bool) (j : Fin 2) (t : ℕ) : BI.Persistent (ev (F := F) p ρ j t) := by unfold ev; infer_instance
instance ev_storable (p : Dev nD) (ρ : Bool) (j : Fin 2) (t : ℕ) : BI.Storable (upEmb : UEmb _ 𝕄) (ev (F := F) p ρ j t) := by
  unfold ev; infer_instance

theorem slotOf_congr {m n : ℕ} (h : m % 2 = n % 2) : slotOf m = slotOf n := Fin.ext h

/-- Evidence for a later step of the same parity is evidence for an earlier one. -/
theorem ev_mono (p : Dev nD) (ρ : Bool) (j : Fin 2) {t u : ℕ} (h : t ≤ u) (h2 : t % 2 = u % 2) : ev p ρ j u ⊢ (ev p ρ j t : sProp 𝕄) := by
  unfold ev
  rw [slotOf_congr (show (t + 1) % 2 = (u + 1) % 2 by omega)]
  exact BI.sep_mono (released_mono ES (by omega)) (reached_mono ER (by omega))

/-- What the barrier's unit from `tgt ρ c` carries to `c`. -/
def barPay (c : Dev nD) (ρ : Bool) : sProp 𝕄 :=
  iprop((ev (tgt ρ c) ρ 0 0 ∗ reached ER (cell (tgt ρ c) (kCred (!ρ) 0)) 0)
    ∗ (ev (tgt ρ c) ρ 1 0 ∗ reached ER (cell (tgt ρ c) (kCred (!ρ) 1)) 0))
instance barPay_persistent (c : Dev nD) (ρ : Bool) : BI.Persistent (barPay (F := F) c ρ) := by unfold barPay; infer_instance
instance barPay_storable (c : Dev nD) (ρ : Bool) : BI.Storable (upEmb : UEmb _ 𝕄) (barPay (F := F) c ρ) := by unfold barPay; infer_instance

/-- What the credit for step `u` carries to the writer `c`. -/
def credPay (c : Dev nD) (ρ : Bool) (j : Fin 2) (u : ℕ) : sProp 𝕄 := iprop(ev (tgt ρ c) ρ j (u + 1) ∗ ev (tgt ρ c) ρ j u)
instance credPay_persistent (c : Dev nD) (ρ : Bool) (j : Fin 2) (u : ℕ) : BI.Persistent (credPay (F := F) c ρ j u) := by unfold credPay; infer_instance
instance credPay_storable (c : Dev nD) (ρ : Bool) (j : Fin 2) (u : ℕ) : BI.Storable (upEmb : UEmb _ 𝕄) (credPay (F := F) c ρ j u) := by
  unfold credPay; infer_instance

/-- The share of the device's own block a ring's first transfer borrows. -/
def xShare : Bool → PosShare TreeShare
  | true => fullShare.left.left
  | false => fullShare.left.right

variable (X : Dev nD → Vec F S256x8192 .f32)

/-- What the completion of step `t`'s send gives back. -/
def sendPay (ρ : Bool) (j : Fin 2) (c : Dev nD) (t : ℕ) : sProp 𝕄 :=
  if t = 0 then xPts j c (xShare ρ) (X c) else halfPts ρ (slotOf t) j c fullShare.left (X (orig ρ c t))
/-- What the arrival that step `t` waits for gives. -/
def recvPay (ρ : Bool) (j : Fin 2) (c : Dev nD) (t : ℕ) : sProp 𝕄 := halfPts ρ (slotOf t) j c fullShare (X (orig ρ c t))

instance sendPay_storable (ρ : Bool) (j : Fin 2) (c : Dev nD) (t : ℕ) : BI.Storable (upEmb : UEmb _ 𝕄) (sendPay X ρ j c t) := by
  unfold sendPay; split <;> infer_instance
instance recvPay_storable (ρ : Bool) (j : Fin 2) (c : Dev nD) (t : ℕ) : BI.Storable (upEmb : UEmb _ 𝕄) (recvPay X ρ j c t) := by
  unfold recvPay; infer_instance

/-- The rounds of a transfer's cell. -/
def nR (sd ρ : Bool) (s j : Fin 2) : ℕ := if decide (s = 0) = sd then 8 else if j = lastHalf ρ then 8 else 7

def dutiesK : CK → ℕ → Finset ℕ
  | none, r => if r = 0 then {0, 1} else ∅
  | some (.inl _), r => if r = 0 then Finset.range 15 else ∅
  | some (.inr (sd, ρ, s, j)), r => if r < nR sd ρ s j then {0} else ∅
def amountK : CK → ℕ
  | none => 1
  | some (.inl _) => 1
  | some (.inr _) => NN
def payloadK (c : Dev nD) : CK → ℕ → ℕ → sProp 𝕄
  | none, _, u => if u = 1 then barPay c true else barPay c false
  | some (.inl (ρ, j)), _, u => credPay c ρ j u
  | some (.inr (true, ρ, s, j)), r, _ => sendPay X ρ j c (2 * r + s.val)
  | some (.inr (false, ρ, s, j)), r, _ => recvPay X ρ j c (2 * r + 2 - s.val)

theorem amountK_pos (k : CK) : 0 < amountK k := by
  rcases k with _ | _ | _
  · exact Nat.one_pos
  · exact Nat.one_pos
  · exact NN_pos

instance payloadK_storable (c : Dev nD) (k : CK) (r u : ℕ) : BI.Storable (upEmb : UEmb _ 𝕄) (payloadK X c k r u) := by
  rcases k with _ | ⟨ρ, j⟩ | ⟨sd, ρ, s, j⟩
  · show BI.Storable _ (if u = 1 then barPay c true else barPay c false)
    split <;> infer_instance
  · show BI.Storable _ (credPay c ρ j u)
    infer_instance
  · cases sd
    · show BI.Storable _ (recvPay X ρ j c (2 * r + 2 - s.val)); infer_instance
    · show BI.Storable _ (sendPay X ρ j c (2 * r + s.val)); infer_instance

def Rd : Rounds.Schedule (GSem nD τ sig) ℕ 𝕄 where
  duties g r := if g.1.2 = .tc then (match kindOf g.2 with | some k => dutiesK k r | none => ∅) else ∅
  unitless _ := False
  amount g _ _ := match kindOf g.2 with | some k => amountK k | none => 1
  payload g r u := match kindOf g.2 with | some k => payloadK X g.1.1 k r u | none => iprop(emp)
  amount_pos g _ _ _ := by
    split
    · exact amountK_pos _
    · exact Nat.one_pos

instance Rd_payload_storable (g : GSem nD τ sig) (r u : ℕ) : BI.Storable (upEmb : UEmb _ 𝕄) ((Rd X).payload g r u) := by
  show BI.Storable upEmb (match kindOf g.2 with | some k => payloadK X g.1.1 k r u | none => iprop(emp))
  split <;> infer_instance

theorem duties_cell (c : Dev nD) (k : CK) (r : ℕ) : (Rd X).duties (cell c k) r = dutiesK k r := by
  dsimp only [Rd]
  rw [if_pos rfl, kindOf_semOf]
theorem amount_cell (c : Dev nD) (k : CK) (r u : ℕ) : (Rd X).amount (cell c k) r u = amountK k := by
  show (match kindOf (semOf k) with | some k => amountK k | none => 1) = _
  rw [kindOf_semOf]
theorem payload_cell (c : Dev nD) (k : CK) (r u : ℕ) : (Rd X).payload (cell c k) r u = payloadK X c k r u := by
  show (match kindOf (semOf k) with | some k => payloadK X c k r u | none => iprop(emp)) = _
  rw [kindOf_semOf]
theorem expect_cell (c : Dev nD) (k : CK) (r : ℕ) : (Rd X).expect (cell c k) r = (dutiesK k r).card * amountK k := by
  unfold Schedule.expect Schedule.amountOf
  rw [duties_cell, Finset.sum_congr rfl fun u _ => amount_cell X c k r u, Finset.sum_const, smul_eq_mul]

/-! ### The transfers of step `t` -/

theorem sends_eq (ρ : Bool) (j : Fin 2) (t : ℕ) : sends ρ j t = true ↔ t ≤ 14 ∨ j = lastHalf ρ := by
  unfold sends; rw [Bool.or_eq_true, decide_eq_true_iff, decide_eq_true_iff]

theorem duty_send (c : Dev nD) (ρ : Bool) (j : Fin 2) (t : ℕ) (ht : t ≤ 15) (hs : sends ρ j t = true) :
    (Rd X).duties (cell c (kSend ρ (slotOf t) j)) (t / 2) = {0} := by
  rw [duties_cell]
  refine if_pos ?_
  rw [sends_eq] at hs
  unfold nR
  have : (slotOf t = 0) ↔ t % 2 = 0 := by unfold slotOf; rw [Fin.ext_iff]; rfl
  by_cases h : t % 2 = 0
  · rw [if_pos (by rw [decide_eq_true (this.mpr h)])]; omega
  · rw [if_neg (by rw [decide_eq_false (fun h' => h (this.mp h'))]; decide)]
    split
    · omega
    · rcases hs with hs | hs
      · omega
      · contradiction
theorem duty_recv (c : Dev nD) (ρ : Bool) (j : Fin 2) (t : ℕ) (ht : t ≤ 15) (hs : sends ρ j t = true) :
    (Rd X).duties (cell c (kRecv ρ (slotOf (t + 1)) j)) (t / 2) = {0} := by
  rw [duties_cell]
  refine if_pos ?_
  rw [sends_eq] at hs
  unfold nR
  have : (slotOf (t + 1) = 0) ↔ (t + 1) % 2 = 0 := by unfold slotOf; rw [Fin.ext_iff]; rfl
  by_cases h : t % 2 = 0
  · rw [if_pos (by rw [decide_eq_false (fun h' => by have := this.mp h'; omega)])]; omega
  · rw [if_neg (by rw [decide_eq_true (this.mpr (by omega))]; decide)]
    split
    · omega
    · rcases hs with hs | hs
      · omega
      · contradiction

theorem payload_send (c : Dev nD) (ρ : Bool) (j : Fin 2) (t : ℕ) (u : ℕ) :
    (Rd X).payload (cell c (kSend ρ (slotOf t) j)) (t / 2) u = sendPay X ρ j c t := by
  rw [payload_cell]
  show sendPay X ρ j c (2 * (t / 2) + t % 2) = _
  congr 1; omega
theorem payload_recv (c : Dev nD) (ρ : Bool) (j : Fin 2) (t : ℕ) (u : ℕ) :
    (Rd X).payload (cell c (kRecv ρ (slotOf (t + 1)) j)) (t / 2) u = recvPay X ρ j c (t + 1) := by
  rw [payload_cell]
  show recvPay X ρ j c (2 * (t / 2) + 2 - (t + 1) % 2) = _
  congr 1; omega

theorem expect_send (c : Dev nD) (ρ : Bool) (j : Fin 2) (t : ℕ) (ht : t ≤ 15) (hs : sends ρ j t = true) :
    (Rd X).expect (cell c (kSend ρ (slotOf t) j)) (t / 2) = NN := by
  rw [expect_cell, ← duties_cell X c, duty_send X c ρ j t ht hs, Finset.card_singleton, one_mul]; rfl
theorem expect_recv (c : Dev nD) (ρ : Bool) (j : Fin 2) (t : ℕ) (ht : t ≤ 15) (hs : sends ρ j t = true) :
    (Rd X).expect (cell c (kRecv ρ (slotOf (t + 1)) j)) (t / 2) = NN := by
  rw [expect_cell, ← duties_cell X c, duty_recv X c ρ j t ht hs, Finset.card_singleton, one_mul]; rfl

/-- A cell's duties end with its last round. -/
theorem duties_after (c : Dev nD) (k : CK) (R : ℕ)
    (hR : match k with | none => 1 ≤ R | some (.inl _) => 1 ≤ R | some (.inr (sd, ρ, s, j)) => nR sd ρ s j ≤ R) :
    ∀ r, R ≤ r → (Rd X).duties (cell c k) r = ∅ := by
  intro r hr
  rw [duties_cell]
  rcases k with _ | ⟨ρ, j⟩ | ⟨sd, ρ, s, j⟩
  · exact if_neg (by dsimp only at hR; omega)
  · exact if_neg (by dsimp only at hR; omega)
  · exact if_neg (by dsimp only at hR; omega)

/-! ## What a device owes, in the order it pays -/

abbrev Pay : Type := GSem nD τ sig × ℕ × ℕ

/-- The debt a list of payments (cell, index, units) still to make amounts to. -/
def oweL : List Pay → CellTallies nD τ sig ℕ
  | [] => 0
  | p :: l => oweL l + tallyAt p.1 p.2.1 p.2.2

/-- Is every payment of the list made at an index above `n`? -/
def good (n : ℕ) (l : List Pay) : Prop := ∀ p ∈ l, n < p.2.1 ∧ p.1.1.2 = .tc ∧ p.2.1 < 40

theorem good_cons {n : ℕ} {p : Pay} {l : List Pay} : good n (p :: l) ↔ (n < p.2.1 ∧ p.1.1.2 = .tc ∧ p.2.1 < 40) ∧ good n l :=
  List.forall_mem_cons
theorem good_mono {m n : ℕ} {l : List Pay} (h : m ≤ n) (hl : good n l) : good m l := fun p hp => ⟨by have := (hl p hp).1; omega, (hl p hp).2⟩

theorem oweL_pos {l : List Pay} {g : GSem nD τ sig} {i : ℕ} (h : 0 < oweL l g i) : ∃ p ∈ l, p.1 = g ∧ p.2.1 = i := by
  induction l with
  | nil => exact absurd h (Nat.lt_irrefl 0)
  | cons p l ih =>
    unfold oweL at h
    rw [Pi.add_apply, Finsupp.add_apply, tallyAt_apply] at h
    by_cases hp : g = p.1 ∧ i = p.2.1
    · exact ⟨p, List.mem_cons_self, hp.1.symm, hp.2.symm⟩
    · rw [if_neg hp, Nat.add_zero] at h
      obtain ⟨q, hq, h'⟩ := ih h
      exact ⟨q, List.mem_cons_of_mem _ hq, h'⟩

def lv (_ : GSem nD τ sig) (i : ℕ) : ℕ := i
def L (g : GSem nD τ sig) : Finset ℕ := if g.1.2 = .tc then Finset.range 40 else ∅

theorem L_of_ne (g : GSem nD τ sig) (h : g.1.2 ≠ .tc) : L g = ∅ := if_neg h
theorem L_tc (c : Dev nD) (sm : SemLoc sig) : L ((c : Thread nD τ), sm) = Finset.range 40 := if_pos rfl

theorem mayWait (c : Dev nD) (sm : SemLoc sig) (n : ℕ) (hn : n < 40) (l : List Pay) (hl : good n l) :
    (levAts L lv : sProp 𝕄) ⊢ MayWait (c : Thread nD τ) sm n (oweL l) :=
  MayOwe.of_cut (L := L) (lev := lv) n
    (fun p hp => by rw [Finset.mem_singleton.mp hp, L_tc]; exact Finset.mem_range.mpr hn)
    (fun g u hg => by
      obtain ⟨p, hp, rfl, rfl⟩ := oweL_pos hg
      rw [L, if_pos (hl p hp).2.1]; exact Finset.mem_range.mpr (hl p hp).2.2)
    (fun p hp => by rw [Finset.mem_singleton.mp hp]; exact le_refl n)
    (fun g u hg => by obtain ⟨p, hp, rfl, rfl⟩ := oweL_pos hg; exact (hl p hp).1)

end Cert.KernelIdeal.RingProof
-- ==== Proof.KI.Acts.lean ====
/-
# One act at a time

For each of the kernel's acts, a symbolic device's step through it: what it hands in and what it gets back.
-/
module

public import proofs.«01_k».proof.Proof.KI.Sched

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The weakest precondition of device `c`'s run of `p`. -/
abbrev wpK (c : Dev nD) (p : PG F) (Q : PUnit → sProp 𝕄) : sProp 𝕄 :=
  wp frame (wpE (defs₀ (F := F)) 𝒱₀ (c : Thread nD τ) none) Set.univ p Q

variable (X : Dev nD → Vec F S256x8192 .f32) (κ : Dev nD × CK → ℕ) (ιs : KK → ℕ)

/-- What every device knows: every cell's and every slot's invariant, and the levels. -/
def ctx : sProp 𝕄 :=
  iprop(bigSep Finset.univ (fun p : Dev nD × CK => cellInv ER (Rd X) (κ p) (cell p.1 p.2))
    ∗ bigSep Finset.univ (fun k : KK => slotInv ES (ιs k) k (slotPts k.2.1 k.2.2.2 k.2.2.1 k.1)) ∗ levAts L lv)

instance : DecidableEq CK := inferInstance
instance ctx_persistent : BI.Persistent (ctx X κ ιs) := by unfold ctx; infer_instance

omit [FloatOps F] in
theorem ctx_cell (c : Dev nD) (k : CK) : ctx X κ ιs ⊢ cellInv ER (Rd X) (κ (c, k)) (cell c k) := by
  unfold ctx
  iintro ⟨H, -, -⟩
  have h : bigSep Finset.univ (fun p : Dev nD × CK => cellInv ER (Rd X) (κ p) (cell p.1 p.2)) ⊢ cellInv ER (Rd X) (κ (c, k)) (cell c k) :=
    bigSep_elim (Finset.mem_univ (c, k))
  iapply h; iexact H
omit [FloatOps F] in
theorem ctx_slot (c : Dev nD) (ρ : Bool) (s j : Fin 2) : ctx X κ ιs ⊢ slotInv ES (ιs (c, ρ, j, s)) (c, ρ, j, s) (slotPts ρ s j c) := by
  unfold ctx
  iintro ⟨-, H, -⟩
  have h : bigSep Finset.univ (fun k : KK => slotInv ES (ιs k) k (slotPts (F := F) k.2.1 k.2.2.2 k.2.2.1 k.1)) ⊢ slotInv ES (ιs (c, ρ, j, s)) (c, ρ, j, s) (slotPts ρ s j c) :=
    bigSep_elim (Finset.mem_univ (c, ρ, j, s))
  iapply h; iexact H
omit [FloatOps F] in
theorem ctx_lev : ctx X κ ιs ⊢ (levAts L lv : sProp 𝕄) := by
  unfold ctx
  iintro ⟨-, -, H⟩; iexact H

omit [FloatOps F] in
theorem ctx_mayWait (c : Dev nD) (sm : SemLoc sig) (n : ℕ) (hn : n < 40) (l : List Pay) (hl : good n l) :
    ctx X κ ιs ⊢ MayWait (c : Thread nD τ) sm n (oweL l) :=
  (@ctx_lev F X κ ιs).trans (@mayWait F c sm n hn l hl)

/-- Device `c` still owes the payments of `l`. -/
def ow (c : Dev nD) (l : List Pay) : sProp 𝕄 := iprop(∃ W : Waits sig ℕ, owes (c : Thread nD τ) (oweL l) W)

variable (c : Dev nD) {Q : PUnit → sProp (MT nD τ sig ℕ (Elt F) ℕ UU ℕ)}

/-! ### Waits for a transfer -/

/-- A wait for the whole of a cell's open round. -/
theorem wait_cell (k : CK) (r n : ℕ) (w : TpuEff nD τ sig (Elt F) Λ₀ .tc PUnit) (kk : ℕ)
    (hw : ∀ K : PUnit → sProp 𝕄, wpE (defs₀ (F := F)) 𝒱₀ (c : Thread nD τ) none Set.univ w K = waitSpec (c : Thread nD τ) Set.univ (semOf k) kk K)
    (hk : (Rd X).expect (cell c k) r = kk) (hn : n < 40) (l : List Pay) (hl : good n l) (kont : PUnit → PG F) :
    iprop(ctx X κ ιs ∗ cred (tallyAt (cell c k) n kk) ∗ ow c l ∗ atPos ER (cell c k) r ∅ 0)
      ⊢ iprop(((ow c l ∗ atPos ER (cell c k) (r + 1) ∅ 0 ∗ reached ER (cell c k) (r + 1)
          ∗ bigSep ((Rd X).duties (cell c k) r) (fun u => (Rd X).payload (cell c k) r u)) -∗ wpK c (kont ⟨⟩) Q)
        -∗ wpK c (.op w kont) Q) := by
  unfold ow
  iintro ⟨#H, Hc, ⟨%W, HO⟩, Hat⟩ Hk
  iapply (Rounds.wp_wait_rest_token 𝒱₀ ER (Rd X) (c : Thread nD τ) none (sm := semOf k) (k' := kk) (κ := κ (c, k)) hw (Set.mem_univ _) n (O := oweL l) (W := W) (R := r)
    (m := 0) (T := ∅) (by rw [Nat.zero_add]; exact hk.symm)) $$ [Hc HO Hat]
  · isplitr; · iapply (ctx_cell X κ ιs c k); iexact H
    isplitl [Hc]; · iexact Hc
    isplitl [HO]; · iexact HO
    isplitr; · iapply (ctx_mayWait X κ ιs c (semOf k) n hn l hl); iexact H
    iexact Hat
  iintro ⟨HO, Hat, Hr, Hpay⟩
  iapply Hk
  isplitl [HO]; · iexists (insert (semOf k, n) W); iexact HO
  isplitl [Hat]; · iexact Hat
  isplitl [Hr]; · iexact Hr
  rw [Finset.sdiff_empty]; iexact Hpay

/-- Waiting for the arrival of step `t`'s transfer. -/
theorem wp_waitR (ρ : Bool) (j : Fin 2) (t n : ℕ) (s' : Fin 2) (ht : t ≤ 15) (hs : sends ρ j t = true) (hn : n < 40) (l : List Pay) (hl : good n l) (k : PG F) :
    iprop(ctx X κ ιs ∗ cred (tallyAt (cell c (kRecv ρ (slotOf (t + 1)) j)) n NN) ∗ ow c l ∗ atPos ER (cell c (kRecv ρ (slotOf (t + 1)) j)) (t / 2) ∅ 0)
      ⊢ iprop(((ow c l ∗ atPos ER (cell c (kRecv ρ (slotOf (t + 1)) j)) (t / 2 + 1) ∅ 0 ∗ reached ER (cell c (kRecv ρ (slotOf (t + 1)) j)) (t / 2 + 1)
          ∗ recvPay X ρ j c (t + 1)) -∗ wpK c k Q) -∗ wpK c (waitR ρ (slotOf (t + 1)) s' j k) Q) := by
  have h := wait_cell X κ ιs c (Q := Q) (kRecv ρ (slotOf (t + 1)) j) (t / 2) n
    (.waitDma2 (recvS ρ (slotOf (t + 1)) j) (halfM ρ s' j) (halfM ρ (slotOf (t + 1)) j) (half_wordExact ρ s' j) (half_wordExact ρ (slotOf (t + 1)) j)) NN
    (by have h := wpE_waitDma2_eq (defs := defs₀ (F := F)) (Name := ℕ) (U := UU) (Lvl := ℕ) (Ix := ℕ) 𝒱₀ (c : Thread nD τ) none Set.univ
          (sem := recvS ρ (slotOf (t + 1)) j) (src := halfM ρ s' j) (dst := halfM ρ (slotOf (t + 1)) j) (hsrc := half_wordExact ρ s' j) (hdst := half_wordExact ρ (slotOf (t + 1)) j)
        rw [half_credit] at h; exact h)
    (expect_recv X c ρ j t ht hs) hn l hl (fun _ => k)
  rw [duty_recv X c ρ j t ht hs, bigSep_singleton, payload_recv] at h
  exact h

/-- Waiting for the departure of step `t`'s transfer. -/
theorem wp_waitS (ρ : Bool) (j : Fin 2) (t : ℕ) (s' : Fin 2) (ht : t ≤ 15) (hs : sends ρ j t = true) (l : List Pay) (hl : good 0 l) (k : PG F) :
    iprop(ctx X κ ιs ∗ cred (tallyAt (cell c (kSend ρ (slotOf t) j)) 0 NN) ∗ ow c l ∗ atPos ER (cell c (kSend ρ (slotOf t) j)) (t / 2) ∅ 0)
      ⊢ iprop(((ow c l ∗ atPos ER (cell c (kSend ρ (slotOf t) j)) (t / 2 + 1) ∅ 0 ∗ reached ER (cell c (kSend ρ (slotOf t) j)) (t / 2 + 1)
          ∗ sendPay X ρ j c t) -∗ wpK c k Q) -∗ wpK c (waitS ρ (slotOf t) s' j k) Q) := by
  have h := wait_cell X κ ιs c (Q := Q) (kSend ρ (slotOf t) j) (t / 2) 0
    (.waitDma2 (sendS ρ (slotOf t) j) (halfM ρ s' j) (halfM ρ (slotOf t) j) (half_wordExact ρ s' j) (half_wordExact ρ (slotOf t) j)) NN
    (by have h := wpE_waitDma2_eq (defs := defs₀ (F := F)) (Name := ℕ) (U := UU) (Lvl := ℕ) (Ix := ℕ) 𝒱₀ (c : Thread nD τ) none Set.univ
          (sem := sendS ρ (slotOf t) j) (src := halfM ρ s' j) (dst := halfM ρ (slotOf t) j) (hsrc := half_wordExact ρ s' j) (hdst := half_wordExact ρ (slotOf t) j)
        rw [half_credit] at h; exact h)
    (expect_send X c ρ j t ht hs) (by decide) l hl (fun _ => k)
  rw [duty_send X c ρ j t ht hs, bigSep_singleton, payload_send] at h
  exact h

theorem wp_waitX (ρ : Bool) (j : Fin 2) (l : List Pay) (hl : good 0 l) (k : PG F) :
    iprop(ctx X κ ιs ∗ cred (tallyAt (cell c (kSend ρ 0 j)) 0 NN) ∗ ow c l ∗ atPos ER (cell c (kSend ρ 0 j)) 0 ∅ 0)
      ⊢ iprop(((ow c l ∗ atPos ER (cell c (kSend ρ 0 j)) 1 ∅ 0 ∗ reached ER (cell c (kSend ρ 0 j)) 1
          ∗ xPts j c (xShare ρ) (X c)) -∗ wpK c k Q) -∗ wpK c (waitX ρ j k) Q) := by
  have h := wait_cell X κ ιs c (Q := Q) (kSend ρ (slotOf 0) j) (0 / 2) 0
    (.waitDma2 (sendS ρ 0 j) (halfM ρ 1 j) (xHalfM j) (half_wordExact ρ 1 j) (xHalf_wordExact j)) NN
    (by have h := wpE_waitDma2_eq (defs := defs₀ (F := F)) (Name := ℕ) (U := UU) (Lvl := ℕ) (Ix := ℕ) 𝒱₀ (c : Thread nD τ) none Set.univ
          (sem := sendS ρ 0 j) (src := halfM ρ 1 j) (dst := xHalfM j) (hsrc := half_wordExact ρ 1 j) (hdst := xHalf_wordExact j)
        rw [xHalf_credit] at h; exact h)
    (expect_send X c ρ j 0 (by decide) rfl) (by decide) l hl (fun _ => k)
  rw [duty_send X c ρ j 0 (by decide) rfl, bigSep_singleton, payload_send] at h
  exact h

/-! ### Transfers -/

theorem wp_sendB (ρ : Bool) (j : Fin 2) (t : ℕ) (h1 : 1 ≤ t) (ht : t ≤ 15) (hs : sends ρ j t = true) (l : List Pay) (k : PG F) :
    iprop(ctx X κ ιs ∗ halfPts ρ (slotOf t) j c fullShare.left (X (orig ρ c t)) ∗ slotPts ρ (slotOf (t + 1)) j (tgt ρ c)
        ∗ ow c ((cell (tgt ρ c) (kRecv ρ (slotOf (t + 1)) j), t + 2, NN) :: l)
        ∗ dutyTok ER (cell c (kSend ρ (slotOf t) j)) (t / 2) 0 ∗ reached ER (cell c (kSend ρ (slotOf t) j)) (t / 2)
        ∗ dutyTok ER (cell (tgt ρ c) (kRecv ρ (slotOf (t + 1)) j)) (t / 2) 0 ∗ reached ER (cell (tgt ρ c) (kRecv ρ (slotOf (t + 1)) j)) (t / 2))
      ⊢ iprop(((cred (tallyAt (cell c (kSend ρ (slotOf t) j)) 0 NN) ∗ ow c l) -∗ wpK c k Q)
          -∗ wpK c (sendB (tgt ρ c) ρ (slotOf t) (slotOf (t + 1)) j k) Q) := by
  unfold ow slotPts slot
  iintro ⟨#H, Hs, ⟨%fd, Hd⟩, ⟨%W, HO⟩, Ht1, Hr1, Ht2, Hr2⟩ Hk
  iapply (Rounds.wp_send_pointsTo 𝒱₀ ER (Rd X) (c : Thread nD τ) none (κ₁ := κ (c, kSend ρ (slotOf t) j)) (κ₂ := κ (tgt ρ c, kRecv ρ (slotOf (t + 1)) j))
    (c' := (tgt ρ c : Thread nD τ)) (src := halfM ρ (slotOf t) j) (dst := halfM ρ (slotOf (t + 1)) j)
    (r₁ := t / 2) (r₂ := t / 2) (d₁ := 0) (d₂ := 0) (q := fullShare.left) (fs := bufH ρ (slotOf t) j c (X (orig ρ c t))) (fd := fd)
    (sS := semOf (kSend ρ (slotOf t) j)) (sem := semOf (kRecv ρ (slotOf (t + 1)) j))
    (by rw [duty_send X c ρ j t ht hs]; exact Finset.mem_singleton_self _)
    (by rw [duty_recv X (tgt ρ c) ρ j t ht hs]; exact Finset.mem_singleton_self _)
    (t + 2) 0 NN (half_credit ρ (slotOf (t + 1)) j) (amount_cell X _ _ _ _) (amount_cell X _ _ _ _) (oweL l) rfl (W := W)
    (by rw [payload_send]; unfold sendPay; rw [if_neg (by omega)]; unfold halfPts; exact BI.Entails.refl _)
    (by rw [payload_recv, read_half]; unfold recvPay; rw [orig_tgt ρ c t (by omega)]; exact write_half ρ (slotOf (t + 1)) j (tgt ρ c) (X (orig ρ c t)) fd)) $$ [Hs Hd HO Ht1 Hr1 Ht2 Hr2]
  · isplitr; · iapply (ctx_cell X κ ιs c (kSend ρ (slotOf t) j)); iexact H
    isplitr; · iapply (ctx_cell X κ ιs (tgt ρ c) (kRecv ρ (slotOf (t + 1)) j)); iexact H
    isplitl [Hs]; · unfold halfPts; iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

theorem wp_sendX (ρ : Bool) (j : Fin 2) (l : List Pay) (k : PG F) :
    iprop(ctx X κ ιs ∗ xPts j c (xShare ρ) (X c) ∗ slotPts ρ 1 j (tgt ρ c)
        ∗ ow c ((cell (tgt ρ c) (kRecv ρ 1 j), 2, NN) :: l)
        ∗ dutyTok ER (cell c (kSend ρ 0 j)) 0 0 ∗ reached ER (cell c (kSend ρ 0 j)) 0
        ∗ dutyTok ER (cell (tgt ρ c) (kRecv ρ 1 j)) 0 0 ∗ reached ER (cell (tgt ρ c) (kRecv ρ 1 j)) 0)
      ⊢ iprop(((cred (tallyAt (cell c (kSend ρ 0 j)) 0 NN) ∗ ow c l) -∗ wpK c k Q)
          -∗ wpK c (sendX (tgt ρ c) ρ j k) Q) := by
  unfold ow slotPts slot
  iintro ⟨#H, Hs, ⟨%fd, Hd⟩, ⟨%W, HO⟩, Ht1, Hr1, Ht2, Hr2⟩ Hk
  iapply (Rounds.wp_send_pointsTo 𝒱₀ ER (Rd X) (c : Thread nD τ) none (κ₁ := κ (c, kSend ρ 0 j)) (κ₂ := κ (tgt ρ c, kRecv ρ 1 j))
    (c' := (tgt ρ c : Thread nD τ)) (src := xHalfM j) (dst := halfM ρ 1 j)
    (r₁ := 0) (r₂ := 0) (d₁ := 0) (d₂ := 0) (q := xShare ρ) (fs := bufX j c (X c)) (fd := fd)
    (sS := semOf (kSend ρ 0 j)) (sem := semOf (kRecv ρ 1 j))
    (by have h := duty_send X c ρ j 0 (by decide) rfl; exact h ▸ Finset.mem_singleton_self (0 : ℕ))
    (by have h := duty_recv X (tgt ρ c) ρ j 0 (by decide) rfl; exact h ▸ Finset.mem_singleton_self (0 : ℕ))
    2 0 NN (half_credit ρ 1 j) (amount_cell X _ _ _ _) (amount_cell X _ _ _ _) (oweL l) rfl (W := W)
    (by rw [show (Rd X).payload (cell c (kSend ρ 0 j)) 0 0 = _ from payload_send X c ρ j 0 0]; unfold sendPay; rw [if_pos rfl]; unfold xPts; exact BI.Entails.refl _)
    (by rw [show (Rd X).payload (cell (tgt ρ c) (kRecv ρ 1 j)) 0 0 = _ from payload_recv X (tgt ρ c) ρ j 0 0, read_xHalf]; unfold recvPay
        rw [orig_tgt ρ c 0 (by omega), orig_zero]; exact write_half ρ 1 j (tgt ρ c) (X c) fd)) $$ [Hs Hd HO Ht1 Hr1 Ht2 Hr2]
  · isplitr; · iapply (ctx_cell X κ ιs c (kSend ρ 0 j)); iexact H
    isplitr; · iapply (ctx_cell X κ ιs (tgt ρ c) (kRecv ρ 1 j)); iexact H
    isplitl [Hs]; · unfold xPts; iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-! ### Signals -/

theorem wp_signalK (d : Dev nD) (k : CK) (s : Sem sig) (hsem : semOf k = .reg s) (r u n : ℕ) (hu : u ∈ dutiesK k r) (ha : amountK k = 1) (l : List Pay) (kont : PG F) :
    iprop(ctx X κ ιs ∗ ow c ((cell d k, n, 1) :: l) ∗ dutyTok ER (cell d k) r u ∗ payloadK X d k r u ∗ reached ER (cell d k) r)
      ⊢ iprop((ow c l -∗ wpK c kont Q) -∗ wpK c (signalC d s kont) Q) := by
  have hc : cell d k = ((d : Thread nD τ), .reg s) := by unfold cell; rw [hsem]
  have hd := duties_cell X d k r
  have hp := payload_cell X d k r u
  have hi := ctx_cell X κ ιs d k
  have hm := amount_cell X d k r u
  rw [hc] at hd hp hi hm ⊢
  unfold ow
  iintro ⟨#H, ⟨%W, HO⟩, Ht, Hpay, Hr⟩ Hk
  iapply (Rounds.wp_signal 𝒱₀ ER (Rd X) (c : Thread nD τ) none (dst := (d : Thread nD τ)) (κ := κ (d, k)) (r := r) (d := u)
    (by rw [hd]; exact hu) (hm.trans (ha.trans (by decide : 1 = (1#32 : BitVec 32).toInt.toNat))) n (oweL l) (O₀ := oweL ((((d : Thread nD τ), .reg s), n, 1) :: l)) rfl (W := W)) $$ [HO Ht Hpay Hr]
  · isplitr; · iapply hi; iexact H
    isplitl [HO]; · iexact HO
    isplitl [Ht]; · iexact Ht
    isplitl [Hpay]; · rw [hp]; iexact Hpay
    iexact Hr
  iintro HO
  iapply Hk
  iexists W; iexact HO

end Cert.KernelIdeal.RingProof
-- ==== Proof.KI.Lane.lean ====
/-
# A lane: one half of one ring

A lane (a ring and a half) runs the same step fifteen times after the first: take a credit, wait for the half block, send
it on, and once the step's products are stored wait for the transfer and hand the slot back. `laneSt` is what a lane
holds before step `t`.
-/
module

public import proofs.«01_k».proof.Proof.KI.Acts
public import Idealize.SL.BI.BigOpNat

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x8192 .f32) (κ : Dev nD × CK → ℕ) (ιs : KK → ℕ)

/-! ## Credits -/

/-- `n` credits taken. -/
def credSt (c : Dev nD) (ρ : Bool) (j : Fin 2) (n : ℕ) : sProp 𝕄 :=
  iprop(∃ S : Finset ℕ, ⌜S ⊆ Finset.range 15 ∧ n ≤ S.card⌝ ∗ atPos ER (cell c (kCred ρ j)) 0 S n ∗ bigSep S (fun u => credPay c ρ j u))

omit [FloatOps F] in
/-- With more than `n` credits' evidence in hand, the slot for step `n + 1` is known to be free. -/
theorem credPay_ev (c : Dev nD) (ρ : Bool) (j : Fin 2) (n : ℕ) (S : Finset ℕ) (hS : n + 1 ≤ S.card) :
    bigSep S (fun u => credPay c ρ j u) ⊢ (ev (tgt ρ c) ρ j (n + 1) : sProp 𝕄) := by
  obtain ⟨u, hu, hun⟩ : ∃ u ∈ S, n ≤ u := by
    by_contra h
    push Not at h
    have : S ⊆ Finset.range n := fun u hu => Finset.mem_range.mpr (h u hu)
    have := Finset.card_le_card this
    rw [Finset.card_range] at this; omega
  have hel : bigSep S (fun u => credPay c ρ j u) ⊢ (credPay c ρ j u : sProp 𝕄) := bigSep_elim hu
  iintro H
  ihave H2 := hel $$ H
  unfold credPay
  icases H2 with ⟨H1, H0⟩
  by_cases h : (n + 1) % 2 = (u + 1) % 2
  · iapply (ev_mono (tgt ρ c) ρ j (show n + 1 ≤ u + 1 by omega) h); iexact H1
  · iapply (ev_mono (tgt ρ c) ρ j (show n + 1 ≤ u by omega) (by omega)); iexact H0

variable (c : Dev nD) {Q : PUnit → sProp (MT nD τ sig ℕ (Elt F) ℕ UU ℕ)}

theorem wp_waitCred (ρ : Bool) (j : Fin 2) (n i : ℕ) (hi : i < 40) (l : List Pay) (hl : good i l) (k : PG F) :
    iprop(ctx X κ ιs ∗ cred (tallyAt (cell c (kCred ρ j)) i 1) ∗ ow c l ∗ credSt c ρ j n)
      ⊢ iprop(((ow c l ∗ credSt c ρ j (n + 1) ∗ ev (tgt ρ c) ρ j (n + 1)) -∗ wpK c k Q) -∗ wpK c (waitC (credS ρ j) 1#32 k) Q) := by
  unfold ow credSt
  iintro ⟨#H, Hc, ⟨%W, HO⟩, ⟨%S, %hS, Hat, Hp⟩⟩ Hk
  iapply (Rounds.wp_wait 𝒱₀ ER (Rd X) (c : Thread nD τ) none (sm := semOf (kCred ρ j)) (k' := 1) (κ := κ (c, kCred ρ j))
    (w := .semWait (credS ρ j) (1#32 : BitVec 32).toInt.toNat)
    (wpE_semWait_eq (defs := defs₀ (F := F)) (Name := ℕ) (U := UU) (Lvl := ℕ) (Ix := ℕ) 𝒱₀ (c : Thread nD τ) none Set.univ (sem := credS ρ j)
      (k := 1))
    (Set.mem_univ _) (cr := Finsupp.single i 1) (O := oweL l) (W := W) (R := 0) (m := n) (T := S) {(semOf (kCred ρ j), i)}
    (by rw [Util.total_single]) (image_single_subset (semOf (kCred ρ j)) i 1)) $$ [Hc HO Hat]
  · isplitr; · iapply (ctx_cell X κ ιs c (kCred ρ j)); iexact H
    isplitl [Hc]; · iexact Hc
    isplitl [HO]; · iexact HO
    isplitr; · iapply (ctx_mayWait X κ ιs c (semOf (kCred ρ j)) i hi l hl); iexact H
    iexact Hat
  iintro %S' ⟨%hS', HO, Hat, Hp'⟩
  have hdut : (Rd X).duties (cell c (kCred ρ j)) 0 = Finset.range 15 := by rw [duties_cell]; rfl
  have hexp : (Rd X).expect (cell c (kCred ρ j)) 0 = 15 := by rw [expect_cell]; rfl
  obtain ⟨h1, h2, h3⟩ := hS'
  rw [show ((c : Thread nD τ), semOf (kCred ρ j)) = cell c (kCred ρ j) from rfl, hdut] at h2
  rw [show ((c : Thread nD τ), semOf (kCred ρ j)) = cell c (kCred ρ j) from rfl, hexp, hdut] at h3
  have hcard : n + 1 ≤ S'.card := by
    have := Finset.card_sdiff_add_card_eq_card h2
    rw [Finset.card_range] at this; omega
  have hnew : bigSep (S' \ S) (fun u => (Rd X).payload (cell c (kCred ρ j)) 0 u) ⊢ (bigSep (S' \ S) (fun u => credPay c ρ j u) : sProp 𝕄) :=
    bigSep_mono fun u _ => Entails.of_eq (payload_cell X c (kCred ρ j) 0 u)
  have hall : iprop(bigSep (S' \ S) (fun u => credPay c ρ j u) ∗ bigSep S (fun u => credPay c ρ j u)) ⊢ (bigSep S' (fun u => credPay c ρ j u) : sProp 𝕄) := by
    have h := bigSep_sep_union (M := 𝕄) (Φ := fun u => credPay c ρ j u) (S' \ S) S
    rwa [Finset.sdiff_union_of_subset h1] at h
  ihave Hp2 := hnew $$ Hp'
  ihave #Hp3 := hall $$ [Hp2 Hp]
  · isplitl [Hp2] <;> iassumption
  iapply Hk
  isplitl [HO]; · iexists (W ∪ {(semOf (kCred ρ j), i)}); iexact HO
  isplitl [Hat]
  · iexists S'
    isplitr; · ipureintro; exact ⟨h2, hcard⟩
    isplitl [Hat]; · iexact Hat
    iexact Hp3
  iapply (credPay_ev c ρ j n S' hcard); iexact Hp3

/-! ## The lane's state -/

/-- Step `t`'s tokens: for its send, for its arrival at the next device, for the slot written there, for the credit it gives. -/
def laneTok (ρ : Bool) (j : Fin 2) (t : ℕ) : sProp 𝕄 :=
  iprop(dutyTok ER (cell c (kSend ρ (slotOf t) j)) (t / 2) 0
    ∗ dutyTok ER (cell (tgt ρ c) (kRecv ρ (slotOf (t + 1)) j)) (t / 2) 0
    ∗ (if sends ρ j t = true then writeTok ES (tgt ρ c, ρ, j, slotOf (t + 1)) (t / 2 + 1) else iprop(emp))
    ∗ dutyTok ER (cell (tgt (!ρ) c) (kCred ρ j)) 0 t)
/-- What step `t` may wait for. -/
def laneCr (ρ : Bool) (j : Fin 2) (t : ℕ) : sProp 𝕄 :=
  iprop(cred (tallyAt (cell c (kCred ρ j)) (t + 1) 1) ∗ cred (tallyAt (cell c (kRecv ρ (slotOf t) j)) (t + 1) NN))
def laneRes (ρ : Bool) (j : Fin 2) (t : ℕ) : sProp 𝕄 := iprop(laneTok c ρ j t ∗ laneCr c ρ j t)
/-- Left for the end: the last arrival's wait, or the token to take slot 0 back. -/
def laneFin (ρ : Bool) (j : Fin 2) : sProp 𝕄 :=
  if j = lastHalf ρ then cred (tallyAt (cell c (kRecv ρ 0 j)) 17 NN) else writeTok ES (c, ρ, j, 0) 8

/-- A lane before step `t` (1 ≤ t ≤ 15). -/
def laneSt (ρ : Bool) (j : Fin 2) (t : ℕ) : sProp 𝕄 :=
  iprop(atPos ER (cell c (kSend ρ (slotOf t) j)) (t / 2) ∅ 0 ∗ reached ER (cell c (kSend ρ (slotOf t) j)) (t / 2)
    ∗ atPos ER (cell c (kSend ρ (slotOf (t + 1)) j)) ((t + 1) / 2) ∅ 0 ∗ reached ER (cell c (kSend ρ (slotOf (t + 1)) j)) ((t + 1) / 2)
    ∗ atPos ER (cell c (kRecv ρ (slotOf t) j)) ((t - 1) / 2) ∅ 0 ∗ atPos ER (cell c (kRecv ρ (slotOf (t + 1)) j)) (t / 2) ∅ 0
    ∗ readerAt ES (c, ρ, j, slotOf t) ((t - 1) / 2 + 1) ∗ readerAt ES (c, ρ, j, slotOf (t + 1)) (t / 2 + 1)
    ∗ credSt c ρ j (t - 1) ∗ ev c ρ j t ∗ reached ER (cell (tgt (!ρ) c) (kCred ρ j)) 0
    ∗ laneFin c ρ j ∗ bigSep (Finset.Ico t 16) (fun t => laneRes c ρ j t))

/-- A lane in the middle of step `t`: its half block is in the slot, a share of it lent to the transfer. -/
def laneMid (ρ : Bool) (j : Fin 2) (t : ℕ) : sProp 𝕄 :=
  iprop((if sends ρ j t = true then cred (tallyAt (cell c (kSend ρ (slotOf t) j)) 0 NN) else halfPts ρ (slotOf t) j c fullShare.left (X (orig ρ c t)))
    ∗ atPos ER (cell c (kSend ρ (slotOf t) j)) (t / 2) ∅ 0
    ∗ atPos ER (cell c (kSend ρ (slotOf (t + 1)) j)) ((t + 1) / 2) ∅ 0 ∗ reached ER (cell c (kSend ρ (slotOf (t + 1)) j)) ((t + 1) / 2)
    ∗ atPos ER (cell c (kRecv ρ (slotOf t) j)) ((t + 1) / 2) ∅ 0 ∗ reached ER (cell c (kRecv ρ (slotOf t) j)) ((t + 1) / 2)
    ∗ atPos ER (cell c (kRecv ρ (slotOf (t + 1)) j)) (t / 2) ∅ 0
    ∗ readerAt ES (c, ρ, j, slotOf t) ((t - 1) / 2 + 1) ∗ readerAt ES (c, ρ, j, slotOf (t + 1)) (t / 2 + 1)
    ∗ credSt c ρ j t ∗ ev c ρ j t ∗ reached ER (cell (tgt (!ρ) c) (kCred ρ j)) 0
    ∗ dutyTok ER (cell (tgt (!ρ) c) (kCred ρ j)) 0 t
    ∗ laneFin c ρ j ∗ bigSep (Finset.Ico (t + 1) 16) (fun t => laneRes c ρ j t))

/-- A lane after the last step: every cell but the last arrival's in its final round, slot 1 in hand. -/
def laneEnd (ρ : Bool) (j : Fin 2) : sProp 𝕄 :=
  iprop(atPos ER (cell c (kSend ρ 0 j)) 8 ∅ 0 ∗ atPos ER (cell c (kSend ρ 1 j)) (nR true ρ 1 j) ∅ 0
    ∗ atPos ER (cell c (kRecv ρ 0 j)) 7 ∅ 0 ∗ atPos ER (cell c (kRecv ρ 1 j)) 8 ∅ 0
    ∗ credSt c ρ j 15 ∗ ev c ρ j 15 ∗ slotPts ρ 1 j c ∗ laneFin c ρ j)

def laneAt (ρ : Bool) (j : Fin 2) (t : ℕ) : sProp 𝕄 := if t ≤ 15 then laneSt c ρ j t else laneEnd c ρ j

/-- The payments a lane makes in step `t`, before the later ones of `l`. -/
def sendPays (ρ : Bool) (j : Fin 2) (t : ℕ) (l : List Pay) : List Pay :=
  bif sends ρ j t then (cell (tgt ρ c) (kRecv ρ (slotOf (t + 1)) j), t + 2, NN) :: l else l
def sigPays (ρ : Bool) (j : Fin 2) (t : ℕ) (l : List Pay) : List Pay :=
  bif decide (t ≤ 14) then (cell (tgt (!ρ) c) (kCred ρ j), t + 2, 1) :: l else l

/-! ## A step of a lane -/

/-- The step's send, where it makes one. -/
theorem wp_sendOr (ρ : Bool) (j : Fin 2) (t : ℕ) (h1 : t ≠ 0) (ht : t ≤ 15) (l : List Pay) (k : PG F) :
    iprop(ctx X κ ιs ∗ halfPts ρ (slotOf t) j c fullShare.left (X (orig ρ c t)) ∗ ev (tgt ρ c) ρ j t
        ∗ (if sends ρ j t = true then writeTok ES (tgt ρ c, ρ, j, slotOf (t + 1)) (t / 2 + 1) else iprop(emp))
        ∗ ow c (sendPays c ρ j t l) ∗ dutyTok ER (cell c (kSend ρ (slotOf t) j)) (t / 2) 0 ∗ reached ER (cell c (kSend ρ (slotOf t) j)) (t / 2)
        ∗ dutyTok ER (cell (tgt ρ c) (kRecv ρ (slotOf (t + 1)) j)) (t / 2) 0)
      ⊢ iprop((((if sends ρ j t = true then cred (tallyAt (cell c (kSend ρ (slotOf t) j)) 0 NN) else halfPts ρ (slotOf t) j c fullShare.left (X (orig ρ c t))) ∗ ow c l)
            -∗ wpK c k Q)
          -∗ wpK c (bif sends ρ j t then sendB (tgt ρ c) ρ (slotOf t) (slotOf (t + 1)) j k else k) Q) := by
  unfold sendPays ev
  by_cases hs : sends ρ j t = true
  · rw [hs, cond_true, if_pos rfl, if_pos rfl, cond_true]
    iintro ⟨#H, Hl, ⟨#Hrel, #Hrch⟩, Htw, HO, Hts, #Hsr, Htr⟩ Hk
    imod (slot_take ES (Set.mem_univ (ιs (tgt ρ c, ρ, j, slotOf (t + 1)))) (t / 2 + 1)) $$ [Htw] with Hslot
    · isplitr; · iapply (ctx_slot X κ ιs (tgt ρ c) ρ (slotOf (t + 1)) j); iexact H
      isplitr; · iexact Hrel
      iexact Htw
    iapply (wp_sendB X κ ιs c ρ j t (Nat.pos_of_ne_zero h1) ht hs l) $$ [Hl Hslot HO Hts Htr]
    · isplitr; · iexact H
      isplitl [Hl]; · iexact Hl
      isplitl [Hslot]; · iexact Hslot
      isplitl [HO]; · iexact HO
      isplitl [Hts]; · iexact Hts
      isplitr; · iexact Hsr
      isplitl [Htr]; · iexact Htr
      iexact Hrch
    iexact Hk
  · rw [Bool.not_eq_true] at hs
    rw [hs, cond_false, if_neg Bool.false_ne_true, if_neg Bool.false_ne_true, cond_false]
    iintro ⟨#H, Hl, -, -, HO, -, -, -⟩ Hk
    iapply Hk
    isplitl [Hl] <;> iassumption

/-- The wait for the step's send, where it made one: the half slot is whole again. -/
theorem wp_waitOr (ρ : Bool) (j : Fin 2) (t : ℕ) (h1 : t ≠ 0) (ht : t ≤ 15) (l : List Pay) (hl : good 0 l) (k : PG F) :
    iprop(ctx X κ ιs ∗ halfPts ρ (slotOf t) j c fullShare.right (X (orig ρ c t))
        ∗ (if sends ρ j t = true then cred (tallyAt (cell c (kSend ρ (slotOf t) j)) 0 NN) else halfPts ρ (slotOf t) j c fullShare.left (X (orig ρ c t)))
        ∗ atPos ER (cell c (kSend ρ (slotOf t) j)) (t / 2) ∅ 0 ∗ ow c l)
      ⊢ iprop(((slotPts ρ (slotOf t) j c
            ∗ (if sends ρ j t = true then iprop(atPos ER (cell c (kSend ρ (slotOf t) j)) (t / 2 + 1) ∅ 0 ∗ reached ER (cell c (kSend ρ (slotOf t) j)) (t / 2 + 1))
                else atPos ER (cell c (kSend ρ (slotOf t) j)) (t / 2) ∅ 0) ∗ ow c l)
            -∗ wpK c k Q)
          -∗ wpK c (bif sends ρ j t then waitS ρ (slotOf t) (slotOf (t + 1)) j k else k) Q) := by
  by_cases hs : sends ρ j t = true
  · rw [hs, cond_true, if_pos rfl, if_pos rfl]
    iintro ⟨#H, Hr, Hl, Hsc, HO⟩ Hk
    iapply (wp_waitS X κ ιs c ρ j t (slotOf (t + 1)) ht hs _ hl) $$ [Hl HO Hsc]
    · isplitr; · iexact H
      isplitl [Hl]; · iexact Hl
      isplitl [HO]; · iexact HO
      iexact Hsc
    iintro ⟨HO, Hsc, #Hsr, Hpay⟩
    have hpay : sendPay X ρ j c t ⊢ halfPts ρ (slotOf t) j c fullShare.left (X (orig ρ c t)) := by
      unfold sendPay; rw [if_neg h1]
    ihave Hl := hpay $$ Hpay
    ihave Hf := (halfPts_share ρ (slotOf t) j c (X (orig ρ c t))).2 $$ [Hl Hr]
    · isplitl [Hl] <;> iassumption
    ihave Hslot := (halfPts_slot ρ (slotOf t) j c (X (orig ρ c t))) $$ Hf
    iapply Hk
    isplitl [Hslot]; · iexact Hslot
    isplitr [HO]
    · isplitl [Hsc]; · iexact Hsc
      iexact Hsr
    iexact HO
  · rw [Bool.not_eq_true] at hs
    rw [hs, cond_false, if_neg Bool.false_ne_true, if_neg Bool.false_ne_true]
    iintro ⟨#H, Hr, Hl, Hsc, HO⟩ Hk
    ihave Hf := (halfPts_share ρ (slotOf t) j c (X (orig ρ c t))).2 $$ [Hl Hr]
    · isplitl [Hl] <;> iassumption
    ihave Hslot := (halfPts_slot ρ (slotOf t) j c (X (orig ρ c t))) $$ Hf
    iapply Hk
    isplitl [Hslot]; · iexact Hslot
    isplitl [Hsc]; · iexact Hsc
    iexact HO

theorem wp_laneIn (ρ : Bool) (j : Fin 2) (t : ℕ) (h1 : 1 ≤ t) (ht : t ≤ 15) (l : List Pay) (hl : good (t + 1) (sendPays c ρ j t l)) (k : PG F) :
    iprop(ctx X κ ιs ∗ laneSt c ρ j t ∗ ow c (sendPays c ρ j t l))
      ⊢ iprop(((halfPts ρ (slotOf t) j c fullShare.right (X (orig ρ c t)) ∗ laneMid X c ρ j t ∗ ow c l) -∗ wpK c k Q)
          -∗ wpK c (laneIn (fun ρ => tgt ρ c) ρ j t k) Q) := by
  obtain ⟨u, rfl⟩ : ∃ u, t = u + 1 := ⟨t - 1, by omega⟩
  unfold laneSt laneIn laneMid
  rw [show bigSep (Finset.Ico (u + 1) 16) (fun t => laneRes c ρ j t) = iprop(laneRes c ρ j (u + 1) ∗ bigSep (Finset.Ico (u + 1 + 1) 16) (fun t => laneRes c ρ j t)) from
    bigSep_Ico_succ_bot (show u + 1 < 16 by omega) _]
  unfold laneRes laneTok laneCr
  rw [Nat.add_sub_cancel, show (u + 1 + 1) / 2 = u / 2 + 1 by omega]
  iintro ⟨#H, ⟨Hsc, #Hsr, Hso, Hsor, Hrc, Hro, Hdc, Hdo, Hcr, #Hev, #Hcrd, Hfin, ⟨⟨Hts, Htr, Htw, Htc⟩, Hc1, Hc2⟩, Hres⟩, HO⟩ Hk
  iapply (wp_waitCred X κ ιs c ρ j u (u + 1 + 1) (by omega) _ hl) $$ [Hc1 HO Hcr]
  · isplitr; · iexact H
    isplitl [Hc1]; · iexact Hc1
    isplitl [HO]; · iexact HO
    iexact Hcr
  iintro ⟨HO, Hcr, #Hpe⟩
  iapply (wp_waitR X κ ιs c ρ j u (u + 1 + 1) (slotOf (u + 1 + 1)) (by omega) ((sends_eq ρ j u).mpr (.inl (by omega))) (by omega) _ hl) $$ [Hc2 HO Hrc]
  · isplitr; · iexact H
    isplitl [Hc2]; · iexact Hc2
    isplitl [HO]; · iexact HO
    iexact Hrc
  iintro ⟨HO, Hrc, #Hrr, Hpay⟩
  have hpay : recvPay X ρ j c (u + 1) ⊢ halfPts ρ (slotOf (u + 1)) j c fullShare (X (orig ρ c (u + 1))) := Entails.of_eq rfl
  ihave Hpay1 := hpay $$ Hpay
  ihave Hpay2 := (halfPts_share ρ (slotOf (u + 1)) j c (X (orig ρ c (u + 1)))).1 $$ Hpay1
  icases Hpay2 with ⟨Hl, Hr⟩
  iapply (wp_sendOr X κ ιs c ρ j (u + 1) (Nat.succ_ne_zero u) ht l) $$ [Hl HO Hts Htr Htw]
  · isplitr; · iexact H
    isplitl [Hl]; · iexact Hl
    isplitr; · iexact Hpe
    isplitl [Htw]; · iexact Htw
    isplitl [HO]; · iexact HO
    isplitl [Hts]; · iexact Hts
    isplitr; · iexact Hsr
    iexact Htr
  iintro ⟨Hc, HO⟩
  iapply Hk
  isplitl [Hr]; · iexact Hr
  iframe
  isplitr; · iexact Hrr
  isplitr; · iexact Hev
  iexact Hcrd

omit [FloatOps F] in
theorem credPay_intro (ρ : Bool) (j : Fin 2) (t : ℕ) :
    iprop(ev c ρ j (t + 1) ∗ ev c ρ j t) ⊢ (credPay (tgt (!ρ) c) ρ j t : sProp 𝕄) := by
  unfold credPay; rw [tgt_tgt]

/-- Step `t` ends, `t ≤ 14`: the slot is handed back and the previous device told. -/
theorem wp_laneOut_lt (ρ : Bool) (j : Fin 2) (t : ℕ) (h1 : 1 ≤ t) (ht : t ≤ 14) (l : List Pay) (hl : good 0 (sigPays c ρ j t l)) (k : PG F) :
    iprop(ctx X κ ιs ∗ halfPts ρ (slotOf t) j c fullShare.right (X (orig ρ c t)) ∗ laneMid X c ρ j t ∗ ow c (sigPays c ρ j t l))
      ⊢ iprop(((laneSt c ρ j (t + 1) ∗ ow c l) -∗ wpK c k Q) -∗ wpK c (laneOut (fun ρ => tgt ρ c) ρ j t k) Q) := by
  obtain ⟨u, rfl⟩ : ∃ u, t = u + 1 := ⟨t - 1, by omega⟩
  unfold laneMid laneOut laneSt
  rw [Nat.add_sub_cancel]
  have hround : (u + 1 + 1) / 2 = u / 2 + 1 := by omega
  have hslot : slotOf (u + 1 + 1 + 1) = slotOf (u + 1) := slotOf_congr (by omega)
  have hs : sends ρ j (u + 1) = true := (sends_eq ρ j (u + 1)).mpr (.inl (by omega))
  rw [hslot, Nat.add_sub_cancel, show (u + 1 + 1 + 1) / 2 = (u + 1) / 2 + 1 by omega, hround]
  rw [show sigPays c ρ j (u + 1) l = (cell (tgt (!ρ) c) (kCred ρ j), u + 1 + 2, 1) :: l by unfold sigPays; rw [decide_eq_true ht]; rfl] at hl ⊢
  have h := wp_waitOr X κ ιs c (Q := Q) ρ j (u + 1) (Nat.succ_ne_zero u) (by omega) _ hl
    (bif decide (u + 1 ≤ 14) then signalC (tgt (!ρ) c) (credS ρ j) k else k)
  rw [hs, if_pos rfl, if_pos rfl] at h
  rw [hs, if_pos rfl]
  iintro ⟨#H, Hr, ⟨Hl, Hsc, Hso, Hsor, Hrc, #Hrr, Hro, Hdc, Hdo, Hcr, #Hev, #Hcrd, Htc, Hfin, Hres⟩, HO⟩ Hk
  iapply h $$ [Hr Hl HO Hsc]
  · isplitr; · iexact H
    isplitl [Hr]; · iexact Hr
    isplitl [Hl]; · iexact Hl
    isplitl [Hsc]; · iexact Hsc
    iexact HO
  rw [decide_eq_true ht, cond_true]
  iintro ⟨Hslot, ⟨Hsc, Hsr⟩, HO⟩
  imod (slot_release ES (Set.mem_univ (ιs (c, ρ, j, slotOf (u + 1)))) (slotPts_false ρ (slotOf (u + 1)) j c) (u / 2 + 1)) $$ [Hdc Hslot] with ⟨Hdc, #Hrel⟩
  · isplitr; · iapply (ctx_slot X κ ιs c ρ (slotOf (u + 1)) j); iexact H
    isplitl [Hdc]; · iexact Hdc
    iexact Hslot
  have hev : iprop(released ES (c, ρ, j, slotOf (u + 1)) (u / 2 + 1 + 1) ∗ reached ER (cell c (kRecv ρ (slotOf (u + 1)) j)) (u / 2 + 1)) ⊢ (ev c ρ j (u + 1 + 1) : sProp 𝕄) := by
    unfold ev; rw [hslot, hround]
  ihave #Hev2 := hev $$ []
  · isplitr; · iexact Hrel
    iexact Hrr
  iapply (wp_signalK X κ ιs c (tgt (!ρ) c) (kCred ρ j) (credS ρ j) rfl 0 (u + 1) (u + 1 + 2) (Finset.mem_range.mpr (by omega)) rfl l) $$ [HO Htc]
  · isplitr; · iexact H
    isplitl [HO]; · iexact HO
    isplitl [Htc]; · iexact Htc
    isplitr
    · iapply (show iprop(ev c ρ j (u + 1 + 1) ∗ ev c ρ j (u + 1)) ⊢ payloadK X (tgt (!ρ) c) (kCred ρ j) 0 (u + 1) from credPay_intro c ρ j (u + 1))
      isplitr; · iexact Hev2
      iexact Hev
    iexact Hcrd
  iintro HO
  iapply Hk
  isplitr [HO]
  · iframe
    isplitr; · iexact Hev2
    iexact Hcrd
  · iexact HO

/-- The last step ends: the slot stays. -/
theorem wp_laneOut_last (ρ : Bool) (j : Fin 2) (l : List Pay) (hl : good 0 l) (k : PG F) :
    iprop(ctx X κ ιs ∗ halfPts ρ 1 j c fullShare.right (X (orig ρ c 15)) ∗ laneMid X c ρ j 15 ∗ ow c l)
      ⊢ iprop(((laneEnd c ρ j ∗ ow c l) -∗ wpK c k Q) -∗ wpK c (laneOut (fun ρ => tgt ρ c) ρ j 15 k) Q) := by
  unfold laneMid laneOut laneEnd
  have hn : (if sends ρ j 15 = true then iprop(atPos ER (cell c (kSend ρ 1 j)) 8 ∅ 0 ∗ reached ER (cell c (kSend ρ 1 j)) 8)
      else atPos ER (cell c (kSend ρ 1 j)) 7 ∅ 0) ⊢ (atPos ER (cell c (kSend ρ 1 j)) (nR true ρ 1 j) ∅ 0 : sProp 𝕄) := by
    by_cases hj : j = lastHalf ρ
    · rw [if_pos ((sends_eq ρ j 15).mpr (.inr hj)), show nR true ρ 1 j = 8 by unfold nR; rw [if_neg (by decide), if_pos hj]]
      iintro ⟨H, -⟩; iexact H
    · rw [if_neg (fun h => ((sends_eq ρ j 15).mp h).elim (by omega) hj), show nR true ρ 1 j = 7 by unfold nR; rw [if_neg (by decide), if_neg hj]]
  iintro ⟨#H, Hr, ⟨Hl, Hsc, Hso, -, Hrc, -, Hro, Hdc, Hdo, Hcr, Hev, -, Htc, Hfin, Hres⟩, HO⟩ Hk
  iapply (wp_waitOr X κ ιs c ρ j 15 (by omega) (by omega) l hl _) $$ [Hr Hl HO Hsc]
  · isplitr; · iexact H
    isplitl [Hr]; · iexact Hr
    isplitl [Hl]; · iexact Hl
    isplitl [Hsc]; · iexact Hsc
    iexact HO
  iintro ⟨Hslot, Hsc, HO⟩
  iapply Hk
  isplitr [HO]
  · isplitl [Hso]; · iexact Hso
    isplitl [Hsc]; · iapply hn; iexact Hsc
    isplitl [Hro]; · iexact Hro
    isplitl [Hrc]; · iexact Hrc
    isplitl [Hcr]; · iexact Hcr
    isplitl [Hev]; · iexact Hev
    isplitl [Hslot]; · iexact Hslot
    iexact Hfin
  · iexact HO

theorem wp_laneOut (ρ : Bool) (j : Fin 2) (t : ℕ) (h1 : 1 ≤ t) (ht : t ≤ 15) (l : List Pay) (hl : good 0 (sigPays c ρ j t l)) (k : PG F) :
    iprop(ctx X κ ιs ∗ halfPts ρ (slotOf t) j c fullShare.right (X (orig ρ c t)) ∗ laneMid X c ρ j t ∗ ow c (sigPays c ρ j t l))
      ⊢ iprop(((laneAt c ρ j (t + 1) ∗ ow c l) -∗ wpK c k Q) -∗ wpK c (laneOut (fun ρ => tgt ρ c) ρ j t k) Q) := by
  unfold laneAt
  by_cases h : t ≤ 14
  · rw [if_pos (by omega)]; exact wp_laneOut_lt X κ ιs c ρ j t h1 h l hl k
  · obtain rfl : t = 15 := by omega
    rw [if_neg (by decide)]; exact wp_laneOut_last X κ ιs c ρ j l hl k

/-! ## The first step of a lane -/

/-- A lane before the first step, once the barrier has passed. -/
def laneStart (ρ : Bool) (j : Fin 2) : sProp 𝕄 :=
  iprop(atPos ER (cell c (kSend ρ 0 j)) 0 ∅ 0 ∗ reached ER (cell c (kSend ρ 0 j)) 0
    ∗ atPos ER (cell c (kSend ρ 1 j)) 0 ∅ 0 ∗ reached ER (cell c (kSend ρ 1 j)) 0
    ∗ atPos ER (cell c (kRecv ρ 0 j)) 0 ∅ 0 ∗ atPos ER (cell c (kRecv ρ 1 j)) 0 ∅ 0
    ∗ readerAt ES (c, ρ, j, 0) 1 ∗ readerAt ES (c, ρ, j, 1) 1
    ∗ atPos ER (cell c (kCred ρ j)) 0 ∅ 0 ∗ ev c ρ j 0 ∗ ev c ρ j 1 ∗ reached ER (cell (tgt (!ρ) c) (kCred ρ j)) 0
    ∗ ev (tgt ρ c) ρ j 0
    ∗ laneFin c ρ j ∗ laneTok c ρ j 0 ∗ bigSep (Finset.Ico 1 16) (fun t => laneRes c ρ j t))

/-- A lane in the middle of the first step. -/
def laneMid0 (ρ : Bool) (j : Fin 2) : sProp 𝕄 :=
  iprop(cred (tallyAt (cell c (kSend ρ 0 j)) 0 NN) ∗ atPos ER (cell c (kSend ρ 0 j)) 0 ∅ 0
    ∗ atPos ER (cell c (kSend ρ 1 j)) 0 ∅ 0 ∗ reached ER (cell c (kSend ρ 1 j)) 0
    ∗ atPos ER (cell c (kRecv ρ 0 j)) 0 ∅ 0 ∗ atPos ER (cell c (kRecv ρ 1 j)) 0 ∅ 0
    ∗ readerAt ES (c, ρ, j, 0) 1 ∗ readerAt ES (c, ρ, j, 1) 1
    ∗ atPos ER (cell c (kCred ρ j)) 0 ∅ 0 ∗ ev c ρ j 0 ∗ ev c ρ j 1 ∗ reached ER (cell (tgt (!ρ) c) (kCred ρ j)) 0
    ∗ dutyTok ER (cell (tgt (!ρ) c) (kCred ρ j)) 0 0
    ∗ laneFin c ρ j ∗ bigSep (Finset.Ico 1 16) (fun t => laneRes c ρ j t))

theorem wp_laneIn0 (ρ : Bool) (j : Fin 2) (l : List Pay) (k : PG F) :
    iprop(ctx X κ ιs ∗ laneStart c ρ j ∗ xPts j c (xShare ρ) (X c) ∗ ow c (sendPays c ρ j 0 l))
      ⊢ iprop(((laneMid0 c ρ j ∗ ow c l) -∗ wpK c k Q) -∗ wpK c (sendX (tgt ρ c) ρ j k) Q) := by
  unfold laneStart laneMid0 laneTok
  rw [show sends ρ j 0 = true from rfl, if_pos rfl, show sendPays c ρ j 0 l = (cell (tgt ρ c) (kRecv ρ 1 j), 2, NN) :: l from rfl]
  iintro ⟨#H, ⟨Hs0, #Hs0r, Hs1, #Hs1r, Hr0, Hr1, Hd0, Hd1, Hcr, #Hev0, #Hev1, #Hcrd, #Hev, Hfin, ⟨Hts, Htr, Htw, Htc⟩, Hres⟩, Hx, HO⟩ Hk
  unfold ev
  icases Hev with ⟨#Hrel, #Hrch⟩
  imod (slot_take ES (Set.mem_univ (ιs (tgt ρ c, ρ, j, 1))) 1) $$ [Htw] with Hslot
  · isplitr; · iapply (ctx_slot X κ ιs (tgt ρ c) ρ 1 j); iexact H
    isplitr; · iexact Hrel
    iexact Htw
  iapply (wp_sendX X κ ιs c ρ j l) $$ [Hx Hslot HO Hts Htr]
  · isplitr; · iexact H
    isplitl [Hx]; · iexact Hx
    isplitl [Hslot]; · iexact Hslot
    isplitl [HO]; · iexact HO
    isplitl [Hts]; · iexact Hts
    isplitr; · iexact Hs0r
    isplitl [Htr]; · iexact Htr
    iexact Hrch
  iintro ⟨Hc, HO⟩
  iapply Hk
  iframe
  isplitr; · iexact Hs1r
  isplitr; · iexact Hev0
  isplitr; · iexact Hev1
  iexact Hcrd

theorem wp_laneOut0 (ρ : Bool) (j : Fin 2) (l : List Pay) (hl : good 0 (sigPays c ρ j 0 l)) (k : PG F) :
    iprop(ctx X κ ιs ∗ laneMid0 c ρ j ∗ ow c (sigPays c ρ j 0 l))
      ⊢ iprop(((laneAt c ρ j 1 ∗ xPts j c (xShare ρ) (X c) ∗ ow c l) -∗ wpK c k Q) -∗ wpK c (laneOut0 (fun ρ => tgt ρ c) ρ j k) Q) := by
  unfold laneMid0 laneOut0 laneAt
  rw [if_pos (by decide), show sigPays c ρ j 0 l = (cell (tgt (!ρ) c) (kCred ρ j), 2, 1) :: l from rfl] at *
  iintro ⟨#H, ⟨Hc, Hs0, Hs1, #Hs1r, Hr0, Hr1, Hd0, Hd1, Hcr, #Hev0, #Hev1, #Hcrd, Htc, Hfin, Hres⟩, HO⟩ Hk
  iapply (wp_waitX X κ ιs c ρ j _ hl) $$ [Hc HO Hs0]
  · isplitr; · iexact H
    isplitl [Hc]; · iexact Hc
    isplitl [HO]; · iexact HO
    iexact Hs0
  iintro ⟨HO, Hs0, #Hs0r, Hx⟩
  iapply (wp_signalK X κ ιs c (tgt (!ρ) c) (kCred ρ j) (credS ρ j) rfl 0 0 2 (Finset.mem_range.mpr (by omega)) rfl l) $$ [HO Htc]
  · isplitr; · iexact H
    isplitl [HO]; · iexact HO
    isplitl [Htc]; · iexact Htc
    isplitr
    · iapply (show iprop(ev c ρ j (0 + 1) ∗ ev c ρ j (0)) ⊢ payloadK X (tgt (!ρ) c) (kCred ρ j) 0 (0) from credPay_intro c ρ j 0)
      isplitr; · iexact Hev1
      iexact Hev0
    iexact Hcrd
  iintro HO
  iapply Hk
  isplitr [Hx HO]
  · unfold laneSt credSt
    isplitl [Hs1]; · iexact Hs1
    isplitr; · iexact Hs1r
    isplitl [Hs0]; · iexact Hs0
    isplitr; · iexact Hs0r
    isplitl [Hr1]; · iexact Hr1
    isplitl [Hr0]; · iexact Hr0
    isplitl [Hd1]; · iexact Hd1
    isplitl [Hd0]; · iexact Hd0
    isplitl [Hcr]
    · iexists ∅
      isplitr; · ipureintro; exact ⟨Finset.empty_subset _, Nat.zero_le _⟩
      isplitl [Hcr]; · iexact Hcr
      rw [bigSep_empty]; iempintro
    isplitr; · iexact Hev1
    isplitr; · iexact Hcrd
    isplitl [Hfin]; · iexact Hfin
    iexact Hres
  isplitl [Hx]; · iexact Hx
  iexact HO

end Cert.KernelIdeal.RingProof
-- ==== Proof.KI.Gemm.lean ====
/-
# Loads, products and stores

Where the table words point, what the loads of slots and halves read, and what each store adds to the result.
-/
module

public import proofs.«01_k».proof.Proof.KI.Lane

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Words -/

/-- The word naming a device, and what is computed from it. -/
def word (d : Dev nD) : BitVec 32 := BitVec.ofNat 32 d.val

theorem chk1_word : ∀ d : Dev nD, k0_chk1 (word d) := by decide
theorem chk2_word : ∀ d : Dev nD, k0_chk2 (word d) := by decide
theorem chk3_word : ∀ d : Dev nD, k0_chk3 (word d) := by decide
theorem chk34_word : ∀ d : Dev nD, k0_chk34 (word d) := by decide
theorem dev1_word : ∀ d : Dev nD, k0_dev1 (word d) = d.val := by decide
theorem dev2_word : ∀ d : Dev nD, k0_dev2 (word d) = d.val := by decide
theorem off1_word : ∀ d : Dev nD, k0_off1 (word d) = ![256 * d.val, 0] := by decide
theorem off32_word : ∀ d : Dev nD, k0_off32 (word d) = ![256 * d.val + 128 * (0 : Fin 2).val, 0] := by decide
theorem off33_word : ∀ d : Dev nD, k0_off33 (word d) = ![256 * d.val + 128 * (1 : Fin 2).val, 0] := by decide

/-- The tables a device holds: its neighbours, and whose block it receives in each step. -/
def nbrV (c : Dev nD) : Vec F S2 .i32 := fun i => word (tgt (decide ((i 0).val = 1)) c)
def orV (c : Dev nD) : Vec F S17 .i32 := fun i => word (orig true c (i 0).val)
def olV (c : Dev nD) : Vec F S16 .i32 := fun i => word (orig false c (i 0).val)

variable (c : Dev nD) {Q : PUnit → sProp (MT nD τ sig ℕ (Elt F) ℕ UU ℕ)}

def nbrPts (q : PosShare TreeShare) : sProp 𝕄 := nbrM.view.loc (c : Thread nD τ) ↦[Finset.univ]{q} nbrV (F := F) c
def orPts (q : PosShare TreeShare) : sProp 𝕄 := orM.view.loc (c : Thread nD τ) ↦[Finset.univ]{q} orV (F := F) c
def olPts (q : PosShare TreeShare) : sProp 𝕄 := olM.view.loc (c : Thread nD τ) ↦[Finset.univ]{q} olV (F := F) c

/-- A load of an element of a table; a load, in the program's own terms. -/
theorem wp_smemK {s : Shape} {e : EltTy} {m : Memref sig .tc .smem s e} {r : Rect s} {hw : (m.access r).Loads} {x : r.shape.Idx} {k : Elt F e → PG F}
    {q : PosShare TreeShare} {f : Buf (Elt F) ((m.access r).loc (c : Thread nD τ))} :
    ((m.access r).loc (c : Thread nD τ) ↦[Finset.univ]{q} f)
      ⊢ iprop((((m.access r).loc (c : Thread nD τ) ↦[Finset.univ]{q} f) -∗ wpK c (k ((m.access r).read (Elt F) f x)) Q) -∗ wpK c (smemLoadElt m r hw x k) Q) :=
  wp_smemLoadElt 𝒱₀ (c : Thread nD τ) none Set.univ (Finset.subset_univ _)
theorem wp_loadK {cs : CoreSpace} {s : Shape} {e : EltTy} {m : Memref sig .tc cs s e} {r : LoadRect s} {hl : m.view.LoadsAt r} {k : (r.shape.Idx → Elt F e) → PG F}
    {S : Finset (Idx (m.view.loc (c : Thread nD τ)))} {q : PosShare TreeShare} {f : Buf (Elt F) (m.view.loc (c : Thread nD τ))} (hS : m.view.setOn r.set ⊆ S) :
    (m.view.loc (c : Thread nD τ) ↦[S]{q} f)
      ⊢ iprop(((m.view.loc (c : Thread nD τ) ↦[S]{q} f) -∗ wpK c (k (m.view.readAt (Elt F) r f)) Q) -∗ wpK c (.op (.load m r hl) k) Q) :=
  wp_load 𝒱₀ (c : Thread nD τ) none Set.univ hS

theorem wp_loadNbr (i : Fin 2) (q : PosShare TreeShare) (k : BitVec 32 → PG F) :
    nbrPts (F := F) c q ⊢ iprop((nbrPts (F := F) c q -∗ wpK c (k (word (tgt (decide (i.val = 1)) c))) Q) -∗ wpK c (loadNbr i k) Q) := by
  have h := wp_smemK c (Q := Q) (m := nbrM)
    (r := Rect.unit (s := S2) ![i.val] S1.size (inb_nbr i)) (hw := View.loads_smem_one rfl numel1_S1)
    (x := Shape.Idx.first (numel1_S1.symm ▸ Nat.one_pos)) (k := k) (q := q) (f := nbrV (F := F) c)
  rw [show (nbrM.access (Rect.unit (s := S2) ![i.val] S1.size (inb_nbr i))).read (Elt F) (nbrV (F := F) c) (Shape.Idx.first (numel1_S1.symm ▸ Nat.one_pos))
    = word (tgt (decide (i.val = 1)) c) by fin_cases i <;> rfl] at h
  exact h
theorem wp_loadOr (t : Fin 17) (q : PosShare TreeShare) (k : BitVec 32 → PG F) :
    orPts (F := F) c q ⊢ iprop((orPts (F := F) c q -∗ wpK c (k (word (orig true c t.val))) Q) -∗ wpK c (loadOr t k) Q) := by
  have h := wp_smemK c (Q := Q) (m := orM)
    (r := Rect.unit (s := S17) ![t.val] S1.size (inb_or t)) (hw := View.loads_smem_one rfl numel1_S1)
    (x := Shape.Idx.first (numel1_S1.symm ▸ Nat.one_pos)) (k := k) (q := q) (f := orV (F := F) c)
  rw [show (orM.access (Rect.unit (s := S17) ![t.val] S1.size (inb_or t))).read (Elt F) (orV (F := F) c) (Shape.Idx.first (numel1_S1.symm ▸ Nat.one_pos))
    = word (orig true c t.val) from rfl] at h
  exact h
theorem wp_loadOl (t : Fin 16) (q : PosShare TreeShare) (k : BitVec 32 → PG F) :
    olPts (F := F) c q ⊢ iprop((olPts (F := F) c q -∗ wpK c (k (word (orig false c t.val))) Q) -∗ wpK c (loadOl t k) Q) := by
  have h := wp_smemK c (Q := Q) (m := olM)
    (r := Rect.unit (s := S16) ![t.val] S1.size (inb_ol t)) (hw := View.loads_smem_one rfl numel1_S1)
    (x := Shape.Idx.first (numel1_S1.symm ▸ Nat.one_pos)) (k := k) (q := q) (f := olV (F := F) c)
  rw [show (olM.access (Rect.unit (s := S16) ![t.val] S1.size (inb_ol t))).read (Elt F) (olV (F := F) c) (Shape.Idx.first (numel1_S1.symm ▸ Nat.one_pos))
    = word (orig false c t.val) from rfl] at h
  exact h

/-! ## Loads -/

def wPts (q : PosShare TreeShare) (w : Vec F S8192x128 .f32) : sProp 𝕄 := wM.view.loc (c : Thread nD τ) ↦[Finset.univ]{q} w

theorem wp_loadW (q : PosShare TreeShare) (w : Vec F S8192x128 .f32) (k : Vec F S8192x128 .f32 → PG F) :
    wPts c q w ⊢ iprop((wPts c q w -∗ wpK c (k w) Q) -∗ wpK c (loadW k) Q) := by
  have h := wp_loadK c (Q := Q) (m := wM)
    (r := rW.toLoadRect) (hl := View.loadsAt_vmem h_S8192x128) (k := k) (q := q) (f := w) (Finset.subset_univ _)
  rw [show wM.view.readAt (Elt F) rW.toLoadRect w = w from Memref.readAt_unit_zero (Elt F) cc0_stg4_0 (funext fun a => by fin_cases a <;> rfl) inb_S8192x128_S8192x128_0_0 w] at h
  exact h

theorem wp_loadX (q : PosShare TreeShare) (x : Vec F S256x8192 .f32) (k : Vec F S256x8192 .f32 → PG F) :
    iprop(xPts 0 c q x ∗ xPts 1 c q x) ⊢ iprop(((xPts 0 c q x ∗ xPts 1 c q x) -∗ wpK c (k x) Q) -∗ wpK c (loadX k) Q) := by
  have h := wp_loadK c (Q := Q) (m := xM)
    (r := rX.toLoadRect) (hl := View.loadsAt_vmem h_S256x8192) (k := k) (S := Finset.univ) (q := q) (f := x) (Finset.subset_univ _)
  rw [show xM.view.readAt (Elt F) rX.toLoadRect x = x from Memref.readAt_unit_zero (Elt F) cc0_stg3_0 (funext fun a => by fin_cases a <;> rfl) inb_S256x8192_S256x8192_0_0 x] at h
  have hu : (xM.view.loc (c : Thread nD τ) ↦[Finset.univ]{q} x : sProp 𝕄) ⊣⊢ iprop(xPts 0 c q x ∗ xPts 1 c q x) := by
    unfold xPts; rw [xHalfM_set, xHalfM_set, ← xSet_union]; exact pointsTo_union xSet_disjoint
  iintro H Hk
  ihave H := hu.2 $$ H
  iapply h $$ H
  iintro H
  ihave H := hu.1 $$ H
  iapply Hk; iexact H

theorem halfPts_join (ρ : Bool) (s : Fin 2) (q : PosShare TreeShare) (x : Vec F S256x8192 .f32) :
    iprop(halfPts ρ s 0 c q x ∗ halfPts ρ s 1 c q x) ⊣⊢ (match ρ with
      | true => (bufM true).view.loc (c : Thread nD τ) ↦[slotSet s]{q} bufOf x
      | false => (bufM false).view.loc (c : Thread nD τ) ↦[slotSet s]{q} bufOf x : sProp 𝕄) := by
  cases ρ
  · have hu : ((bufM false).view.loc (c : Thread nD τ) ↦[slotSet s]{q} bufOf x : sProp 𝕄) ⊣⊢ iprop(((bufM false).view.loc (c : Thread nD τ) ↦[halfSet s 0]{q} bufOf x)
        ∗ ((bufM false).view.loc (c : Thread nD τ) ↦[halfSet s 1]{q} bufOf x)) := by
      rw [← halfSet_union s]; exact pointsTo_union (halfSet_disjoint s)
    unfold halfPts; rw [halfM_false_set, halfM_false_set]; exact ⟨hu.2, hu.1⟩
  · have hu : ((bufM true).view.loc (c : Thread nD τ) ↦[slotSet s]{q} bufOf x : sProp 𝕄) ⊣⊢ iprop(((bufM true).view.loc (c : Thread nD τ) ↦[halfSet s 0]{q} bufOf x)
        ∗ ((bufM true).view.loc (c : Thread nD τ) ↦[halfSet s 1]{q} bufOf x)) := by
      rw [← halfSet_union s]; exact pointsTo_union (halfSet_disjoint s)
    unfold halfPts; rw [halfM_true_set, halfM_true_set]; exact ⟨hu.2, hu.1⟩

theorem wp_loadSlot (ρ : Bool) (s : Fin 2) (q : PosShare TreeShare) (x : Vec F S256x8192 .f32) (k : Vec F S1x256x8192 .f32 → PG F) :
    iprop(halfPts ρ s 0 c q x ∗ halfPts ρ s 1 c q x)
      ⊢ iprop(((halfPts ρ s 0 c q x ∗ halfPts ρ s 1 c q x) -∗ wpK c (k (slotVec x)) Q) -∗ wpK c (loadSlot ρ s k) Q) := by
  have hj := halfPts_join c ρ s q x
  cases ρ
  · have h := wp_loadK c (Q := Q) (m := bufM false)
      (r := (rSlot s).toLoadRect) (hl := View.loadsAt_vmem h_S1x256x8192) (k := k) (S := slotSet s) (q := q) (f := bufOf x)
      (by rw [show (bufM false).view.setOn (rSlot s).toLoadRect.set = slotSet s from Finset.map_refl]; exact Finset.Subset.refl _)
    rw [show (bufM false).view.readAt (Elt F) (rSlot s).toLoadRect (bufOf x) = slotVec x from funext fun i => bufOf_slot x s i] at h
    iintro H Hk
    ihave H := hj.1 $$ H
    iapply h $$ H
    iintro H
    ihave H := hj.2 $$ H
    iapply Hk; iexact H
  · have h := wp_loadK c (Q := Q) (m := bufM true)
      (r := (rSlot s).toLoadRect) (hl := View.loadsAt_vmem h_S1x256x8192) (k := k) (S := slotSet s) (q := q) (f := bufOf x)
      (by rw [show (bufM true).view.setOn (rSlot s).toLoadRect.set = slotSet s from Finset.map_refl]; exact Finset.Subset.refl _)
    rw [show (bufM true).view.readAt (Elt F) (rSlot s).toLoadRect (bufOf x) = slotVec x from funext fun i => bufOf_slot x s i] at h
    iintro H Hk
    ihave H := hj.1 $$ H
    iapply h $$ H
    iintro H
    ihave H := hj.2 $$ H
    iapply Hk; iexact H

theorem wp_loadHalf (ρ : Bool) (s j : Fin 2) (q : PosShare TreeShare) (x : Vec F S256x8192 .f32) (k : Vec F S1x128x8192 .f32 → PG F) :
    halfPts ρ s j c q x ⊢ iprop((halfPts ρ s j c q x -∗ wpK c (k (halfVec x j)) Q) -∗ wpK c (loadHalf ρ s j k) Q) := by
  cases ρ
  · have h := wp_loadK c (Q := Q) (m := bufM false)
      (r := (rHalf s j).toLoadRect) (hl := View.loadsAt_vmem h_S1x128x8192) (k := k) (S := (halfM false s j).view.set) (q := q) (f := bufOf x)
      (by rw [show (bufM false).view.setOn (rHalf s j).toLoadRect.set = halfSet s j from Finset.map_refl, halfM_false_set]; exact Finset.Subset.refl _)
    rw [show (bufM false).view.readAt (Elt F) (rHalf s j).toLoadRect (bufOf x) = halfVec x j from funext fun i => bufOf_halfLoad x s j i] at h
    exact h
  · have h := wp_loadK c (Q := Q) (m := bufM true)
      (r := (rHalf s j).toLoadRect) (hl := View.loadsAt_vmem h_S1x128x8192) (k := k) (S := (halfM true s j).view.set) (q := q) (f := bufOf x)
      (by rw [show (bufM true).view.setOn (rHalf s j).toLoadRect.set = halfSet s j from Finset.map_refl, halfM_true_set]; exact Finset.Subset.refl _)
    rw [show (bufM true).view.readAt (Elt F) (rHalf s j).toLoadRect (bufOf x) = halfVec x j from funext fun i => bufOf_halfLoad x s j i] at h
    exact h

/-! ## The result -/

variable (X : Dev nD → Vec F S256x8192 .f32) (w : Vec F S8192x128 .f32)

/-- The block row of an element of the result; its row there; its column. -/
def oBlk (i : S8192x128.Idx) : Dev nD := ⟨(i 0).val / 256, by have : (i 0).val < 8192 := (i 0).isLt; show _ < 32; omega⟩
def oRow (i : S8192x128.Idx) : Fin 256 := ⟨(i 0).val % 256, Nat.mod_lt _ (by decide)⟩
def oHalf (i : S8192x128.Idx) : Fin 2 := ⟨(i 0).val % 256 / 128, by omega⟩
def oHRow (i : S8192x128.Idx) : Fin 128 := ⟨(i 0).val % 128, Nat.mod_lt _ (by decide)⟩
def oIdx (i : S8192x128.Idx) : S256x128.Idx := fun a => match a with | 0 => oRow i | 1 => i 1
def oHIdx (i : S8192x128.Idx) : S128x128.Idx := fun a => match a with | 0 => oHRow i | 1 => i 1

/-- What the kernel leaves on device `c`: block row `d` is the product of `d`'s block, the last one in two halves. -/
def GO : Vec F S8192x128 .f32 := fun i =>
  if oBlk i = orig true c 16 then gemmH (halfOf (X (oBlk i)) (oHalf i)) w (oHIdx i) else gemm (X (oBlk i)) w (oIdx i)

/-- The result's staging buffer, right on the elements of `P`. -/
def outSt (P : S8192x128.Idx → Prop) : sProp 𝕄 :=
  iprop(∃ f : Vec F S8192x128 .f32, ⌜∀ i, P i → f i = GO c X w i⌝ ∗ (outM.view.loc (c : Thread nD τ) ↦[Finset.univ]{fullShare} f))

/-- The place of element `i` in the `n` rows from row `a`. -/
def outIn (a n : ℕ) (i : S8192x128.Idx) (h : a ≤ (i 0).val ∧ (i 0).val < a + n) : (⟨2, ![n, 128]⟩ : Shape).Idx :=
  fun b => match b with | 0 => ⟨(i 0).val - a, by show _ < n; omega⟩ | 1 => i 1

omit [FloatOps F] in
/-- The rows under a store of `n` rows from row `a`. -/
theorem outM_write (a n : ℕ) (h : ∀ b, (![a, 0] : Fin 2 → ℕ) b + (⟨2, ![n, 128]⟩ : Shape).size b ≤ S8192x128.size b) (f : Vec F S8192x128 .f32)
    (v : Vec F ⟨2, ![n, 128]⟩ .f32) (i : S8192x128.Idx) :
    ((outM.access (Rect.unit (s := S8192x128) ![a, 0] (⟨2, ![n, 128]⟩ : Shape).size h)).write (Elt F) f v Finset.univ : Vec F S8192x128 .f32) i
      = if hc : a ≤ (i 0).val ∧ (i 0).val < a + n then v (outIn a n i hc) else f i := by
  split_ifs with hc
  · have hi : (outM.access (Rect.unit (s := S8192x128) ![a, 0] (⟨2, ![n, 128]⟩ : Shape).size h)).emb (outIn a n i hc) = i := by
      funext b
      refine Fin.ext ?_
      match b with
      | 0 => show a + 1 * ((i 0).val - a) = _; omega
      | 1 => show 0 + 1 * (i 1).val = _; omega
    have hw := View.write_emb_of_mem (v := outM.access (Rect.unit (s := S8192x128) ![a, 0] (⟨2, ![n, 128]⟩ : Shape).size h)) (Val := Elt F) f v
      (Finset.mem_univ (outIn a n i hc))
    rw [hi] at hw
    exact hw
  · refine View.write_of_not_mem _ _ _ fun hm => ?_
    obtain ⟨y, -, hy⟩ := Finset.mem_map.mp hm
    have h0 : a + 1 * (y 0).val = (i 0).val := congrArg (fun z : S8192x128.Idx => (z 0).val) hy
    have : (y 0).val < n := (y 0).isLt
    exact hc ⟨by omega, by omega⟩

theorem wp_storeOut (d : Dev nD) (hd : d ≠ orig true c 16) (P : S8192x128.Idx → Prop) (k : PG F) :
    outSt c X w P ⊢ iprop((outSt c X w (fun i => P i ∨ oBlk i = d) -∗ wpK c k Q) -∗ wpK c (storeOut (word d) (gemm (X d) w) k) Q) := by
  unfold outSt storeOut
  iintro ⟨%f, %hf, H⟩ Hk
  simp only [wp_assume_of _ _ _ _ (d := k0_chk3.dec _) (chk3_word d)]
  iapply (wp_loadK c (m := outM) (Finset.subset_univ _)) $$ H; iintro H
  iapply (wp_store 𝒱₀ (c : Thread nD τ) none Set.univ (m := outM) (r := rOut (word d) (chk3_word d)) (Mk := Finset.univ) (Finset.subset_univ _)) $$ H; iintro H
  iapply Hk
  iexists ((outM.access (rOut (word d) (chk3_word d))).write (Elt F) f (gemm (X d) w) Finset.univ)
  isplitr
  · ipureintro
    intro i hi
    have hw : ∀ (o : Fin 2 → ℕ) (ho : o = ![256 * d.val, 0]) (h : ∀ b, o b + S256x128.size b ≤ S8192x128.size b),
        ((outM.access (Rect.unit (s := S8192x128) o S256x128.size h)).write (Elt F) f (gemm (X d) w) Finset.univ : Vec F S8192x128 .f32) i
          = if hc : 256 * d.val ≤ (i 0).val ∧ (i 0).val < 256 * d.val + 256 then gemm (X d) w (outIn (256 * d.val) 256 i hc) else f i := by
      rintro o rfl h; exact outM_write (256 * d.val) 256 h f (gemm (X d) w) i
    refine (hw _ (off1_word d) _).trans ?_
    split_ifs with hc
    · have hb : oBlk i = d := Fin.ext (by show (i 0).val / 256 = d.val; omega)
      unfold GO
      rw [if_neg (by rw [hb]; exact hd), hb]
      congr 1
      funext b
      match b with
      | 0 => exact Fin.ext (by show (i 0).val - 256 * d.val = (i 0).val % 256; omega)
      | 1 => rfl
    · refine hf i (hi.resolve_right fun hb => hc ?_)
      have : (i 0).val / 256 = d.val := congrArg Fin.val hb
      omega
  iexact H

theorem wp_finalHalf (off : Fin 2 → ℕ) (j : Fin 2) (d : Dev nD) (hoff : off = ![256 * d.val + 128 * j.val, 0]) (h : ∀ a, off a + S128x128.size a ≤ S8192x128.size a)
    (hd : d = orig true c 16) (ρ : Bool) (P : S8192x128.Idx → Prop) (q : PosShare TreeShare) (k : PG F) :
    iprop(halfPts ρ 0 j c fullShare (X d) ∗ wPts c q w ∗ outSt c X w P)
      ⊢ iprop(((halfPts ρ 0 j c fullShare (X d) ∗ wPts c q w ∗ outSt c X w (fun i => P i ∨ (oBlk i = d ∧ oHalf i = j))) -∗ wpK c k Q)
          -∗ wpK c (finalHalf off h ρ j k) Q) := by
  subst hoff
  unfold finalHalf
  iintro ⟨Hx, Hw, Ho⟩ Hk
  iapply (wp_loadHalf c ρ 0 j fullShare (X d) _) $$ Hx; iintro Hx
  iapply (wp_loadW c q w _) $$ Hw; iintro Hw
  rw [halfVec_cast]
  unfold outSt
  icases Ho with ⟨%f, %hf, H⟩
  iapply (wp_loadK c (m := outM) (Finset.subset_univ _)) $$ H; iintro H
  iapply (wp_store 𝒱₀ (c : Thread nD τ) none Set.univ (m := outM) (r := Rect.unit (s := S8192x128) ![256 * d.val + 128 * j.val, 0] S128x128.size h)
    (Mk := Finset.univ) (Finset.subset_univ _)) $$ H; iintro H
  iapply Hk
  isplitl [Hx]; · iexact Hx
  isplitl [Hw]; · iexact Hw
  iexists ((outM.access (Rect.unit (s := S8192x128) ![256 * d.val + 128 * j.val, 0] S128x128.size h)).write (Elt F) f (gemmH (halfOf (X d) j) w) Finset.univ)
  isplitr
  · ipureintro
    intro i hi
    refine (outM_write (256 * d.val + 128 * j.val) 128 h f (gemmH (halfOf (X d) j) w) i).trans ?_
    have hj := j.isLt
    split_ifs with hc
    · have hb : oBlk i = d := Fin.ext (by show (i 0).val / 256 = d.val; omega)
      have hh : oHalf i = j := Fin.ext (by show (i 0).val % 256 / 128 = j.val; omega)
      unfold GO
      rw [if_pos (by rw [hb]; exact hd), hb, hh]
      congr 1
      funext b
      match b with
      | 0 => exact Fin.ext (by show (i 0).val - (256 * d.val + 128 * j.val) = (i 0).val % 128; omega)
      | 1 => rfl
    · refine hf i (hi.resolve_right fun hb => hc ?_)
      have h1 : (i 0).val / 256 = d.val := congrArg Fin.val hb.1
      have h2 : (i 0).val % 256 / 128 = j.val := congrArg Fin.val hb.2
      omega
  iexact H

/-! ## A step's products -/

theorem wp_gemmR (t : Fin 17) (ht : t.val < 16) (s : Fin 2) (q q' q'' : PosShare TreeShare) (P : S8192x128.Idx → Prop) (k : PG F) :
    iprop(halfPts true s 0 c q (X (orig true c t.val)) ∗ halfPts true s 1 c q (X (orig true c t.val)) ∗ wPts c q' w ∗ orPts (F := F) c q'' ∗ outSt c X w P)
      ⊢ iprop(((halfPts true s 0 c q (X (orig true c t.val)) ∗ halfPts true s 1 c q (X (orig true c t.val)) ∗ wPts c q' w ∗ orPts (F := F) c q''
            ∗ outSt c X w (fun i => P i ∨ oBlk i = orig true c t.val)) -∗ wpK c k Q) -∗ wpK c (gemmR t s k) Q) := by
  unfold gemmR
  iintro ⟨H0, H1, Hw, Hr, Ho⟩ Hk
  iapply (wp_loadSlot c true s q (X (orig true c t.val)) _) $$ [H0 H1]
  · isplitl [H0] <;> iassumption
  iintro ⟨H0, H1⟩
  iapply (wp_loadW c q' w _) $$ Hw; iintro Hw
  iapply (wp_loadOr c t q'' _) $$ Hr; iintro Hr
  rw [slotVec_cast]
  iapply (wp_storeOut c X w (orig true c t.val) (orig_16_ne c true t.val ht) P k) $$ Ho; iintro Ho
  iapply Hk
  isplitl [H0]; · iexact H0
  isplitl [H1]; · iexact H1
  isplitl [Hw]; · iexact Hw
  isplitl [Hr] <;> iassumption

theorem wp_gemmL (t : Fin 16) (s : Fin 2) (q q' q'' : PosShare TreeShare) (P : S8192x128.Idx → Prop) (k : PG F) :
    iprop(halfPts false s 0 c q (X (orig false c t.val)) ∗ halfPts false s 1 c q (X (orig false c t.val)) ∗ wPts c q' w ∗ olPts (F := F) c q'' ∗ outSt c X w P)
      ⊢ iprop(((halfPts false s 0 c q (X (orig false c t.val)) ∗ halfPts false s 1 c q (X (orig false c t.val)) ∗ wPts c q' w ∗ olPts (F := F) c q''
            ∗ outSt c X w (fun i => P i ∨ oBlk i = orig false c t.val)) -∗ wpK c k Q) -∗ wpK c (gemmL t s k) Q) := by
  unfold gemmL
  iintro ⟨H0, H1, Hw, Hr, Ho⟩ Hk
  iapply (wp_loadSlot c false s q (X (orig false c t.val)) _) $$ [H0 H1]
  · isplitl [H0] <;> iassumption
  iintro ⟨H0, H1⟩
  iapply (wp_loadW c q' w _) $$ Hw; iintro Hw
  iapply (wp_loadOl c t q'' _) $$ Hr; iintro Hr
  rw [slotVec_cast]
  iapply (wp_storeOut c X w (orig false c t.val) (orig_16_ne c false t.val t.isLt) P k) $$ Ho; iintro Ho
  iapply Hk
  isplitl [H0]; · iexact H0
  isplitl [H1]; · iexact H1
  isplitl [Hw]; · iexact Hw
  isplitl [Hr] <;> iassumption

theorem wp_gemm0 (q q' q'' : PosShare TreeShare) (P : S8192x128.Idx → Prop) (k : PG F) :
    iprop(xPts 0 c q (X c) ∗ xPts 1 c q (X c) ∗ wPts c q' w ∗ orPts (F := F) c q'' ∗ outSt c X w P)
      ⊢ iprop(((xPts 0 c q (X c) ∗ xPts 1 c q (X c) ∗ wPts c q' w ∗ orPts (F := F) c q'' ∗ outSt c X w (fun i => P i ∨ oBlk i = c)) -∗ wpK c k Q)
          -∗ wpK c (gemm0 k) Q) := by
  unfold gemm0
  iintro ⟨H0, H1, Hw, Hr, Ho⟩ Hk
  iapply (wp_loadX c q (X c) _) $$ [H0 H1]
  · isplitl [H0] <;> iassumption
  iintro ⟨H0, H1⟩
  iapply (wp_loadW c q' w _) $$ Hw; iintro Hw
  iapply (wp_loadOr c 0 q'' _) $$ Hr; iintro Hr
  rw [shapeCast_self, show orig true c (0 : Fin 17).val = c from orig_zero true c]
  iapply (wp_storeOut c X w c (fun h => orig_16_ne c true 0 (by decide) ((orig_zero true c).trans h)) P k) $$ Ho; iintro Ho
  iapply Hk
  isplitl [H0]; · iexact H0
  isplitl [H1]; · iexact H1
  isplitl [Hw]; · iexact Hw
  isplitl [Hr] <;> iassumption

end Cert.KernelIdeal.RingProof
-- ==== Proof.KI.Body.lean ====
/-
# The body at a symbolic device

The barrier, the first step, the fifteen steps after it by induction, and the last half step.
-/
module

public import proofs.«01_k».proof.Proof.KI.Gemm

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x8192 .f32) (κ : Dev nD × CK → ℕ) (ιs : KK → ℕ) (c : Dev nD) (w : Vec F S8192x128 .f32)
variable {Q : PUnit → sProp (MT nD τ sig ℕ (Elt F) ℕ UU ℕ)}

/-! ## The payments -/

/-- The payments of step `t`, then those of `l`. -/
def sendsPay (t : ℕ) (l : List Pay) : List Pay :=
  sendPays c true 0 t <| sendPays c false 0 t <| sendPays c true 1 t <| sendPays c false 1 t l
def sigsPay (t : ℕ) (l : List Pay) : List Pay :=
  sigPays c true 0 t <| sigPays c false 0 t <| sigPays c true 1 t <| sigPays c false 1 t l
def stepPay (t : ℕ) (l : List Pay) : List Pay := sendsPay c t (sigsPay c t l)
/-- The payments of the `n` steps that end with step 15. -/
def stepsPay : ℕ → List Pay
  | 0 => []
  | n + 1 => stepPay c (15 - n) (stepsPay n)
/-- All the payments of the body. -/
def allPays : List Pay := (cell (tgt false c) kBar, 1, 1) :: (cell (tgt true c) kBar, 1, 1) :: stepPay c 0 (stepsPay c 15)

theorem good_sendPays (ρ : Bool) (j : Fin 2) (t n : ℕ) (hn : n < t + 2) (ht : t ≤ 15) (l : List Pay) (hl : good n l) : good n (sendPays c ρ j t l) := by
  unfold sendPays
  cases sends ρ j t
  · exact hl
  · exact good_cons.mpr ⟨⟨hn, rfl, by show t + 2 < 40; omega⟩, hl⟩
theorem good_sigPays (ρ : Bool) (j : Fin 2) (t n : ℕ) (hn : n < t + 2) (ht : t ≤ 15) (l : List Pay) (hl : good n l) : good n (sigPays c ρ j t l) := by
  unfold sigPays
  cases decide (t ≤ 14)
  · exact hl
  · exact good_cons.mpr ⟨⟨hn, rfl, by show t + 2 < 40; omega⟩, hl⟩
theorem good_sigsPay (t n : ℕ) (hn : n < t + 2) (ht : t ≤ 15) (l : List Pay) (hl : good n l) : good n (sigsPay c t l) :=
  good_sigPays c _ _ t n hn ht _ <| good_sigPays c _ _ t n hn ht _ <| good_sigPays c _ _ t n hn ht _ <| good_sigPays c _ _ t n hn ht _ hl
theorem good_sendsPay (t n : ℕ) (hn : n < t + 2) (ht : t ≤ 15) (l : List Pay) (hl : good n l) : good n (sendsPay c t l) :=
  good_sendPays c _ _ t n hn ht _ <| good_sendPays c _ _ t n hn ht _ <| good_sendPays c _ _ t n hn ht _ <| good_sendPays c _ _ t n hn ht _ hl
theorem good_stepsPay (n : ℕ) (hn : n ≤ 15) : good (17 - n) (stepsPay c n) := by
  induction n with
  | zero => exact fun p hp => absurd hp List.not_mem_nil
  | succ n ih =>
    have h := good_mono (show 17 - (n + 1) ≤ 17 - n by omega) (ih (by omega))
    exact good_sendsPay c (15 - n) _ (by omega) (by omega) _ (good_sigsPay c (15 - n) _ (by omega) (by omega) _ h)

/-! ## A step -/

/-- The four lanes, in the order the steps run them. -/
def lanes (Φ : Bool → Fin 2 → sProp 𝕄) : sProp 𝕄 := iprop(Φ true 0 ∗ Φ false 0 ∗ Φ true 1 ∗ Φ false 1)
/-- What the products read beside the slots. -/
def env : sProp 𝕄 := iprop(wPts c fullShare w ∗ orPts (F := F) c fullShare ∗ olPts (F := F) c fullShare)
/-- The block rows done before step `t`. -/
def doneBy (t : ℕ) (i : S8192x128.Idx) : Prop := ∃ u < t, oBlk i = orig true c u ∨ oBlk i = orig false c u

theorem outSt_mono {P P' : S8192x128.Idx → Prop} (h : ∀ i, P' i → P i) : outSt c X w P ⊢ (outSt c X w P' : sProp 𝕄) := by
  unfold outSt
  iintro ⟨%f, %hf, H⟩
  iexists f
  isplitr; · ipureintro; exact fun i hi => hf i (h i hi)
  iexact H

theorem wp_step (t : ℕ) (h1 : 1 ≤ t) (ht : t < 16) (l : List Pay) (hl : good (t + 1) l) (k : PG F) :
    iprop(ctx X κ ιs ∗ lanes (fun ρ j => laneSt c ρ j t) ∗ env c w ∗ outSt c X w (doneBy c t) ∗ ow c (stepPay c t l))
      ⊢ iprop(((lanes (fun ρ j => laneAt c ρ j (t + 1)) ∗ env c w ∗ outSt c X w (doneBy c (t + 1)) ∗ ow c l) -∗ wpK c k Q)
          -∗ wpK c (stepProg (fun ρ => tgt ρ c) t ht k) Q) := by
  have ht' : t ≤ 15 := by omega
  have hg : ∀ ρ j l, good (t + 1) l → good (t + 1) (sendPays c ρ j t l) := fun ρ j l hl => good_sendPays c ρ j t _ (by omega) ht' l hl
  have hg' : ∀ ρ j l, good (t + 1) l → good (t + 1) (sigPays c ρ j t l) := fun ρ j l hl => good_sigPays c ρ j t _ (by omega) ht' l hl
  have g0 : ∀ {l}, good (t + 1) l → good 0 l := good_mono (Nat.zero_le _)
  unfold lanes env stepProg stepPay sendsPay sigsPay
  iintro ⟨#H, ⟨HR0, HL0, HR1, HL1⟩, ⟨Hw, Hor, Hol⟩, Ho, HO⟩ Hk
  iapply (wp_laneIn X κ ιs c true 0 t h1 ht' _ (hg _ _ _ (hg _ _ _ (hg _ _ _ (hg _ _ _ (hg' _ _ _ (hg' _ _ _ (hg' _ _ _ (hg' _ _ _ hl))))))))) $$ [HR0 HO]
  · isplitr; · iexact H
    isplitl [HR0] <;> iassumption
  iintro ⟨PR0, HR0, HO⟩
  iapply (wp_laneIn X κ ιs c false 0 t h1 ht' _ (hg _ _ _ (hg _ _ _ (hg _ _ _ (hg' _ _ _ (hg' _ _ _ (hg' _ _ _ (hg' _ _ _ hl)))))))) $$ [HL0 HO]
  · isplitr; · iexact H
    isplitl [HL0] <;> iassumption
  iintro ⟨PL0, HL0, HO⟩
  iapply (wp_laneIn X κ ιs c true 1 t h1 ht' _ (hg _ _ _ (hg _ _ _ (hg' _ _ _ (hg' _ _ _ (hg' _ _ _ (hg' _ _ _ hl))))))) $$ [HR1 HO]
  · isplitr; · iexact H
    isplitl [HR1] <;> iassumption
  iintro ⟨PR1, HR1, HO⟩
  iapply (wp_laneIn X κ ιs c false 1 t h1 ht' _ (hg _ _ _ (hg' _ _ _ (hg' _ _ _ (hg' _ _ _ (hg' _ _ _ hl)))))) $$ [HL1 HO]
  · isplitr; · iexact H
    isplitl [HL1] <;> iassumption
  iintro ⟨PL1, HL1, HO⟩
  iapply (wp_gemmR c X w ⟨t, Nat.lt_succ_of_lt ht⟩ ht (slotOf t) fullShare.right fullShare fullShare (doneBy c t) _) $$ [PR0 PR1 Hw Hor Ho]
  · isplitl [PR0]; · iexact PR0
    isplitl [PR1]; · iexact PR1
    isplitl [Hw]; · iexact Hw
    isplitl [Hor] <;> iassumption
  iintro ⟨PR0, PR1, Hw, Hor, Ho⟩
  iapply (wp_gemmL c X w ⟨t, ht⟩ (slotOf t) fullShare.right fullShare fullShare _ _) $$ [PL0 PL1 Hw Hol Ho]
  · isplitl [PL0]; · iexact PL0
    isplitl [PL1]; · iexact PL1
    isplitl [Hw]; · iexact Hw
    isplitl [Hol] <;> iassumption
  iintro ⟨PL0, PL1, Hw, Hol, Ho⟩
  iapply (wp_laneOut X κ ιs c true 0 t h1 ht' _ (g0 (hg' _ _ _ (hg' _ _ _ (hg' _ _ _ (hg' _ _ _ hl)))))) $$ [PR0 HR0 HO]
  · isplitr; · iexact H
    isplitl [PR0]; · iexact PR0
    isplitl [HR0] <;> iassumption
  iintro ⟨HR0, HO⟩
  iapply (wp_laneOut X κ ιs c false 0 t h1 ht' _ (g0 (hg' _ _ _ (hg' _ _ _ (hg' _ _ _ hl))))) $$ [PL0 HL0 HO]
  · isplitr; · iexact H
    isplitl [PL0]; · iexact PL0
    isplitl [HL0] <;> iassumption
  iintro ⟨HL0, HO⟩
  iapply (wp_laneOut X κ ιs c true 1 t h1 ht' _ (g0 (hg' _ _ _ (hg' _ _ _ hl)))) $$ [PR1 HR1 HO]
  · isplitr; · iexact H
    isplitl [PR1]; · iexact PR1
    isplitl [HR1] <;> iassumption
  iintro ⟨HR1, HO⟩
  iapply (wp_laneOut X κ ιs c false 1 t h1 ht' _ (g0 (hg' _ _ _ hl))) $$ [PL1 HL1 HO]
  · isplitr; · iexact H
    isplitl [PL1]; · iexact PL1
    isplitl [HL1] <;> iassumption
  iintro ⟨HL1, HO⟩
  iapply Hk
  isplitl [HR0 HL0 HR1 HL1]
  · isplitl [HR0]; · iexact HR0
    isplitl [HL0]; · iexact HL0
    isplitl [HR1] <;> iassumption
  isplitl [Hw Hor Hol]
  · isplitl [Hw]; · iexact Hw
    isplitl [Hor] <;> iassumption
  isplitl [Ho]
  · iapply (outSt_mono X c w (P' := doneBy c (t + 1)) ?_) $$ Ho
    rintro i ⟨u, hu, hi⟩
    rcases Nat.lt_succ_iff_lt_or_eq.mp hu with hu | rfl
    · exact .inl (.inl ⟨u, hu, hi⟩)
    · exact hi.elim (fun h => .inl (.inr h)) .inr
  iexact HO

/-- The steps after the first, by induction on how many are left. -/
theorem wp_steps (n : ℕ) (hn : n ≤ 15) (k : PG F) :
    iprop(ctx X κ ιs ∗ lanes (fun ρ j => laneAt c ρ j (16 - n)) ∗ env c w ∗ outSt c X w (doneBy c (16 - n)) ∗ ow c (stepsPay c n))
      ⊢ iprop(((lanes (fun ρ j => laneEnd c ρ j) ∗ env c w ∗ outSt c X w (doneBy c 16) ∗ ow c []) -∗ wpK c k Q)
          -∗ wpK c (stepsProg (fun ρ => tgt ρ c) n hn k) Q) := by
  induction n with
  | zero =>
    unfold stepsPay stepsProg
    rw [show (fun ρ j => laneAt (F := F) c ρ j (16 - 0)) = fun ρ j => laneEnd c ρ j from funext fun ρ => funext fun j => if_neg (by decide)]
    iintro ⟨#H, HL, He, Ho, HO⟩ Hk
    iapply Hk
    isplitl [HL]; · iexact HL
    isplitl [He]; · iexact He
    isplitl [Ho] <;> iassumption
  | succ n ih =>
    have hg : good (15 - n + 1) (stepsPay c n) := good_mono (by omega) (good_stepsPay c n (by omega))
    have hs := wp_step X κ ιs c w (Q := Q) (15 - n) (by omega) (by omega) (stepsPay c n) hg (stepsProg (fun ρ => tgt ρ c) n (by omega) k)
    rw [show (fun ρ j => laneAt (F := F) c ρ j (16 - (n + 1))) = fun ρ j => laneSt c ρ j (15 - n) from
      funext fun ρ => funext fun j => by rw [show 16 - (n + 1) = 15 - n by omega]; exact if_pos (by omega), show 16 - (n + 1) = 15 - n by omega]
    rw [show 15 - n + 1 = 16 - n by omega] at hs
    unfold stepsPay stepsProg
    iintro ⟨#H, HL, He, Ho, HO⟩ Hk
    iapply hs $$ [HL He Ho HO]
    · isplitr; · iexact H
      isplitl [HL]; · iexact HL
      isplitl [He]; · iexact He
      isplitl [Ho] <;> iassumption
    iintro ⟨HL, He, Ho, HO⟩
    iapply (ih (Nat.le_of_succ_le hn)) $$ [HL He Ho HO]
    · isplitr; · iexact H
      isplitl [HL]; · iexact HL
      isplitl [He]; · iexact He
      isplitl [Ho] <;> iassumption
    iexact Hk

/-! ## The first step -/

/-- The device's own block at the share the products read. -/
def xAll (q : PosShare TreeShare) (x : Vec F S256x8192 .f32) : sProp 𝕄 := iprop(xPts 0 c q x ∗ xPts 1 c q x)

theorem xPts_deal (j : Fin 2) (x : Vec F S256x8192 .f32) :
    xPts j c fullShare x ⊣⊢ (iprop((xPts j c (xShare true) x ∗ xPts j c (xShare false) x) ∗ xPts j c fullShare.right x) : sProp 𝕄) := by
  have h1 : xPts j c fullShare x ⊣⊢ (iprop(xPts j c fullShare.left x ∗ xPts j c fullShare.right x) : sProp 𝕄) :=
    pointsTo_share (PosShare.mem_left_op_right fullShare)
  have h2 : xPts j c fullShare.left x ⊣⊢ (iprop(xPts j c (xShare true) x ∗ xPts j c (xShare false) x) : sProp 𝕄) :=
    pointsTo_share (PosShare.mem_left_op_right fullShare.left)
  constructor
  · iintro H
    ihave H := h1.1 $$ H
    icases H with ⟨Hl, Hr⟩
    isplitr [Hr]
    · iapply h2.1; iexact Hl
    iexact Hr
  · iintro ⟨Hl, Hr⟩
    iapply h1.2
    isplitr [Hr]
    · iapply h2.2; iexact Hl
    iexact Hr

theorem wp_step0 (l : List Pay) (hl : good 1 l) (k : PG F) :
    iprop(ctx X κ ιs ∗ lanes (fun ρ j => laneStart c ρ j) ∗ xAll c fullShare (X c) ∗ env c w ∗ outSt c X w (fun _ => False) ∗ ow c (stepPay c 0 l))
      ⊢ iprop(((lanes (fun ρ j => laneAt c ρ j 1) ∗ xAll c fullShare (X c) ∗ env c w ∗ outSt c X w (doneBy c 1) ∗ ow c l) -∗ wpK c k Q)
          -∗ wpK c (step0Prog (fun ρ => tgt ρ c) k) Q) := by
  have hg' : ∀ ρ j l, good 1 l → good 1 (sigPays c ρ j 0 l) := fun ρ j l hl => good_sigPays c ρ j 0 _ (by omega) (by omega) l hl
  have g0 : ∀ {l}, good 1 l → good 0 l := good_mono (Nat.zero_le _)
  unfold lanes xAll env step0Prog stepPay sendsPay sigsPay
  iintro ⟨#H, ⟨HR0, HL0, HR1, HL1⟩, ⟨Hx0, Hx1⟩, ⟨Hw, Hor, Hol⟩, Ho, HO⟩ Hk
  ihave Hx0 := (xPts_deal c 0 (X c)).1 $$ Hx0
  icases Hx0 with ⟨⟨XR0, XL0⟩, Hx0⟩
  ihave Hx1 := (xPts_deal c 1 (X c)).1 $$ Hx1
  icases Hx1 with ⟨⟨XR1, XL1⟩, Hx1⟩
  iapply (wp_laneIn0 X κ ιs c true 0 _ _) $$ [HR0 XR0 HO]
  · isplitr; · iexact H
    isplitl [HR0]; · iexact HR0
    isplitl [XR0] <;> iassumption
  iintro ⟨HR0, HO⟩
  iapply (wp_laneIn0 X κ ιs c false 0 _ _) $$ [HL0 XL0 HO]
  · isplitr; · iexact H
    isplitl [HL0]; · iexact HL0
    isplitl [XL0] <;> iassumption
  iintro ⟨HL0, HO⟩
  iapply (wp_laneIn0 X κ ιs c true 1 _ _) $$ [HR1 XR1 HO]
  · isplitr; · iexact H
    isplitl [HR1]; · iexact HR1
    isplitl [XR1] <;> iassumption
  iintro ⟨HR1, HO⟩
  iapply (wp_laneIn0 X κ ιs c false 1 _ _) $$ [HL1 XL1 HO]
  · isplitr; · iexact H
    isplitl [HL1]; · iexact HL1
    isplitl [XL1] <;> iassumption
  iintro ⟨HL1, HO⟩
  iapply (wp_gemm0 c X w fullShare.right fullShare fullShare _ _) $$ [Hx0 Hx1 Hw Hor Ho]
  · isplitl [Hx0]; · iexact Hx0
    isplitl [Hx1]; · iexact Hx1
    isplitl [Hw]; · iexact Hw
    isplitl [Hor] <;> iassumption
  iintro ⟨Hx0, Hx1, Hw, Hor, Ho⟩
  iapply (wp_laneOut0 X κ ιs c true 0 _ (g0 (hg' _ _ _ (hg' _ _ _ (hg' _ _ _ (hg' _ _ _ hl))))) _) $$ [HR0 HO]
  · isplitr; · iexact H
    isplitl [HR0] <;> iassumption
  iintro ⟨HR0, XR0, HO⟩
  iapply (wp_laneOut0 X κ ιs c false 0 _ (g0 (hg' _ _ _ (hg' _ _ _ (hg' _ _ _ hl)))) _) $$ [HL0 HO]
  · isplitr; · iexact H
    isplitl [HL0] <;> iassumption
  iintro ⟨HL0, XL0, HO⟩
  iapply (wp_laneOut0 X κ ιs c true 1 _ (g0 (hg' _ _ _ (hg' _ _ _ hl))) _) $$ [HR1 HO]
  · isplitr; · iexact H
    isplitl [HR1] <;> iassumption
  iintro ⟨HR1, XR1, HO⟩
  iapply (wp_laneOut0 X κ ιs c false 1 _ (g0 (hg' _ _ _ hl)) _) $$ [HL1 HO]
  · isplitr; · iexact H
    isplitl [HL1] <;> iassumption
  iintro ⟨HL1, XL1, HO⟩
  iapply Hk
  isplitl [HR0 HL0 HR1 HL1]
  · isplitl [HR0]; · iexact HR0
    isplitl [HL0]; · iexact HL0
    isplitl [HR1] <;> iassumption
  isplitl [XR0 XL0 Hx0 XR1 XL1 Hx1]
  · isplitl [XR0 XL0 Hx0]
    · iapply (xPts_deal c 0 (X c)).2
      isplitr [Hx0]
      · isplitl [XR0] <;> iassumption
      iexact Hx0
    · iapply (xPts_deal c 1 (X c)).2
      isplitr [Hx1]
      · isplitl [XR1] <;> iassumption
      iexact Hx1
  isplitl [Hw Hor Hol]
  · isplitl [Hw]; · iexact Hw
    isplitl [Hor] <;> iassumption
  isplitl [Ho]
  · iapply (outSt_mono X c w (P' := doneBy c 1) ?_) $$ Ho
    rintro i ⟨u, hu, hi⟩
    obtain rfl : u = 0 := by omega
    rw [orig_zero, orig_zero, or_self] at hi
    exact .inr hi
  iexact HO

/-! ## The barrier -/

/-- A lane before the barrier. -/
def laneInit (ρ : Bool) (j : Fin 2) : sProp 𝕄 :=
  iprop(atPos ER (cell c (kSend ρ 0 j)) 0 ∅ 0 ∗ reached ER (cell c (kSend ρ 0 j)) 0
    ∗ atPos ER (cell c (kSend ρ 1 j)) 0 ∅ 0 ∗ reached ER (cell c (kSend ρ 1 j)) 0
    ∗ atPos ER (cell c (kRecv ρ 0 j)) 0 ∅ 0 ∗ atPos ER (cell c (kRecv ρ 1 j)) 0 ∅ 0
    ∗ readerAt ES (c, ρ, j, 0) 1 ∗ readerAt ES (c, ρ, j, 1) 1
    ∗ atPos ER (cell c (kCred ρ j)) 0 ∅ 0 ∗ reached ER (cell c (kCred ρ j)) 0 ∗ ev c ρ j 0 ∗ ev c ρ j 1
    ∗ laneFin c ρ j ∗ laneTok c ρ j 0 ∗ bigSep (Finset.Ico 1 16) (fun t => laneRes c ρ j t))

omit [FloatOps F] in
theorem laneInit_facts (ρ : Bool) (j : Fin 2) : laneInit (F := F) c ρ j ⊢ iprop(laneInit c ρ j ∗ □ (ev c ρ j 0 ∗ reached ER (cell c (kCred ρ j)) 0)) := by
  unfold laneInit
  iintro ⟨H1, H2, H3, H4, H5, H6, H7, H8, H9, #H10, #H11, H12, H13, H14, H15⟩
  isplitl
  · iframe
    isplitr; · iexact H10
    iexact H11
  imodintro
  isplitr; · iexact H11
  iexact H10

omit [FloatOps F] in
theorem laneInit_start (ρ : Bool) (j : Fin 2) :
    iprop(laneInit c ρ j ∗ reached ER (cell (tgt (!ρ) c) (kCred ρ j)) 0 ∗ ev (tgt ρ c) ρ j 0) ⊢ (laneStart c ρ j : sProp 𝕄) := by
  unfold laneInit laneStart
  iintro ⟨⟨H1, H2, H3, H4, H5, H6, H7, H8, H9, H10, H11, H12, H13, H14, H15⟩, Hr, He⟩
  iframe

/-- What the barrier needs: its cell and its duties at the two neighbours'. -/
def barInit : sProp 𝕄 :=
  iprop(atPos ER (cell c kBar) 0 ∅ 0 ∗ cred (tallyAt (cell c kBar) 1 2)
    ∗ (dutyTok ER (cell (tgt false c) kBar) 0 1 ∗ reached ER (cell (tgt false c) kBar) 0)
    ∗ (dutyTok ER (cell (tgt true c) kBar) 0 0 ∗ reached ER (cell (tgt true c) kBar) 0))

theorem wp_bar (l : List Pay) (hl : good 1 l) (k : PG F) :
    iprop(ctx X κ ιs ∗ lanes (fun ρ j => laneInit c ρ j) ∗ barInit c ∗ ow c ((cell (tgt false c) kBar, 1, 1) :: (cell (tgt true c) kBar, 1, 1) :: l))
      ⊢ iprop(((lanes (fun ρ j => laneStart c ρ j) ∗ atPos ER (cell c kBar) 1 ∅ 0 ∗ ow c l) -∗ wpK c k Q)
          -∗ wpK c (barProg (fun ρ => tgt ρ c) k) Q) := by
  unfold lanes barInit barProg
  have hpay : ∀ ρ : Bool, iprop((ev c ρ 0 0 ∗ reached ER (cell c (kCred (!ρ) 0)) 0) ∗ (ev c ρ 1 0 ∗ reached ER (cell c (kCred (!ρ) 1)) 0))
      ⊢ (barPay (tgt (!ρ) c) ρ : sProp 𝕄) := by intro ρ; unfold barPay; rw [tgt_tgt]
  have hw := wait_cell X κ ιs c (Q := Q) kBar 0 1 (.semWait barS (2#32 : BitVec 32).toInt.toNat) 2
    (wpE_semWait_eq (defs := defs₀ (F := F)) (Name := ℕ) (U := UU) (Lvl := ℕ) (Ix := ℕ) 𝒱₀ (c : Thread nD τ) none Set.univ (sem := barS) (k := 2))
    (by rw [expect_cell]; rfl) (by decide) l hl (fun _ => k)
  rw [duties_cell, show dutiesK kBar 0 = {0, 1} from rfl, show bigSep ({0, 1} : Finset ℕ) (fun u => (Rd X).payload (cell c kBar) 0 u)
      = iprop((Rd X).payload (cell c kBar) 0 0 ∗ (Rd X).payload (cell c kBar) 0 1) from by
    rw [bigSep_insert (by decide), bigSep_singleton]; rfl, payload_cell, payload_cell] at hw
  iintro ⟨#H, ⟨HR0, HL0, HR1, HL1⟩, ⟨Hat, Hc, ⟨HtF, #HrF⟩, ⟨HtT, #HrT⟩⟩, HO⟩ Hk
  ihave HR0 := (laneInit_facts c true 0) $$ HR0; icases HR0 with ⟨HR0, #⟨ER0, CR0⟩⟩
  ihave HR1 := (laneInit_facts c true 1) $$ HR1; icases HR1 with ⟨HR1, #⟨ER1, CR1⟩⟩
  ihave HL0 := (laneInit_facts c false 0) $$ HL0; icases HL0 with ⟨HL0, #⟨EL0, CL0⟩⟩
  ihave HL1 := (laneInit_facts c false 1) $$ HL1; icases HL1 with ⟨HL1, #⟨EL1, CL1⟩⟩
  iapply (wp_signalK X κ ιs c (tgt false c) kBar barS rfl 0 1 1 (by decide) rfl _) $$ [HO HtF]
  · isplitr; · iexact H
    isplitl [HO]; · iexact HO
    isplitl [HtF]; · iexact HtF
    isplitr
    · iapply (show iprop((ev c true 0 0 ∗ reached ER (cell c (kCred false 0)) 0) ∗ (ev c true 1 0 ∗ reached ER (cell c (kCred false 1)) 0))
        ⊢ payloadK X (tgt false c) kBar 0 1 from hpay true)
      isplitr
      · isplitr; · iexact ER0
        iexact CL0
      · isplitr; · iexact ER1
        iexact CL1
    iexact HrF
  iintro HO
  iapply (wp_signalK X κ ιs c (tgt true c) kBar barS rfl 0 0 1 (by decide) rfl _) $$ [HO HtT]
  · isplitr; · iexact H
    isplitl [HO]; · iexact HO
    isplitl [HtT]; · iexact HtT
    isplitr
    · iapply (show iprop((ev c false 0 0 ∗ reached ER (cell c (kCred true 0)) 0) ∗ (ev c false 1 0 ∗ reached ER (cell c (kCred true 1)) 0))
        ⊢ payloadK X (tgt true c) kBar 0 0 from hpay false)
      isplitr
      · isplitr; · iexact EL0
        iexact CR0
      · isplitr; · iexact EL1
        iexact CR1
    iexact HrT
  iintro HO
  iapply hw $$ [Hc HO Hat]
  · isplitr; · iexact H
    isplitl [Hc]; · iexact Hc
    isplitl [HO] <;> iassumption
  iintro ⟨HO, Hat, -, HpF, HpT⟩
  ihave HpF := (show payloadK X c kBar 0 0 ⊢ iprop((ev (tgt false c) false 0 0 ∗ reached ER (cell (tgt false c) (kCred true 0)) 0)
    ∗ (ev (tgt false c) false 1 0 ∗ reached ER (cell (tgt false c) (kCred true 1)) 0)) from Entails.of_eq rfl) $$ HpF
  ihave HpT := (show payloadK X c kBar 0 1 ⊢ iprop((ev (tgt true c) true 0 0 ∗ reached ER (cell (tgt true c) (kCred false 0)) 0)
    ∗ (ev (tgt true c) true 1 0 ∗ reached ER (cell (tgt true c) (kCred false 1)) 0)) from Entails.of_eq rfl) $$ HpT
  icases HpF with ⟨⟨EF0, CF0⟩, ⟨EF1, CF1⟩⟩
  icases HpT with ⟨⟨ET0, CT0⟩, ⟨ET1, CT1⟩⟩
  iapply Hk
  isplitr [Hat HO]
  · isplitl [HR0 ET0 CF0]
    · iapply (laneInit_start c true 0)
      isplitl [HR0]; · iexact HR0
      isplitl [CF0]; · iexact CF0
      iexact ET0
    isplitl [HL0 EF0 CT0]
    · iapply (laneInit_start c false 0)
      isplitl [HL0]; · iexact HL0
      isplitl [CT0]; · iexact CT0
      iexact EF0
    isplitl [HR1 ET1 CF1]
    · iapply (laneInit_start c true 1)
      isplitl [HR1]; · iexact HR1
      isplitl [CF1]; · iexact CF1
      iexact ET1
    · iapply (laneInit_start c false 1)
      isplitl [HL1]; · iexact HL1
      isplitl [CT1]; · iexact CT1
      iexact EF1
  isplitl [Hat] <;> iassumption

/-! ## The last half step -/

/-- A lane whose transfers are all done, but for its slot 0. -/
def laneLast (ρ : Bool) (j : Fin 2) : sProp 𝕄 :=
  iprop(atPos ER (cell c (kSend ρ 0 j)) (nR true ρ 0 j) ∅ 0 ∗ atPos ER (cell c (kSend ρ 1 j)) (nR true ρ 1 j) ∅ 0
    ∗ atPos ER (cell c (kRecv ρ 0 j)) (nR false ρ 0 j) ∅ 0 ∗ atPos ER (cell c (kRecv ρ 1 j)) (nR false ρ 1 j) ∅ 0
    ∗ credSt c ρ j 15 ∗ slotPts ρ 1 j c)
def laneDone (ρ : Bool) (j : Fin 2) : sProp 𝕄 := iprop(laneLast c ρ j ∗ slotPts ρ 0 j c)

/-- The last arrival. -/
theorem wp_laneLast (ρ : Bool) (j : Fin 2) (hj : j = lastHalf ρ) (l : List Pay) (hl : good 17 l) (k : PG F) :
    iprop(ctx X κ ιs ∗ laneEnd c ρ j ∗ ow c l)
      ⊢ iprop(((halfPts ρ 0 j c fullShare (X (orig ρ c 16)) ∗ laneLast c ρ j ∗ ow c l) -∗ wpK c k Q) -∗ wpK c (waitR ρ 0 1 j k) Q) := by
  unfold laneEnd laneLast laneFin
  rw [if_pos hj, show nR true ρ 0 j = 8 from rfl, show nR false ρ 1 j = 8 from rfl,
    show nR false ρ 0 j = 8 by unfold nR; rw [if_neg (by decide), if_pos hj]]
  iintro ⟨#H, ⟨Hs0, Hs1, Hr0, Hr1, Hcr, -, Hslot, Hc⟩, HO⟩ Hk
  have h := wp_waitR X κ ιs c (Q := Q) ρ j 15 17 1 (by omega) ((sends_eq ρ j 15).mpr (.inr hj)) (by omega) l hl k
  rw [show slotOf (15 + 1) = 0 from rfl, show 15 / 2 = 7 from rfl] at h
  iapply h $$ [Hc HO Hr0]
  · isplitr; · iexact H
    isplitl [Hc]; · iexact Hc
    isplitl [HO] <;> iassumption
  iintro ⟨HO, Hr0, -, Hp⟩
  iapply Hk
  isplitl [Hp]
  · iapply (show recvPay X ρ j c (15 + 1) ⊢ halfPts ρ 0 j c fullShare (X (orig ρ c 16)) from Entails.of_eq rfl); iexact Hp
  isplitr [HO]
  · iframe
  iexact HO

omit [FloatOps F] in
/-- A lane that sends nothing in the last step takes its slot 0 back. -/
theorem laneEnd_take (ρ : Bool) (j : Fin 2) (hj : j ≠ lastHalf ρ) : iprop(ctx X κ ιs ∗ laneEnd c ρ j) ⊢ iprop(|={Set.univ}=> laneDone c ρ j) := by
  unfold laneEnd laneDone laneLast laneFin
  rw [if_neg hj, show nR true ρ 0 j = 8 from rfl, show nR false ρ 1 j = 8 from rfl,
    show nR false ρ 0 j = 7 by unfold nR; rw [if_neg (by decide), if_neg hj]]
  iintro ⟨#H, Hs0, Hs1, Hr0, Hr1, Hcr, Hev, Hslot, Ht⟩
  ihave Hev := (show ev c ρ j 15 ⊢ iprop(released ES (c, ρ, j, (0 : Fin 2)) 8 ∗ reached ER (cell c (kRecv ρ 0 j)) 7) from Entails.of_eq rfl) $$ Hev
  icases Hev with ⟨Hrel, -⟩
  imod (slot_take ES (Set.mem_univ (ιs (c, ρ, j, 0))) 8) $$ [Hrel Ht] with Hs
  · isplitr; · iapply (ctx_slot X κ ιs c ρ 0 j); iexact H
    isplitl [Hrel] <;> iassumption
  imodintro
  isplitr [Hs]
  · iframe
  iexact Hs

/-- The cells of a lane, closed, and its slots. -/
def laneClosed (ρ : Bool) (j : Fin 2) : sProp 𝕄 :=
  iprop(semVal (cell c (kSend ρ 0 j)) 0 ∗ semVal (cell c (kSend ρ 1 j)) 0 ∗ semVal (cell c (kRecv ρ 0 j)) 0 ∗ semVal (cell c (kRecv ρ 1 j)) 0
    ∗ semVal (cell c (kCred ρ j)) 0 ∗ slotPts ρ 0 j c ∗ slotPts ρ 1 j c)

omit [FloatOps F] in
theorem close_cell (k : CK) (R : ℕ)
    (hR : match k with | none => 1 ≤ R | some (.inl _) => 1 ≤ R | some (.inr (sd, ρ, s, j)) => nR sd ρ s j ≤ R) :
    iprop(ctx X κ ιs ∗ atPos ER (cell c k) R ∅ 0) ⊢ iprop(|={Set.univ}=> semVal (cell c k) 0) := by
  iintro ⟨#H, Hat⟩
  iapply (Rounds.cell_close ER (Rd X) (Set.mem_univ (κ (c, k))) (fun h => h) (R := R) (duties_after X c k R hR))
  isplitr; · iapply (ctx_cell X κ ιs c k); iexact H
  iexact Hat

omit [FloatOps F] in
/-- All fifteen credits taken, the credit cell closes. -/
theorem close_cred (ρ : Bool) (j : Fin 2) : iprop(ctx X κ ιs ∗ credSt c ρ j 15) ⊢ iprop(|={Set.univ}=> semVal (cell c (kCred ρ j)) 0) := by
  unfold credSt
  iintro ⟨#H, ⟨%S, %hS, Hat, -⟩⟩
  have hS' : S = Finset.range 15 := Finset.eq_of_subset_of_card_le hS.1 (by rw [Finset.card_range]; exact hS.2)
  subst hS'
  imod (Rounds.fupd_skip ER (Rd X) (κ := κ (c, kCred ρ j)) (g := cell c (kCred ρ j)) (R := 0) (T := Finset.range 15) (m := 15)
    (by rw [duties_cell]; exact Finset.Subset.refl _) (by rw [expect_cell]; rfl) (Set.mem_univ _)) $$ [Hat] with ⟨Hat, -⟩
  · isplitr; · iapply (ctx_cell X κ ιs c (kCred ρ j)); iexact H
    iexact Hat
  iapply (close_cell X κ ιs c (kCred ρ j) 1 le_rfl)
  isplitr; · iexact H
  iexact Hat

omit [FloatOps F] in
theorem laneDone_close (ρ : Bool) (j : Fin 2) : iprop(ctx X κ ιs ∗ laneDone c ρ j) ⊢ iprop(|={Set.univ}=> laneClosed c ρ j) := by
  unfold laneDone laneLast laneClosed
  iintro ⟨#H, ⟨Hs0, Hs1, Hr0, Hr1, Hcr, Hp1⟩, Hp0⟩
  imod (close_cell X κ ιs c (kSend ρ 0 j) _ le_rfl) $$ [Hs0] with Hs0
  · isplitr; · iexact H
    iexact Hs0
  imod (close_cell X κ ιs c (kSend ρ 1 j) _ le_rfl) $$ [Hs1] with Hs1
  · isplitr; · iexact H
    iexact Hs1
  imod (close_cell X κ ιs c (kRecv ρ 0 j) _ le_rfl) $$ [Hr0] with Hr0
  · isplitr; · iexact H
    iexact Hr0
  imod (close_cell X κ ιs c (kRecv ρ 1 j) _ le_rfl) $$ [Hr1] with Hr1
  · isplitr; · iexact H
    iexact Hr1
  imod (close_cred X κ ιs c ρ j) $$ [Hcr] with Hcr
  · isplitr; · iexact H
    iexact Hcr
  imodintro
  iframe

/-- The result's staging buffer at its final contents. -/
def outDone : sProp 𝕄 := outM.view.loc (c : Thread nD τ) ↦[Finset.univ]{fullShare} GO c X w

theorem wp_final (k : PG F) :
    iprop(ctx X κ ιs ∗ lanes (fun ρ j => laneEnd c ρ j) ∗ env c w ∗ outSt c X w (doneBy c 16) ∗ ow c [])
      ⊢ iprop(((lanes (fun ρ j => laneDone c ρ j) ∗ env c w ∗ outDone X c w ∗ ow c []) -∗ wpK c k Q) -∗ wpK c (finalProg k) Q) := by
  have hl : good 17 [] := fun p hp => absurd hp List.not_mem_nil
  unfold lanes env finalProg
  iintro ⟨#H, ⟨HR0, HL0, HR1, HL1⟩, ⟨Hw, Hor, Hol⟩, Ho, HO⟩ Hk
  iapply (wp_laneLast X κ ιs c true 0 rfl [] hl _) $$ [HR0 HO]
  · isplitr; · iexact H
    isplitl [HR0] <;> iassumption
  iintro ⟨PR, HR0, HO⟩
  iapply (wp_laneLast X κ ιs c false 1 rfl [] hl _) $$ [HL1 HO]
  · isplitr; · iexact H
    isplitl [HL1] <;> iassumption
  iintro ⟨PL, HL1, HO⟩
  iapply (wp_loadOr c 16 fullShare _) $$ Hor; iintro Hor
  rw [show ((16 : Fin 17)).val = 16 from rfl, orig_16]
  simp only [wp_assume_of _ _ _ _ (d := k0_chk34.dec _) (chk34_word (orig true c 16))]
  iapply (wp_finalHalf c X w _ 0 (orig true c 16) (off32_word _) _ rfl true (doneBy c 16) fullShare _) $$ [PR Hw Ho]
  · isplitl [PR]; · iexact PR
    isplitl [Hw] <;> iassumption
  iintro ⟨PR, Hw, Ho⟩
  iapply (wp_finalHalf c X w _ 1 (orig true c 16) (off33_word _) _ rfl false _ fullShare _) $$ [PL Hw Ho]
  · isplitl [PL]; · iexact PL
    isplitl [Hw] <;> iassumption
  iintro ⟨PL, Hw, Ho⟩
  imod (laneEnd_take X κ ιs c true 1 (by decide)) $$ [HR1] with HR1
  · isplitr; · iexact H
    iexact HR1
  imod (laneEnd_take X κ ιs c false 0 (by decide)) $$ [HL0] with HL0
  · isplitr; · iexact H
    iexact HL0
  ihave PR := (halfPts_slot true 0 0 c (X (orig true c 16))) $$ PR
  ihave PL := (halfPts_slot false 0 1 c (X (orig true c 16))) $$ PL
  iapply Hk
  isplitl [HR0 PR HL0 HR1 HL1 PL]
  · isplitl [HR0 PR]
    · unfold laneDone; isplitl [HR0] <;> iassumption
    isplitl [HL0]; · iexact HL0
    isplitl [HR1]; · iexact HR1
    unfold laneDone; isplitl [HL1] <;> iassumption
  isplitl [Hw Hor Hol]
  · isplitl [Hw]; · iexact Hw
    isplitl [Hor] <;> iassumption
  isplitl [Ho]
  · unfold outSt outDone
    icases Ho with ⟨%f, %hf, Ho⟩
    have : f = GO c X w := funext fun i => hf i (by
      rcases orig_cover c (oBlk i) with h | ⟨t, ht, h⟩
      · by_cases h0 : oHalf i = 0
        · exact .inl (.inr ⟨h, h0⟩)
        · exact .inr ⟨h, by have := (oHalf i).isLt; exact Fin.ext (by have : (oHalf i).val ≠ 0 := fun h => h0 (Fin.ext h); show _ = 1; omega)⟩
      · exact .inl (.inl ⟨t, ht, h⟩))
    rw [← this]; iexact Ho
  iexact HO

/-! ## The body -/

theorem devs_word (h0 : k0_chk1 (word (tgt false c))) (h1 : k0_chk2 (word (tgt true c))) :
    devs (word (tgt false c)) h0 (word (tgt true c)) h1 = fun ρ => tgt ρ c := by
  funext ρ
  cases ρ
  · exact Fin.ext (dev1_word (tgt false c))
  · exact Fin.ext (dev2_word (tgt true c))

/-- Before and after the body. -/
def bodyIn : sProp 𝕄 :=
  iprop(lanes (fun ρ j => laneInit c ρ j) ∗ barInit c ∗ nbrPts (F := F) c fullShare ∗ xAll c fullShare (X c) ∗ env c w ∗ outSt c X w (fun _ => False))
def bodyOut : sProp 𝕄 :=
  iprop(lanes (fun ρ j => laneClosed c ρ j) ∗ semVal (cell c kBar) 0 ∗ nbrPts (F := F) c fullShare ∗ xAll c fullShare (X c) ∗ env c w ∗ outDone X c w)

theorem wp_body :
    iprop(ctx X κ ιs ∗ bodyIn X c w ∗ ow c (allPays c)) ⊢ iprop(((bodyOut X c w ∗ ow c []) -∗ Q ⟨⟩) -∗ wpK c bodyProg Q) := by
  have hg := good_stepsPay c 15 le_rfl
  have hg0 : good 1 (stepPay c 0 (stepsPay c 15)) :=
    good_sendsPay c 0 _ (by omega) (by omega) _ (good_sigsPay c 0 _ (by omega) (by omega) _ (good_mono (by omega) hg))
  unfold bodyIn bodyOut bodyProg allPays
  iintro ⟨#H, ⟨HL, HB, Hn, Hx, He, Ho⟩, HO⟩ Hk
  iapply (wp_loadNbr c 0 fullShare _) $$ Hn; iintro Hn
  rw [show tgt (decide ((0 : Fin 2).val = 1)) c = tgt false c from rfl]
  simp only [wp_assume_of _ _ _ _ (d := k0_chk1.dec _) (chk1_word (tgt false c))]
  iapply (wp_loadNbr c 1 fullShare _) $$ Hn; iintro Hn
  rw [show tgt (decide ((1 : Fin 2).val = 1)) c = tgt true c from rfl]
  simp only [wp_assume_of _ _ _ _ (d := k0_chk2.dec _) (chk2_word (tgt true c))]
  unfold mainProg
  rw [devs_word]
  iapply (wp_bar X κ ιs c _ hg0 _) $$ [HL HB HO]
  · isplitr; · iexact H
    isplitl [HL]; · iexact HL
    isplitl [HB] <;> iassumption
  iintro ⟨HL, HB, HO⟩
  iapply (wp_step0 X κ ιs c w _ (good_mono (by omega) hg) _) $$ [HL Hx He Ho HO]
  · isplitr; · iexact H
    isplitl [HL]; · iexact HL
    isplitl [Hx]; · iexact Hx
    isplitl [He]; · iexact He
    isplitl [Ho] <;> iassumption
  iintro ⟨HL, Hx, He, Ho, HO⟩
  iapply (wp_steps X κ ιs c w 15 le_rfl _) $$ [HL He Ho HO]
  · isplitr; · iexact H
    isplitl [HL]; · iexact HL
    isplitl [He]; · iexact He
    isplitl [Ho] <;> iassumption
  iintro ⟨HL, He, Ho, HO⟩
  iapply (wp_final X κ ιs c w _) $$ [HL He Ho HO]
  · isplitr; · iexact H
    isplitl [HL]; · iexact HL
    isplitl [He]; · iexact He
    isplitl [Ho] <;> iassumption
  iintro ⟨HL, He, Ho, HO⟩
  unfold wpK
  rw [wp_ret]
  imod (close_cell X κ ιs c kBar 1 le_rfl) $$ [HB] with HB
  · isplitr; · iexact H
    iexact HB
  unfold lanes
  icases HL with ⟨HR0, HL0, HR1, HL1⟩
  imod (laneDone_close X κ ιs c true 0) $$ [HR0] with HR0
  · isplitr; · iexact H
    iexact HR0
  imod (laneDone_close X κ ιs c false 0) $$ [HL0] with HL0
  · isplitr; · iexact H
    iexact HL0
  imod (laneDone_close X κ ιs c true 1) $$ [HR1] with HR1
  · isplitr; · iexact H
    iexact HR1
  imod (laneDone_close X κ ιs c false 1) $$ [HL1] with HL1
  · isplitr; · iexact H
    iexact HL1
  imodintro
  iapply Hk
  isplitr [HO]
  · isplitl [HR0 HL0 HR1 HL1]
    · isplitl [HR0]; · iexact HR0
      isplitl [HL0]; · iexact HL0
      isplitl [HR1] <;> iassumption
    isplitl [HB]; · iexact HB
    isplitl [Hn]; · iexact Hn
    isplitl [Hx]; · iexact Hx
    isplitl [He] <;> iassumption
  iexact HO

end Cert.KernelIdeal.RingProof
-- ==== Proof.KI.Start.lean ====
/-
# Around the body

What a device holds when its kernel is entered (its cells not yet open, its slots not yet given out, its receive buffers
whole) makes what the body starts from; what the body ends with makes what the kernel must give back.
-/
module

public import proofs.«01_k».proof.Proof.KI.Body
public import proofs.«01_k».proof.Proof.Gen.KernelIdeal.Launch
public import Idealize.ShloMosaic.Lib.Rounds.Family

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The kernel's own cells, lane by lane -/

/-- A cell of the kernel's own: every one but the barrier's. -/
abbrev OK : Type := (Bool × Fin 2) ⊕ (Bool × Bool × Fin 2 × Fin 2)
abbrev oCred (ρ : Bool) (j : Fin 2) : OK := .inl (ρ, j)
abbrev oSend (ρ : Bool) (s j : Fin 2) : OK := .inr (true, ρ, s, j)
abbrev oRecv (ρ : Bool) (s j : Fin 2) : OK := .inr (false, ρ, s, j)

def osem (k : OK) : SemLoc sig := semOf (some k)

/-- The cells of one lane. -/
def ofLane (Φ : OK → sProp 𝕄) (ρ : Bool) (j : Fin 2) : sProp 𝕄 :=
  iprop(Φ (oSend ρ 0 j) ∗ Φ (oSend ρ 1 j) ∗ Φ (oRecv ρ 0 j) ∗ Φ (oRecv ρ 1 j) ∗ Φ (oCred ρ j))

def laneKeys (ρ : Bool) (j : Fin 2) : List OK := [oSend ρ 0 j, oSend ρ 1 j, oRecv ρ 0 j, oRecv ρ 1 j, oCred ρ j]

omit [FloatOps F] in
theorem sep_regroup (P Q R : sProp 𝕄) : iprop((P ∗ Q) ∗ R) = iprop(P ∗ Q ∗ R) := equiv_iff.mp ⟨Idealize.SL.BI.sep_assoc, Idealize.SL.BI.sep_assoc'⟩

omit [FloatOps F] in
theorem own_lanes (Φ : OK → sProp 𝕄) : bigSep Finset.univ Φ = lanes (fun ρ j => ofLane Φ ρ j) := by
  rw [bigSep_univ_eq_bigSepL (laneKeys true 0 ++ laneKeys false 0 ++ laneKeys true 1 ++ laneKeys false 1) (by decide) (by decide) Φ]
  unfold lanes ofLane
  simp only [sep_regroup]
  rfl

theorem ownSemFacts : Pipeline.OwnSemFacts cfg0.spec osem := by decide +kernel

/-! ## The receive buffers and their slots -/

/-- The two slots' halves of one lane. -/
def laneSlots (c : Dev nD) (ρ : Bool) (j : Fin 2) : sProp 𝕄 := iprop(slotPts ρ 0 j c ∗ slotPts ρ 1 j c)

section Slot
variable {ℓ : Loc nD τ sig}
omit [FloatOps F] in
theorem slot_split {I J S : Finset (Idx ℓ)} (h : Disjoint I J) (hS : I ∪ J = S) (f : Buf (Elt F) ℓ) :
    (ℓ ↦[S]{fullShare} f : sProp 𝕄) ⊢ iprop((ℓ ↦[I]{fullShare} f) ∗ (ℓ ↦[J]{fullShare} f)) := by
  subst hS; exact (pointsTo_union h).1
omit [FloatOps F] in
theorem slot_join {I J S : Finset (Idx ℓ)} (h : Disjoint I J) (hS : I ∪ J = S) (f g : Buf (Elt F) ℓ) :
    iprop((ℓ ↦[I]{fullShare} f) ∗ (ℓ ↦[J]{fullShare} g)) ⊢ (iprop(∃ f, ℓ ↦[S]{fullShare} f) : sProp 𝕄) := by
  subst hS
  iintro H
  iexists (fun i => if i ∈ I then f i else g i)
  iapply (pointsTo_union h).2
  icases H with ⟨H1, H2⟩
  isplitl [H1]
  · iapply (Entails.of_eq (pointsTo_congr (f := f) (g := fun i => if i ∈ I then f i else g i) (fun i hi => (if_pos hi).symm))); iexact H1
  · iapply (Entails.of_eq (pointsTo_congr (f := g) (g := fun i => if i ∈ I then f i else g i)
      (fun i hi => (if_neg (fun h' => (Finset.disjoint_left.mp h) h' hi)).symm))); iexact H2
end Slot

/-- A whole receive buffer at some contents. -/
def rbufAny (c : Dev nD) : Bool → sProp 𝕄
  | true => iprop(∃ f : Buf (Elt F) ((c : Thread nD τ).loc cc0_scratch0), ((c : Thread nD τ).loc cc0_scratch0) ↦{fullShare} f)
  | false => iprop(∃ f : Buf (Elt F) ((c : Thread nD τ).loc cc0_scratch1), ((c : Thread nD τ).loc cc0_scratch1) ↦{fullShare} f)

omit [FloatOps F] in
theorem rbuf_split (c : Dev nD) (ρ : Bool) : (rbufAny c ρ : sProp 𝕄) ⊢ iprop(laneSlots c ρ 0 ∗ laneSlots c ρ 1) := by
  unfold laneSlots slotPts slot
  cases ρ
  · rw [halfM_false_set, halfM_false_set, halfM_false_set, halfM_false_set]
    unfold rbufAny
    iintro ⟨%f, H⟩
    ihave H := (slot_split (ℓ := (c : Thread nD τ).loc cc0_scratch1) slotSet_disjoint slotSet_union f) $$ H
    icases H with ⟨H0, H1⟩
    ihave H0 := (slot_split (ℓ := (c : Thread nD τ).loc cc0_scratch1) (halfSet_disjoint 0) (halfSet_union 0) f) $$ H0
    ihave H1 := (slot_split (ℓ := (c : Thread nD τ).loc cc0_scratch1) (halfSet_disjoint 1) (halfSet_union 1) f) $$ H1
    icases H0 with ⟨H00, H01⟩
    icases H1 with ⟨H10, H11⟩
    isplitl [H00 H10]
    · isplitl [H00]; · iexists f; iexact H00
      iexists f; iexact H10
    · isplitl [H01]; · iexists f; iexact H01
      iexists f; iexact H11
  · rw [halfM_true_set, halfM_true_set, halfM_true_set, halfM_true_set]
    unfold rbufAny
    iintro ⟨%f, H⟩
    ihave H := (slot_split (ℓ := (c : Thread nD τ).loc cc0_scratch0) slotSet_disjoint slotSet_union f) $$ H
    icases H with ⟨H0, H1⟩
    ihave H0 := (slot_split (ℓ := (c : Thread nD τ).loc cc0_scratch0) (halfSet_disjoint 0) (halfSet_union 0) f) $$ H0
    ihave H1 := (slot_split (ℓ := (c : Thread nD τ).loc cc0_scratch0) (halfSet_disjoint 1) (halfSet_union 1) f) $$ H1
    icases H0 with ⟨H00, H01⟩
    icases H1 with ⟨H10, H11⟩
    isplitl [H00 H10]
    · isplitl [H00]; · iexists f; iexact H00
      iexists f; iexact H10
    · isplitl [H01]; · iexists f; iexact H01
      iexists f; iexact H11

omit [FloatOps F] in
theorem rbuf_join (c : Dev nD) (ρ : Bool) : iprop(laneSlots c ρ 0 ∗ laneSlots c ρ 1) ⊢ (rbufAny c ρ : sProp 𝕄) := by
  unfold laneSlots slotPts slot
  cases ρ
  · rw [halfM_false_set, halfM_false_set, halfM_false_set, halfM_false_set]
    unfold rbufAny
    iintro ⟨⟨⟨%f00, H00⟩, ⟨%f10, H10⟩⟩, ⟨%f01, H01⟩, ⟨%f11, H11⟩⟩
    ihave H0 := (slot_join (ℓ := (c : Thread nD τ).loc cc0_scratch1) (halfSet_disjoint 0) (halfSet_union 0) f00 f01) $$ [H00 H01]
    · isplitl [H00]; · iexact H00
      iexact H01
    ihave H1 := (slot_join (ℓ := (c : Thread nD τ).loc cc0_scratch1) (halfSet_disjoint 1) (halfSet_union 1) f10 f11) $$ [H10 H11]
    · isplitl [H10]; · iexact H10
      iexact H11
    icases H0 with ⟨%f0, H0⟩
    icases H1 with ⟨%f1, H1⟩
    iapply (slot_join (ℓ := (c : Thread nD τ).loc cc0_scratch1) slotSet_disjoint slotSet_union f0 f1)
    isplitl [H0] <;> iassumption
  · rw [halfM_true_set, halfM_true_set, halfM_true_set, halfM_true_set]
    unfold rbufAny
    iintro ⟨⟨⟨%f00, H00⟩, ⟨%f10, H10⟩⟩, ⟨%f01, H01⟩, ⟨%f11, H11⟩⟩
    ihave H0 := (slot_join (ℓ := (c : Thread nD τ).loc cc0_scratch0) (halfSet_disjoint 0) (halfSet_union 0) f00 f01) $$ [H00 H01]
    · isplitl [H00]; · iexact H00
      iexact H01
    ihave H1 := (slot_join (ℓ := (c : Thread nD τ).loc cc0_scratch0) (halfSet_disjoint 1) (halfSet_union 1) f10 f11) $$ [H10 H11]
    · isplitl [H10]; · iexact H10
      iexact H11
    icases H0 with ⟨%f0, H0⟩
    icases H1 with ⟨%f1, H1⟩
    iapply (slot_join (ℓ := (c : Thread nD τ).loc cc0_scratch0) slotSet_disjoint slotSet_union f0 f1)
    isplitl [H0] <;> iassumption

omit [FloatOps F] in
theorem rest_split (c : Dev nD) : (Pipeline.scopedRest (Ix := ℕ) (Name := ℕ) (U := UU) (Lvl := ℕ) (Val := Elt F) spec0 c : sProp 𝕄)
    ⊢ lanes (fun ρ j => laneSlots c ρ j) := by
  rw [scopedRest0_eq]
  unfold lanes
  iintro ⟨HR, HL⟩
  ihave HR := (show iprop(∃ f : Buf (Elt F) ((c : Thread nD τ).loc cc0_scratch0), ((c : Thread nD τ).loc cc0_scratch0) ↦{fullShare} f)
    ⊢ iprop(laneSlots c true 0 ∗ laneSlots c true 1) from rbuf_split c true) $$ HR
  ihave HL := (show iprop(∃ f : Buf (Elt F) ((c : Thread nD τ).loc cc0_scratch1), ((c : Thread nD τ).loc cc0_scratch1) ↦{fullShare} f)
    ⊢ iprop(laneSlots c false 0 ∗ laneSlots c false 1) from rbuf_split c false) $$ HL
  icases HR with ⟨R0, R1⟩
  icases HL with ⟨L0, L1⟩
  isplitl [R0]; · iexact R0
  isplitl [L0]; · iexact L0
  isplitl [R1] <;> iassumption

omit [FloatOps F] in
theorem rest_join (c : Dev nD) : lanes (fun ρ j => laneSlots c ρ j)
    ⊢ (Pipeline.scopedRest (Ix := ℕ) (Name := ℕ) (U := UU) (Lvl := ℕ) (Val := Elt F) spec0 c : sProp 𝕄) := by
  rw [scopedRest0_eq]
  unfold lanes
  iintro ⟨R0, L0, R1, L1⟩
  isplitl [R0 R1]
  · iapply (show iprop(laneSlots c true 0 ∗ laneSlots c true 1)
      ⊢ iprop(∃ f : Buf (Elt F) ((c : Thread nD τ).loc cc0_scratch0), ((c : Thread nD τ).loc cc0_scratch0) ↦{fullShare} f) from rbuf_join c true)
    isplitl [R0] <;> iassumption
  · iapply (show iprop(laneSlots c false 0 ∗ laneSlots c false 1)
      ⊢ iprop(∃ f : Buf (Elt F) ((c : Thread nD τ).loc cc0_scratch1), ((c : Thread nD τ).loc cc0_scratch1) ↦{fullShare} f) from rbuf_join c false)
    isplitl [L0] <;> iassumption

/-! ## Entering -/

/-- What the launch gives a device for one lane, its cells apart. -/
def lanePre (c : Dev nD) (ρ : Bool) (j : Fin 2) : sProp 𝕄 :=
  iprop(readerAt ES (c, ρ, j, 0) 0 ∗ readerAt ES (c, ρ, j, 1) 0 ∗ laneFin c ρ j ∗ laneTok c ρ j 0
    ∗ bigSep (Finset.Ico 1 16) (fun t => laneRes c ρ j t))

/-- An open cell at its start. -/
def opened (c : Dev nD) (k : OK) : sProp 𝕄 := iprop(atPos ER (cell c (some k)) 0 ∅ 0 ∗ reached ER (cell c (some k)) 0)

variable (X : Dev nD → Vec F S256x8192 .f32) (κ : Dev nD × CK → ℕ) (ιs : KK → ℕ)

omit [FloatOps F] in
/-- A lane's two slots given out, it is ready to start. -/
theorem lane_init (c : Dev nD) (ρ : Bool) (j : Fin 2) :
    iprop(ctx X κ ιs ∗ ofLane (opened c) ρ j ∗ lanePre c ρ j ∗ laneSlots c ρ j) ⊢ iprop(|={Set.univ}=> laneInit (F := F) c ρ j) := by
  unfold ofLane opened lanePre laneSlots laneInit ev
  iintro ⟨#H, ⟨⟨A1, R1⟩, ⟨A2, R2⟩, ⟨A3, #R3⟩, ⟨A4, #R4⟩, ⟨A5, R5⟩⟩, ⟨Rd0, Rd1, Hf, Ht, Hr⟩, ⟨S0, S1⟩⟩
  imod (slot_release ES (Set.mem_univ (ιs (c, ρ, j, 0))) (slotPts_false ρ 0 j c) 0) $$ [Rd0 S0] with ⟨Rd0, #E0⟩
  · isplitr; · iapply (ctx_slot X κ ιs c ρ 0 j); iexact H
    isplitl [Rd0] <;> iassumption
  imod (slot_release ES (Set.mem_univ (ιs (c, ρ, j, 1))) (slotPts_false ρ 1 j c) 0) $$ [Rd1 S1] with ⟨Rd1, #E1⟩
  · isplitr; · iapply (ctx_slot X κ ιs c ρ 1 j); iexact H
    isplitl [Rd1] <;> iassumption
  imodintro
  isplitl [A1]; · iexact A1
  isplitl [R1]; · iexact R1
  isplitl [A2]; · iexact A2
  isplitl [R2]; · iexact R2
  isplitl [A3]; · iexact A3
  isplitl [A4]; · iexact A4
  isplitl [Rd0]; · iexact Rd0
  isplitl [Rd1]; · iexact Rd1
  isplitl [A5]; · iexact A5
  isplitl [R5]; · iexact R5
  isplitr
  · isplitr; · iexact E1
    iexact R4
  isplitr
  · isplitr; · iexact E0
    iexact R3
  isplitl [Hf]; · iexact Hf
  isplitl [Ht]; · iexact Ht
  iexact Hr

omit [FloatOps F] in
theorem lanes_init (c : Dev nD) :
    iprop(ctx X κ ιs ∗ bigSep Finset.univ (opened c) ∗ lanes (fun ρ j => lanePre c ρ j) ∗ lanes (fun ρ j => laneSlots c ρ j))
      ⊢ iprop(|={Set.univ}=> lanes (fun ρ j => laneInit (F := F) c ρ j)) := by
  rw [own_lanes]
  unfold lanes
  iintro ⟨#H, ⟨A1, A2, A3, A4⟩, ⟨P1, P2, P3, P4⟩, ⟨S1, S2, S3, S4⟩⟩
  imod (lane_init X κ ιs c true 0) $$ [A1 P1 S1] with L1
  · isplitr; · iexact H
    isplitl [A1]; · iexact A1
    isplitl [P1] <;> iassumption
  imod (lane_init X κ ιs c false 0) $$ [A2 P2 S2] with L2
  · isplitr; · iexact H
    isplitl [A2]; · iexact A2
    isplitl [P2] <;> iassumption
  imod (lane_init X κ ιs c true 1) $$ [A3 P3 S3] with L3
  · isplitr; · iexact H
    isplitl [A3]; · iexact A3
    isplitl [P3] <;> iassumption
  imod (lane_init X κ ιs c false 1) $$ [A4 P4 S4] with L4
  · isplitr; · iexact H
    isplitl [A4]; · iexact A4
    isplitl [P4] <;> iassumption
  imodintro
  isplitl [L1]; · iexact L1
  isplitl [L2]; · iexact L2
  isplitl [L3] <;> iassumption

omit [FloatOps F] in
/-- The kernel's own cells opened, their counters at zero put in. -/
theorem own_open (c : Dev nD) :
    iprop(ctx X κ ιs ∗ bigSep Finset.univ (fun k : OK => openTok ER (cell c (some k))) ∗ Pipeline.ownSems0 osem c)
      ⊢ iprop(|={Set.univ}=> bigSep Finset.univ (opened (F := F) c)) := by
  iintro ⟨#H, Ho, Hs⟩
  iapply (Rounds.cells_open ER (Rd X) (Finset.univ : Finset OK) (fun k => cell c (some k)) (fun k => κ (c, some k)) (fun k _ => Set.mem_univ _))
  isplitl [Ho]
  · iapply (bigSep_with_persistent (R := ctx X κ ιs) (Φ := fun k : OK => openTok ER (cell c (some k))) fun k _ => sep_mono_left (ctx_cell X κ ιs c (some k)))
    isplitr; · iexact H
    iexact Ho
  iapply (show Pipeline.ownSems0 osem c ⊢ (bigSep Finset.univ fun k : OK => semVal (cell c (some k)) 0 : sProp 𝕄) from Entails.of_eq rfl); iexact Hs

/-! ## Leaving -/

omit [FloatOps F] in
theorem lanes_closed (c : Dev nD) :
    lanes (fun ρ j => laneClosed (F := F) c ρ j) ⊢ iprop(Pipeline.ownSems0 osem c ∗ lanes (fun ρ j => laneSlots c ρ j)) := by
  unfold Pipeline.ownSems0
  rw [own_lanes (fun k : OK => semVal ((c : Thread nD τ), osem k) 0)]
  have h : ∀ (ρ : Bool) (j : Fin 2), laneClosed (F := F) c ρ j
      ⊢ iprop(ofLane (fun k : OK => semVal ((c : Thread nD τ), osem k) 0) ρ j ∗ laneSlots c ρ j) := by
    intro ρ j
    unfold laneClosed ofLane laneSlots
    iintro ⟨H1, H2, H3, H4, H5, H6, H7⟩
    isplitl [H1 H2 H3 H4 H5]
    · isplitl [H1]; · iexact H1
      isplitl [H2]; · iexact H2
      isplitl [H3]; · iexact H3
      isplitl [H4]; · iexact H4
      iexact H5
    isplitl [H6] <;> iassumption
  unfold lanes
  iintro ⟨L1, L2, L3, L4⟩
  ihave L1 := (h true 0) $$ L1
  ihave L2 := (h false 0) $$ L2
  ihave L3 := (h true 1) $$ L3
  ihave L4 := (h false 1) $$ L4
  icases L1 with ⟨A1, S1⟩
  icases L2 with ⟨A2, S2⟩
  icases L3 with ⟨A3, S3⟩
  icases L4 with ⟨A4, S4⟩
  isplitl [A1 A2 A3 A4]
  · isplitl [A1]; · iexact A1
    isplitl [A2]; · iexact A2
    isplitl [A3] <;> iassumption
  · isplitl [S1]; · iexact S1
    isplitl [S2]; · iexact S2
    isplitl [S3] <;> iassumption

end Cert.KernelIdeal.RingProof

end
-- ==== Proof.KI.Tables.lean ====
module

public import proofs.«01_k».proof.Proof.KI.Gemm
public import proofs.«01_k».proof.Proof.Gen.KernelIdeal.Regions
public import Idealize.ShloMosaic.Lib.StableHlo.ReadAt
public import Idealize.ShloMosaic.Lib.StableHlo.Predicate

/-
  The tables that @main computes for the kernel: the two neighbours and the origins of what arrives at each step. Each stretch of
  host operations is read once, over whatever the arrays held before it; the arithmetic is decided over the 32 places.
-/

@[expose] public section

noncomputable section

namespace Cert.KernelIdeal.RingProof

open Cert.KernelIdeal Cert.KernelIdeal.Gen
open Idealize.ShloMosaic Idealize.ShloMosaic.TcCoe

variable {F : FTy → Type} [FloatOps F]

/-! ## The arithmetic -/

/-- The remainder with the divisor's sign, as the host computes it. -/
def remW (n a : BitVec 32) : BitVec 32 :=
  let n' := Scalar.select (IntOp.cmpi .eq n 0#32) 1#32 n
  let r := IntOp.remsi .host a n'
  Scalar.select (IntOp.andi (IntOp.cmpi .ne (IntOp.cmpi .slt r 0#32) (IntOp.cmpi .slt n' 0#32)) (IntOp.cmpi .ne r 0#32)) (IntOp.addi r n') r
/-- A negative index counts from the end. -/
def wrapW (a : BitVec 32) : BitVec 32 := Scalar.select (IntOp.cmpi .slt a 0#32) (IntOp.addi a 32#32) a
/-- The device's own number, as the host computes it. -/
def ownW (c : Dev nD) : BitVec 32 := IntOp.remui .host (IntOp.divui .host (Dev.word c) 1#32) 32#32

theorem ownW_eq : ∀ c : Dev nD, wrapW (ownW c) = BitVec.ofNat 32 c.val := by decide +kernel
theorem wrapW_eq : ∀ p : Fin 32, wrapW (BitVec.ofNat 32 p.val) = BitVec.ofNat 32 p.val := by decide +kernel
theorem toInt_eq : ∀ p : Fin 32, (BitVec.ofNat 32 p.val).toInt = (p.val : Int) := by decide +kernel
theorem rem_pred : ∀ p : Fin 32, remW 32#32 (IntOp.subi (BitVec.ofNat 32 p.val) 1#32) = BitVec.ofNat 32 ((p.val + 31) % 32) := by decide +kernel
theorem rem_succ : ∀ p : Fin 32, remW 32#32 (IntOp.addi (BitVec.ofNat 32 p.val) 1#32) = BitVec.ofNat 32 ((p.val + 1) % 32) := by decide +kernel
theorem rem_sub : ∀ (p : Fin 32) (t : Fin 17),
    remW 32#32 (IntOp.subi (BitVec.ofNat 32 p.val) (BitVec.ofNat 32 t.val)) = BitVec.ofNat 32 ((p.val + 32 - t.val) % 32) := by decide +kernel
theorem rem_add : ∀ (p : Fin 32) (t : Fin 17),
    remW 32#32 (IntOp.addi (BitVec.ofNat 32 p.val) (BitVec.ofNat 32 t.val)) = BitVec.ofNat 32 ((p.val + t.val) % 32) := by decide +kernel

/-- The cycle and its inverse, as the host holds them. -/
def tab0 : IVec S32 32 := fun i => lit0 (S32.rowMajor i)
def tab1 : IVec S32 32 := fun i => lit1 (S32.rowMajor i)
theorem tab0_eq : ∀ p : Fin 32, tab0 (Shape.Idx.ofFin p) = word (cyc p) := by decide +kernel
theorem tab1_eq : ∀ p : Fin 32, tab1 (Shape.Idx.ofFin p) = BitVec.ofNat 32 (inv p).val := by decide +kernel

/-- An entry of a table. -/
theorem slice_eq (x : IVec S32 32) (st : Fin 1 → Int) (p : Fin 32) (h : st 0 = (p.val : Int)) (j : S1.Idx) :
    Host.dynamicSlice S1 x st sliceFits_S32_S1 j = x (Shape.Idx.ofFin p) := by
  rw [Host.dynamicSlice_apply]
  refine congrArg x (funext fun a => Fin.ext ?_)
  match a with
  | ⟨0, _⟩ =>
    have e : Host.clampedStart S32 S1 sliceFits_S32_S1.1 st 0 = p.val :=
      Host.clampedStart_of_le sliceFits_S32_S1.1 _ 0 p.val h (by have := p.isLt; show p.val + 1 ≤ 32; omega)
    have hj : (j 0).val = 0 := by have : (j 0).val < 1 := (j 0).isLt; omega
    show Host.clampedStart S32 S1 sliceFits_S32_S1.1 st 0 + (j 0).val = p.val
    rw [e, hj]; rfl

/-- An entry of a table at a place held in an array. -/
theorem slice_read (x : IVec S32 32) (V : Valuation τ sig (Elt F)) (r : Ref sig .tc) (hr : ∀ k, (![r] k).ty.Contents (Elt F) = (⟨S_, .i32⟩ : BufTy).Contents (Elt F))
    (p : Fin 32) (hr0 : r.ty.Contents (Elt F) = (⟨S_, .i32⟩ : BufTy).Contents (Elt F)) (w : BitVec 32) (h : cast hr0 (V r) = fun _ => w)
    (hw : w = BitVec.ofNat 32 p.val) (j : S1.Idx) :
    Host.dynamicSlice S1 x (fun k => BitVec.toInt ((cast (hr k) (V (Proc.devRef .tc (![r] k))) : IVec S_ 32) (Shape.Idx.first h_S_))) sliceFits_S32_S1 j
      = x (Shape.Idx.ofFin p) := by
  refine slice_eq x _ p ?_ j
  refine (congrArg (fun f : IVec S_ 32 => BitVec.toInt (f (Shape.Idx.first h_S_))) h).trans ?_
  show w.toInt = _
  rw [hw]; exact toInt_eq p

theorem take_eq {n : ℕ} (d : GatherDims S32 ⟨2, ![n, 1]⟩ ⟨1, ![n]⟩)
    (hcoll : d.collapsedSliceDims = [0]) (hob : d.operandBatchingDims = []) (hsim : d.startIndexMap = [0]) (hivd : d.indexVectorDim = 1)
    (x : IVec S32 32) (idx : IVec ⟨2, ![n, 1]⟩ 32) (j : (⟨1, ![n]⟩ : Shape).Idx) (p : Fin 32)
    (h : idx (StableHlo.Predicate.ixP (j 0)) = BitVec.ofNat 32 p.val) : Host.gather d x idx j = x (Shape.Idx.ofFin p) := by
  have ej : j = Shape.Idx.ofFin (j 0) := funext fun a => match a with | ⟨0, _⟩ => rfl
  refine ((congrArg (Host.gather d x idx) ej).trans (StableHlo.Predicate.gather_take d hcoll hob hsim hivd x idx (j 0) (by decide))).trans ?_
  refine congrArg x (congrArg Shape.Idx.ofFin (Fin.ext ?_))
  have := p.isLt
  show min (idx _).toInt.toNat 31 = p.val
  rw [h, toInt_eq, Int.toNat_natCast]; omega

/-! ## The stretches -/

variable (c : Dev nD) (W : Valuation τ sig (Elt F))

theorem st0_c : StableHlo.after (hostOps0 c) W main_c = tab0 := by after_reads_simp; rfl
theorem st0_v7 : StableHlo.upto (hostOps0 c) W 13 main_v7 = fun _ => wrapW (ownW c) := by after_reads_simp; rfl
theorem st0_v9 : StableHlo.after (hostOps0 c) W main_v9 = fun _ => BitVec.ofNat 32 (inv c).val := by
  after_reads_simp
  funext j
  exact (slice_read tab1 (StableHlo.upto (hostOps0 c) W 13) main_v7 _ c rfl _ ((cast_eq _ _).trans (st0_v7 c W)) (ownW_eq c) _).trans (tab1_eq c)
theorem st0_v10 : StableHlo.after (hostOps0 c) W main_v10 = fun j => BitVec.ofNat 32 (j 0).val := by after_reads_simp; rfl
theorem st0_v11 : StableHlo.after (hostOps0 c) W main_v11 = fun _ => IntOp.subi (BitVec.ofNat 32 (inv c).val) 1#32 := by
  after_reads_simp
  funext j
  exact congrArg (fun x => IntOp.subi x 1#32)
    ((slice_read tab1 (StableHlo.upto (hostOps0 c) W 13) main_v7 _ c rfl _ ((cast_eq _ _).trans (st0_v7 c W)) (ownW_eq c) _).trans (tab1_eq c))
theorem st0_c6 : StableHlo.after (hostOps0 c) W main_c_6 = fun _ => 32#32 := by after_reads_simp; rfl

theorem st1_v12 (a n : BitVec 32) (ha : W main_v11 = fun _ => a) (hn : W main_c_6 = fun _ => n) :
    StableHlo.after hostOps0_1 W main_v12 = fun _ => remW n a := by
  after_reads_simp
  simp only [StableHlo.TRef.ofBuf_toBuf, ha, hn]
  rfl

theorem st2_v15 (p : Fin 32) (h : W main_v12 = fun _ => BitVec.ofNat 32 p.val) :
    StableHlo.upto hostOps0_2 W 5 main_v15 = fun _ => wrapW (BitVec.ofNat 32 p.val) := by after_reads_simp; simp only [h]; rfl
theorem st2_v17 (p : Fin 32) (hc : W main_c = tab0) (h : W main_v12 = fun _ => BitVec.ofNat 32 p.val) :
    StableHlo.after hostOps0_2 W main_v17 = fun _ => word (cyc p) := by
  after_reads_simp
  simp only [hc]
  funext j
  exact (slice_read tab0 (StableHlo.upto hostOps0_2 W 5) main_v15 _ p rfl _ ((cast_eq _ _).trans (st2_v15 W p h)) (wrapW_eq p) _).trans (tab0_eq p)
theorem st2_v18 (a : BitVec 32) (h : W main_v9 = fun _ => a) : StableHlo.after hostOps0_2 W main_v18 = fun _ => IntOp.addi a 1#32 := by
  after_reads_simp; simp only [h]; rfl
theorem st2_c10 : StableHlo.after hostOps0_2 W main_c_10 = fun _ => 32#32 := by after_reads_simp; rfl

theorem st3_v19 (a n : BitVec 32) (ha : W main_v18 = fun _ => a) (hn : W main_c_10 = fun _ => n) :
    StableHlo.after hostOps0_3 W main_v19 = fun _ => remW n a := by
  after_reads_simp
  simp only [StableHlo.TRef.ofBuf_toBuf, ha, hn]
  rfl

theorem st4_v22 (p : Fin 32) (h : W main_v19 = fun _ => BitVec.ofNat 32 p.val) :
    StableHlo.upto hostOps0_4 W 5 main_v22 = fun _ => wrapW (BitVec.ofNat 32 p.val) := by after_reads_simp; simp only [h]; rfl
theorem st4_v25 (a : BitVec 32) (ha : W main_v17 = fun _ => a) : StableHlo.upto hostOps0_4 W 9 main_v25 = fun _ => a := by
  after_reads_simp; simp only [ha]; rfl
theorem st4_v26 (p : Fin 32) (hc : W main_c = tab0) (h : W main_v19 = fun _ => BitVec.ofNat 32 p.val) :
    StableHlo.upto hostOps0_4 W 9 main_v26 = fun _ => word (cyc p) := by
  after_reads_simp
  simp only [hc]
  funext j
  exact (slice_read tab0 (StableHlo.upto hostOps0_4 W 5) main_v22 _ p rfl _ ((cast_eq _ _).trans (st4_v22 W p h)) (wrapW_eq p) _).trans (tab0_eq p)
theorem st4_v27 (a : BitVec 32) (p : Fin 32) (hc : W main_c = tab0) (ha : W main_v17 = fun _ => a) (h : W main_v19 = fun _ => BitVec.ofNat 32 p.val) :
    StableHlo.after hostOps0_4 W main_v27 = fun i => if (i 0).val = 1 then word (cyc p) else a := by
  after_reads_simp
  rw [st4_v25 W a ha, st4_v26 W p hc h]
  funext i
  obtain ⟨k, rfl⟩ : ∃ k : Fin 2, i = Shape.Idx.ofFin k := ⟨i 0, funext fun a => match a with | ⟨0, _⟩ => rfl⟩
  match k with
  | ⟨0, _⟩ => rfl
  | ⟨1, _⟩ => rfl
theorem st4_v29 (a : BitVec 32) (h9 : W main_v9 = fun _ => a) (h10 : W main_v10 = fun j => BitVec.ofNat 32 (j 0).val) :
    StableHlo.after hostOps0_4 W main_v29 = fun j => IntOp.subi a (BitVec.ofNat 32 (j 0).val) := by
  after_reads_simp; simp only [h9, h10]; rfl
theorem st4_c13 : StableHlo.after hostOps0_4 W main_c_13 = fun _ => 32#32 := by after_reads_simp; rfl

theorem st5_v30 (f : IVec S17 32) (n : BitVec 32) (ha : W main_v29 = f) (hn : W main_c_13 = fun _ => n) :
    StableHlo.after hostOps0_5 W main_v30 = fun j => remW n (f j) := by
  after_reads_simp
  simp only [StableHlo.TRef.ofBuf_toBuf, ha, hn]
  rfl

theorem st6_v37 (p : Fin 17 → Fin 32) (hc : W main_c = tab0) (h : W main_v30 = fun j => BitVec.ofNat 32 (p (j 0)).val) :
    StableHlo.after hostOps0_6 W main_v37 = fun j => word (cyc (p (j 0))) := by
  after_reads_simp
  simp only [hc, h]
  funext j
  exact (take_eq gather_S32_S17x1_S17_n_0_n_n_0_1_1 rfl rfl rfl rfl tab0 _ j (p (j 0)) (wrapW_eq (p (j 0)))).trans (tab0_eq _)
theorem st6_v40 (a : BitVec 32) (h9 : W main_v9 = fun _ => a) (h10 : W main_v10 = fun j => BitVec.ofNat 32 (j 0).val) :
    StableHlo.after hostOps0_6 W main_v40 = fun j => IntOp.addi a (BitVec.ofNat 32 (j 0).val) := by
  after_reads_simp; simp only [h9, h10]
  funext j
  exact congrArg (fun x => IntOp.addi a (BitVec.ofNat 32 x)) (Nat.zero_add (j 0).val)
theorem st6_c16 : StableHlo.after hostOps0_6 W main_c_16 = fun _ => 32#32 := by after_reads_simp; rfl

theorem st7_v41 (f : IVec S16 32) (n : BitVec 32) (ha : W main_v40 = f) (hn : W main_c_16 = fun _ => n) :
    StableHlo.after hostOps0_7 W main_v41 = fun j => remW n (f j) := by
  after_reads_simp
  simp only [StableHlo.TRef.ofBuf_toBuf, ha, hn]
  rfl

theorem st8_v48 (p : Fin 16 → Fin 32) (hc : W main_c = tab0) (h : W main_v41 = fun j => BitVec.ofNat 32 (p (j 0)).val) :
    StableHlo.after hostOps0_8 W main_v48 = fun j => word (cyc (p (j 0))) := by
  after_reads_simp
  simp only [hc, h]
  funext j
  exact (take_eq gather_S32_S16x1_S16_n_0_n_n_0_1_1 rfl rfl rfl rfl tab0 _ j (p (j 0)) (wrapW_eq (p (j 0)))).trans (tab0_eq _)

/-! ## What the kernel is entered with -/

variable (m : (ℓ : Loc nD τ sig) → Buf (Elt F) ℓ)

theorem V2_c : V2 m c main_c = tab0 := (V2_of m c main_c (by decide)).trans (st0_c c _)
theorem V4_c : V4 m c main_c = tab0 := (V4_of m c main_c (by decide)).trans ((V3_of m c main_c (by decide)).trans (V2_c c m))
theorem V6_c : V6 m c main_c = tab0 := (V6_of m c main_c (by decide)).trans ((V5_of m c main_c (by decide)).trans (V4_c c m))
theorem V8_c : V8 m c main_c = tab0 := (V8_of m c main_c (by decide)).trans ((V7_of m c main_c (by decide)).trans (V6_c c m))
theorem V2_v9 : V2 m c main_v9 = fun _ => BitVec.ofNat 32 (inv c).val := (V2_of m c main_v9 (by decide)).trans (st0_v9 c _)
theorem V4_v9 : V4 m c main_v9 = fun _ => BitVec.ofNat 32 (inv c).val :=
  (V4_of m c main_v9 (by decide)).trans ((V3_of m c main_v9 (by decide)).trans (V2_v9 c m))
theorem V6_v9 : V6 m c main_v9 = fun _ => BitVec.ofNat 32 (inv c).val :=
  (V6_of m c main_v9 (by decide)).trans ((V5_of m c main_v9 (by decide)).trans (V4_v9 c m))
theorem V4_v10 : V4 m c main_v10 = fun j => BitVec.ofNat 32 (j 0).val :=
  (V4_of m c main_v10 (by decide)).trans ((V3_of m c main_v10 (by decide)).trans ((V2_of m c main_v10 (by decide)).trans (st0_v10 c _)))
theorem V6_v10 : V6 m c main_v10 = fun j => BitVec.ofNat 32 (j 0).val :=
  (V6_of m c main_v10 (by decide)).trans ((V5_of m c main_v10 (by decide)).trans (V4_v10 c m))

/-- A place of the cycle, by any number congruent to it. -/
def place (n : ℕ) : Fin 32 := ⟨n % 32, Nat.mod_lt _ (by decide)⟩
theorem word_place (n : ℕ) : word (cyc (place n)) = word (devAt n) := rfl

theorem V2_v12 : V2 m c main_v12 = fun _ => BitVec.ofNat 32 (place (pos c + 31)).val :=
  (st1_v12 _ _ _ (st0_v11 c _) (st0_c6 c _)).trans (funext fun _ => rem_pred (inv c))
theorem V4_v17 : V4 m c main_v17 = fun _ => word (tgt false c) :=
  (V4_of m c main_v17 (by decide)).trans (st2_v17 _ _ (V2_c c m) (V2_v12 c m))
theorem V4_v19 : V4 m c main_v19 = fun _ => BitVec.ofNat 32 (place (pos c + 1)).val :=
  (st3_v19 _ _ _ (st2_v18 _ _ (V2_v9 c m)) (st2_c10 _)).trans (funext fun _ => rem_succ (inv c))
theorem V5_v27 : V5 m c main_v27 = nbrV c := by
  refine (st4_v27 _ _ _ (V4_c c m) (V4_v17 c m) (V4_v19 c m)).trans (funext fun i => ?_)
  unfold nbrV
  by_cases h : (i 0).val = 1
  · rw [if_pos h, decide_eq_true h]; rfl
  · rw [if_neg h, decide_eq_false h]
theorem V6_v30 : V6 m c main_v30 = fun j => BitVec.ofNat 32 (place (pos c + 32 - (j 0).val)).val :=
  (st5_v30 _ _ _ (st4_v29 _ _ (V4_v9 c m) (V4_v10 c m)) (st4_c13 _)).trans (funext fun j => rem_sub (inv c) (j 0))
theorem V7_v37 : V7 m c main_v37 = orV c := st6_v37 _ (fun t => place (pos c + 32 - t.val)) (V6_c c m) (V6_v30 c m)
theorem V8_v41 : V8 m c main_v41 = fun j => BitVec.ofNat 32 (place (pos c + (j 0).val)).val :=
  (st7_v41 _ _ _ (st6_v40 _ _ (V6_v9 c m) (V6_v10 c m)) (st6_c16 _)).trans
    (funext fun j => rem_add (inv c) ⟨(j 0).val, Nat.lt_succ_of_lt (show (j 0).val < 16 from (j 0).isLt)⟩)

theorem V9_nbr : V9 m c main_v27 = nbrV c :=
  (V9_of m c main_v27 (by decide)).trans ((V8_of m c main_v27 (by decide)).trans ((V7_of m c main_v27 (by decide)).trans
    ((V6_of m c main_v27 (by decide)).trans (V5_v27 c m))))
theorem V9_or : V9 m c main_v37 = orV c := (V9_of m c main_v37 (by decide)).trans ((V8_of m c main_v37 (by decide)).trans (V7_v37 c m))
theorem V9_ol : V9 m c main_v48 = olV c := st8_v48 _ (fun t => place (pos c + t.val)) (V8_c c m) (V8_v41 c m)

end Cert.KernelIdeal.RingProof

end
-- ==== Proof.KI.RegionData.lean ====
/-
# The data of the kernel's grid point

What each array holds before and after, and what a device brings from the launch and leaves.
-/
module

public import proofs.«01_k».proof.Proof.KI.Start
public import proofs.«01_k».proof.Proof.KI.Tables
public import Idealize.ShloMosaic.Lib.Pipeline.RegionTalk

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- Every device's block of `x`; its columns of `w`. -/
def xOf (d : Dev nD) : Vec F S256x8192 .f32 := m ((d : Thread nD τ).loc main_arg0)
def wOf (d : Dev nD) : Vec F S8192x128 .f32 := m ((d : Thread nD τ).loc main_arg1)

/-- The result. -/
def resOf (c : Dev nD) : Vec F S8192x128 .f32 := GO c (xOf m) (wOf m c)

theorem V9_arg0 (c : Dev nD) : V9 m c main_arg0 = xOf m c :=
  (V10_of m (fun _ r d => V9 m d r) c main_arg0 (by decide)).symm.trans (V10_main_arg0 m (fun _ r d => V9 m d r) c)
theorem V9_arg1 (c : Dev nD) : V9 m c main_arg1 = wOf m c :=
  (V10_of m (fun _ r d => V9 m d r) c main_arg1 (by decide)).symm.trans (V10_main_arg1 m (fun _ r d => V9 m d r) c)

/-! ## What a device brings and leaves -/

/-- From the launch, its own cells not yet open. -/
def Tk (c : Dev nD) : sProp 𝕄 :=
  iprop(∃ κ ιs, ctx (xOf m) κ ιs ∗ bigSep Finset.univ (fun k : OK => openTok ER (cell c (some k))) ∗ lanes (fun ρ j => lanePre c ρ j) ∗ barInit c)
/-- The same, its cells open. -/
def Xk (c : Dev nD) : sProp 𝕄 :=
  iprop(∃ κ ιs, ctx (xOf m) κ ιs ∗ bigSep Finset.univ (opened c) ∗ lanes (fun ρ j => lanePre c ρ j) ∗ barInit c)
def Yk (c : Dev nD) : sProp 𝕄 := semVal (cell c kBar) 0

theorem hopen (c : Dev nD) : iprop(Tk m c ∗ Pipeline.ownSems0 osem c ∗ levAts L lv) ⊢ (|={Set.univ}=> Xk m c : sProp 𝕄) := by
  unfold Tk Xk
  iintro ⟨⟨%κ, %ιs, #H, Ho, Hl, Hb⟩, Hs, -⟩
  imod (own_open (xOf m) κ ιs c) $$ [Ho Hs] with Hop
  · isplitr; · iexact H
    isplitl [Ho] <;> iassumption
  imodintro
  iexists κ; iexists ιs
  isplitr; · iexact H
  isplitl [Hop]; · iexact Hop
  isplitl [Hl] <;> iassumption

abbrev restOf (c : Dev nD) : sProp 𝕄 := Pipeline.scopedRest (Ix := ℕ) (Name := ℕ) (U := UU) (Lvl := ℕ) (Val := Elt F) spec0 c

def Φ₀ (c : Dev nD) : sProp 𝕄 := iprop(restOf c ∗ (∃ r, prngReg c r) ∗ Xk m c)
def Φ₁ (c : Dev nD) : sProp 𝕄 := iprop(restOf c ∗ (∃ r, prngReg c r) ∗ Pipeline.ownSems0 osem c ∗ Yk c)

abbrev O₀ (c : Dev nD) : CellTallies nD τ sig ℕ := oweL (allPays c)

/-- The grid point's data, the arrays at a valuation's contents; at the kernel's entry. -/
def datOf (V : Valuation τ sig (Elt F)) (c : Dev nD) : Dat τ (Elt F) ℕ ℕ UU ℕ cfg0 c where
  A w := V (Proc.devRef .tc (Pipeline.arrRef spec0 w))
  after w _ := match w with
    | ⟨0, _⟩ => nbrV (F := F) c
    | ⟨1, _⟩ => orV (F := F) c
    | ⟨2, _⟩ => olV (F := F) c
    | ⟨3, _⟩ => xOf m c
    | ⟨4, _⟩ => wOf m c
    | ⟨5, _⟩ => resOf m c
  Φ t := match t with
    | ⟨0, _⟩ => Φ₀ m c
    | ⟨_ + 1, _⟩ => Φ₁ c
  q _ := fullShare
  owed t := match t with
    | ⟨0, _⟩ => O₀ c
    | ⟨_ + 1, _⟩ => 0

def dats (_ : Fin 1) (c : Dev nD) : Dat τ (Elt F) ℕ ℕ UU ℕ cfg0 c := datOf m (V9 m c) c

theorem share_eq (c : Dev nD) (w : Fin cfg0.W) : (dats m 0 c).share w = fullShare := by unfold Dat.share; split <;> rfl

/-! ## A window over a whole array -/

section Whole
variable {s : Shape} {e : EltTy} {cs : CoreSpace} (arr : Memref sig .tc .hbm s e) (io sy : Bool) (st : Memref sig .tc (.core cs) ⟨s.rank, s.size⟩ e)
  (sm : DmaSem sig) (h₁ : arr.IsWhole) (h₂ : st.IsWhole) (t : Fin Pipeline.Grid.none.N)

/-- Its block is the array. -/
theorem rect_emb (x : s.Idx) : ((Pipeline.Window.whole arr io sy st sm h₁ h₂).rect t).emb x = x := by
  funext a
  apply Fin.ext
  rw [Rect.emb_apply]
  show 0 * s.size a + 1 * (x a).val = (x a).val
  omega

theorem fill_whole (d : s.Idx → Elt F e) (A) :
    (Pipeline.Window.whole arr io sy st sm h₁ h₂).fill (Pipeline.Grid.none.coords t) d
      (((Pipeline.Window.whole arr io sy st sm h₁ h₂).blk t).view.read (Elt F) A) = arr.view.read (Elt F) A := by
  funext j
  have hm : (Pipeline.Window.whole arr io sy st sm h₁ h₂).moved (Pipeline.Grid.none.coords t) j = true :=
    ((Pipeline.Window.whole arr io sy st sm h₁ h₂).moved_iff _ j).mpr fun a => (j a).isLt
  unfold Pipeline.Window.fill
  rw [dif_pos hm]
  exact congrArg (arr.view.read (Elt F) A) (rect_emb arr io sy st sm h₁ h₂ t j)

theorem write_blk (f) (w : s.Idx → Elt F e) :
    arr.view.read (Elt F) (((Pipeline.Window.whole arr io sy st sm h₁ h₂).blk t).view.write (Elt F) f w Finset.univ) = w := by
  have h := View.read_write_univ (v := ((Pipeline.Window.whole arr io sy st sm h₁ h₂).blk t).view) (Val := Elt F) f w
  funext j
  exact (congrArg (arr.view.read (Elt F) _) (rect_emb arr io sy st sm h₁ h₂ t j)).symm.trans (congrFun h j)

end Whole

section Before
variable (V : Valuation τ sig (Elt F)) (c : Dev nD)

theorem beforeV_0 (d) : (datOf m V c).before (0 : Fin 6) t0_0 d = V main_v27 := by
  unfold Dat.before; rw [if_pos (fetch0_0 t0_0)]
  refine (fill_whole (Memref.whole main_v27) false false (stage0_0 0) (sem0_0 0) (Memref.isWhole_whole _) (hstage0_0 0) t0_0 d _).trans ?_
  exact View.read_whole (Val := Elt F) main_v27 (V main_v27)
theorem before_0 (d) : (dats m 0 c).before (0 : Fin 6) t0_0 d = nbrV (F := F) c := (beforeV_0 m (V9 m c) c d).trans (V9_nbr c m)
theorem beforeV_1 (d) : (datOf m V c).before (1 : Fin 6) t0_0 d = V main_v37 := by
  unfold Dat.before; rw [if_pos (fetch0_1 t0_0)]
  refine (fill_whole (Memref.whole main_v37) false false (stage0_1 0) (sem0_1 0) (Memref.isWhole_whole _) (hstage0_1 0) t0_0 d _).trans ?_
  exact View.read_whole (Val := Elt F) main_v37 (V main_v37)
theorem before_1 (d) : (dats m 0 c).before (1 : Fin 6) t0_0 d = orV (F := F) c := (beforeV_1 m (V9 m c) c d).trans (V9_or c m)
theorem beforeV_2 (d) : (datOf m V c).before (2 : Fin 6) t0_0 d = V main_v48 := by
  unfold Dat.before; rw [if_pos (fetch0_2 t0_0)]
  refine (fill_whole (Memref.whole main_v48) false false (stage0_2 0) (sem0_2 0) (Memref.isWhole_whole _) (hstage0_2 0) t0_0 d _).trans ?_
  exact View.read_whole (Val := Elt F) main_v48 (V main_v48)
theorem before_2 (d) : (dats m 0 c).before (2 : Fin 6) t0_0 d = olV (F := F) c := (beforeV_2 m (V9 m c) c d).trans (V9_ol c m)
theorem beforeV_3 (d) : (datOf m V c).before (3 : Fin 6) t0_0 d = V main_arg0 := by
  unfold Dat.before; rw [if_pos (fetch0_3 t0_0)]
  refine (fill_whole (Memref.whole main_arg0) false false (stage0_3 0) (sem0_3 0) (Memref.isWhole_whole _) (hstage0_3 0) t0_0 d _).trans ?_
  exact View.read_whole (Val := Elt F) main_arg0 (V main_arg0)
theorem before_3 (d) : (dats m 0 c).before (3 : Fin 6) t0_0 d = xOf m c := (beforeV_3 m (V9 m c) c d).trans (V9_arg0 m c)
theorem beforeV_4 (d) : (datOf m V c).before (4 : Fin 6) t0_0 d = V main_arg1 := by
  unfold Dat.before; rw [if_pos (fetch0_4 t0_0)]
  refine (fill_whole (Memref.whole main_arg1) false false (stage0_4 0) (sem0_4 0) (Memref.isWhole_whole _) (hstage0_4 0) t0_0 d _).trans ?_
  exact View.read_whole (Val := Elt F) main_arg1 (V main_arg1)
theorem before_4 (d) : (dats m 0 c).before (4 : Fin 6) t0_0 d = wOf m c := (beforeV_4 m (V9 m c) c d).trans (V9_arg1 m c)

end Before

end Cert.KernelIdeal.RingProof

end
-- ==== Proof.KI.ProgEq.lean ====
/-
# The printed body is the sixteen steps
-/
module

public import proofs.«01_k».proof.Proof.KI.Prog

@[expose] public section

noncomputable section

namespace Cert.KernelIdeal.RingProof

open Cert.KernelIdeal Cert.KernelIdeal.Gen
open Idealize.ShloMosaic Idealize.SL.Sem

variable {F : FTy → Type} [FloatOps F]

set_option maxHeartbeats 40000000 in
set_option maxRecDepth 100000 in
/-- The body the pipeline calls is `bodyProg`. -/
theorem body_eq (t : Fin cfg0.N) : bodyAt0 (F := F) t = bodyProg := rfl

end Cert.KernelIdeal.RingProof
-- ==== Proof.KI.RegionBody.lean ====
/-
# The body at the grid point
-/
module

public import proofs.«01_k».proof.Proof.KI.RegionData
public import proofs.«01_k».proof.Proof.KI.ProgEq

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The body -/

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : stg c b X ⊢ (((c : Thread nD τ).loc b) ↦{fullShare} X : sProp 𝕄) := by
  iintro ⟨%f, %h, H⟩
  subst h
  iexact H
theorem stg_intro (c : Dev nD) (b : Ref sig .tc) (X : b.ty.Contents (Elt F)) : (((c : Thread nD τ).loc b) ↦{fullShare} X : sProp 𝕄) ⊢ stg c b X := by
  iintro H
  iexists X
  isplitr; · ipureintro; rfl
  iexact H

theorem xAll_intro (c : Dev nD) (x : Vec F S256x8192 .f32) : (((c : Thread nD τ).loc cc0_stg3_0) ↦{fullShare} x : sProp 𝕄) ⊢ xAll c fullShare x := by
  unfold xAll xPts
  rw [xHalfM_set, xHalfM_set]
  exact slot_split (ℓ := (c : Thread nD τ).loc cc0_stg3_0) xSet_disjoint xSet_union x
theorem xAll_elim (c : Dev nD) (x : Vec F S256x8192 .f32) : xAll c fullShare x ⊢ (((c : Thread nD τ).loc cc0_stg3_0) ↦{fullShare} x : sProp 𝕄) := by
  unfold xAll xPts
  rw [xHalfM_set, xHalfM_set]
  have h : iprop((((c : Thread nD τ).loc cc0_stg3_0) ↦[xSet 0]{fullShare} x) ∗ (((c : Thread nD τ).loc cc0_stg3_0) ↦[xSet 1]{fullShare} x))
      ⊢ (((c : Thread nD τ).loc cc0_stg3_0) ↦[xSet 0 ∪ xSet 1]{fullShare} x : sProp 𝕄) := (pointsTo_union xSet_disjoint).2
  rw [xSet_union] at h
  exact h

theorem owesAt_intro (c : Dev nD) : ow c [] ⊢ ((dats m 0 c).owesAt 0 (t0_0 : Fin cfg0.N).succ : sProp 𝕄) := by
  unfold ow Dat.owesAt Pipeline.owesWithin Dat.bound
  iintro ⟨%W, HO⟩
  iexists W
  isplitr; · ipureintro; exact fun _ _ => Or.inl trivial
  iexact HO
theorem owesAt_elim (c : Dev nD) : ((dats m 0 c).owesAt 0 (t0_0 : Fin cfg0.N).castSucc : sProp 𝕄) ⊢ ow c (allPays c) := by
  unfold ow Dat.owesAt Pipeline.owesWithin
  iintro ⟨%W, -, HO⟩
  iexists W
  iexact HO

theorem nbr_eq (c : Dev nD) : nbrPts (F := F) c fullShare = (((c : Thread nD τ).loc cc0_stg0_0) ↦{fullShare} nbrV (F := F) c : sProp 𝕄) := rfl
theorem or_eq (c : Dev nD) : orPts (F := F) c fullShare = (((c : Thread nD τ).loc cc0_stg1_0) ↦{fullShare} orV (F := F) c : sProp 𝕄) := rfl
theorem ol_eq (c : Dev nD) : olPts (F := F) c fullShare = (((c : Thread nD τ).loc cc0_stg2_0) ↦{fullShare} olV (F := F) c : sProp 𝕄) := rfl
theorem w_eq (c : Dev nD) (w : Vec F S8192x128 .f32) : wPts c fullShare w = (((c : Thread nD τ).loc cc0_stg4_0) ↦{fullShare} w : sProp 𝕄) := rfl
theorem out_eq (c : Dev nD) : outDone (xOf m) c (wOf m c) = (((c : Thread nD τ).loc cc0_stg5_0) ↦{fullShare} resOf m c : sProp 𝕄) := rfl
theorem outSt_intro (c : Dev nD) (f : Vec F S8192x128 .f32) :
    (((c : Thread nD τ).loc cc0_stg5_0) ↦{fullShare} f : sProp 𝕄) ⊢ outSt c (xOf m) (wOf m c) (fun _ => False) := by
  unfold outSt
  iintro H
  iexists f
  isplitr; · ipureintro; exact fun i h => h.elim
  iexact H

/-- Before and after the body, the staging buffers apart. -/
def ptPre (c : Dev nD) : sProp 𝕄 :=
  iprop(Φ₀ m c ∗ (dats m 0 c).owesAt 0 (t0_0 : Fin cfg0.N).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def ptPost (c : Dev nD) : sProp 𝕄 :=
  iprop(Φ₁ c ∗ (dats m 0 c).owesAt 0 (t0_0 : Fin cfg0.N).succ
    ∗ stg c cc0_stg0_0 (nbrV (F := F) c) ∗ stg c cc0_stg1_0 (orV (F := F) c) ∗ stg c cc0_stg2_0 (olV (F := F) c)
    ∗ stg c cc0_stg3_0 (xOf m c) ∗ stg c cc0_stg4_0 (wOf m c) ∗ stg c cc0_stg5_0 (resOf m c))

theorem pt_body (c : Dev nD) : ptPre m c ⊢ wpK c bodyProg (fun _ => ptPost m c) := by
  unfold ptPre Φ₀ Xk
  iintro ⟨⟨Hr, Hp, ⟨%κ, %ιs, #H, Hop, Hl, Hb⟩⟩, HO, ⟨%d0, H0⟩, ⟨%d1, H1⟩, ⟨%d2, H2⟩, ⟨%d3, H3⟩, ⟨%d4, H4⟩, ⟨%d5, H5⟩⟩
  ihave Hr := (rest_split c) $$ Hr
  imod (lanes_init (xOf m) κ ιs c) $$ [Hop Hl Hr] with Hl
  · isplitr; · iexact H
    isplitl [Hop]; · iexact Hop
    isplitl [Hl] <;> iassumption
  ihave HO := (owesAt_elim m c) $$ HO
  ihave H0 := (stg_elim c cc0_stg0_0 _) $$ H0
  ihave H1 := (stg_elim c cc0_stg1_0 _) $$ H1
  ihave H2 := (stg_elim c cc0_stg2_0 _) $$ H2
  ihave H3 := (stg_elim c cc0_stg3_0 _) $$ H3
  ihave H4 := (stg_elim c cc0_stg4_0 _) $$ H4
  ihave H5 := (stg_elim c cc0_stg5_0 _) $$ H5
  rw [before_0, before_1, before_2, before_3, before_4]
  iapply (wp_body (xOf m) κ ιs c (wOf m c)) $$ [Hl Hb HO H0 H1 H2 H3 H4 H5]
  · isplitr; · iexact H
    isplitr [HO]
    · unfold bodyIn env
      rw [nbr_eq, or_eq, ol_eq, w_eq]
      isplitl [Hl]; · iexact Hl
      isplitl [Hb]; · iexact Hb
      isplitl [H0]; · iexact H0
      isplitl [H3]; · iapply (xAll_intro c (xOf m c)); iexact H3
      isplitr [H5]
      · isplitl [H4]; · iexact H4
        isplitl [H1]; · iexact H1
        iexact H2
      iapply (outSt_intro m c ((dats m 0 c).before (5 : Fin 6) t0_0 d5)); iexact H5
    iexact HO
  unfold bodyOut env ptPost Φ₁ Yk
  rw [nbr_eq, or_eq, ol_eq, w_eq, out_eq]
  iintro ⟨⟨Hl, Hb, H0, H3, ⟨H4, H1, H2⟩, H5⟩, HO⟩
  ihave Hl := (lanes_closed c) $$ Hl
  icases Hl with ⟨Hos, Hsl⟩
  isplitl [Hos Hsl Hp Hb]
  · isplitl [Hsl]; · iapply (rest_join c); iexact Hsl
    isplitl [Hp]; · iexact Hp
    isplitl [Hos] <;> iassumption
  isplitl [HO]; · iapply (owesAt_intro m c); iexact HO
  isplitl [H0]; · iapply (stg_intro c cc0_stg0_0 (nbrV (F := F) c)); iexact H0
  isplitl [H1]; · iapply (stg_intro c cc0_stg1_0 (orV (F := F) c)); iexact H1
  isplitl [H2]; · iapply (stg_intro c cc0_stg2_0 (olV (F := F) c)); iexact H2
  isplitl [H3]; · iapply (stg_intro c cc0_stg3_0 (xOf m c)); iapply (xAll_elim c (xOf m c)); iexact H3
  isplitl [H4]; · iapply (stg_intro c cc0_stg4_0 (wOf m c)); iexact H4
  iapply (stg_intro c cc0_stg5_0 (resOf m c)); iexact H5

theorem wpK_congr (c : Dev nD) {p q : PG F} (h : p = q) {P : sProp 𝕄} {Q : PUnit → sProp 𝕄} (H : P ⊢ wpK c p Q) : P ⊢ wpK c q Q := h ▸ H

set_option maxRecDepth 100000 in
theorem pt_body_at (c : Dev nD) : ptPre m c ⊢ wpK c (bodyAt0 (F := F) t0_0) (fun _ => ptPost m c) :=
  wpK_congr c (body_eq (F := F) t0_0).symm (pt_body m c)

set_option maxRecDepth 100000 in
theorem body_obligation (c : Dev nD) : BodyObligation (dats m 0 c) (defs₀ (F := F)) 𝒱₀ 0 Set.univ := fun t => by
  obtain rfl : t = t0_0 := fin_N0 t
  rw [bigSep_W0, bigSep_W0]
  simp only [owns_whole_eq]
  exact pt_body_at m c

end Cert.KernelIdeal.RingProof

end
-- ==== Proof.KI.Region.lean ====
/-
# The kernel as a region of the program

The record the program's run takes, and how it meets what stands before and after it.
-/
module

public import proofs.«01_k».proof.Proof.KI.RegionBody

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

theorem good_allPays (c : Dev nD) : good 0 (allPays c) := by
  have hg := good_stepsPay c 15 le_rfl
  have h : good 0 (stepPay c 0 (stepsPay c 15)) :=
    good_mono (Nat.zero_le 1) (good_sendsPay c 0 _ (by omega) (by omega) _ (good_sigsPay c 0 _ (by omega) (by omega) _ (good_mono (by omega) hg)))
  exact good_cons.mpr ⟨⟨Nat.zero_lt_one, rfl, (by decide : (1 : ℕ) < 40)⟩, good_cons.mpr ⟨⟨Nat.zero_lt_one, rfl, (by decide : (1 : ℕ) < 40)⟩, h⟩⟩

theorem owed_cut (c : Dev nD) (t : Fin (cfg0.N + 1)) (g : GSem nD τ sig) (i : ℕ) (h : 0 < (dats m 0 c).owed t g i) : i ∈ L g ∧ 0 < lv g i := by
  match t, h with
  | ⟨0, _⟩, h =>
    obtain ⟨p, hp, rfl, rfl⟩ := oweL_pos (show 0 < oweL (allPays c) g i from h)
    obtain ⟨h1, h2, h3⟩ := good_allPays c p hp
    refine ⟨?_, h1⟩
    unfold L
    rw [if_pos h2]
    exact Finset.mem_range.mpr h3
  | ⟨_ + 1, _⟩, h => exact absurd h (Nat.lt_irrefl 0)

/-! ## The arrays before and after -/

section Arrays
variable (V : Valuation τ sig (Elt F)) (c : Dev nD)

/-- A valuation with the result in place. -/
def withRes : Valuation τ sig (Elt F) := Function.update V (Proc.devRef .tc main_v49) (resOf m c)

theorem withRes_of (b : DevRef τ sig) (h : b ≠ Proc.devRef .tc main_v49) : withRes m V c b = V b := Function.update_of_ne h _ _

theorem arr_start (w : Fin cfg0.W) : (datOf m V c).arrAt w 0 = V (Proc.devRef .tc (Pipeline.arrRef spec0 w)) := rfl

theorem arr_in (w : Fin cfg0.W) (hw : (cfg0.win w).isOut = false) (h : Proc.devRef (τ := τ) .tc (Pipeline.arrRef spec0 w) ≠ Proc.devRef .tc main_v49) (n : ℕ) :
    (datOf m V c).arrAt w n = withRes m V c (Proc.devRef .tc (Pipeline.arrRef spec0 w)) :=
  ((datOf m V c).arrAt_in w hw n).trans (withRes_of m V c _ h).symm

theorem arr_out : (datOf m V c).arrAt (5 : Fin 6) ((t0_0 : Fin cfg0.N).val + 1) = withRes m V c (Proc.devRef .tc main_v49) := by
  rw [Pipeline.Dat.arrAt_succ]
  rw [if_pos (flush0_5 t0_0)]
  refine Eq.trans ?_ (Function.update_self (Proc.devRef (τ := τ) .tc main_v49) (resOf m c) V).symm
  exact (View.read_whole (Val := Elt F) main_v49 _).symm.trans
    (write_blk (Memref.whole main_v49) true false (stage0_5 0) (sem0_5 0) (Memref.isWhole_whole _) (hstage0_5 0) t0_0 _ (resOf m c))

theorem arr_end (w : Fin cfg0.W) : (datOf m V c).arrAt w cfg0.N = withRes m V c (Proc.devRef .tc (Pipeline.arrRef spec0 w)) := by
  match w with
  | ⟨0, _⟩ => exact arr_in m V c 0 rfl (by decide) _
  | ⟨1, _⟩ => exact arr_in m V c 1 rfl (by decide) _
  | ⟨2, _⟩ => exact arr_in m V c 2 rfl (by decide) _
  | ⟨3, _⟩ => exact arr_in m V c 3 rfl (by decide) _
  | ⟨4, _⟩ => exact arr_in m V c 4 rfl (by decide) _
  | ⟨5, _⟩ => exact arr_out m V c

end Arrays

/-! ## The record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The program's other buffers. -/
abbrev others : Finset (DevRef τ sig) := Pipeline.ucRefs τ sig \ Pipeline.arrRefs (τ := τ) spec0

theorem res_arr : Proc.devRef (τ := τ) .tc main_v49 ∈ Pipeline.arrRefs (τ := τ) spec0 := by decide

theorem others_ne (b : DevRef τ sig) (h : b ∈ others) : b ≠ Proc.devRef .tc main_v49 := fun e =>
  (Finset.mem_sdiff.mp h).2 (e ▸ res_arr)

theorem held_empty (c : Dev nD) (V : Valuation τ sig (Elt F)) : (StableHlo.held (c.tc : Thread nD τ) ∅ V : sProp 𝕄) = BI.emp := by
  unfold StableHlo.held; exact BI.bigSep_empty

theorem hin (c : Dev nD) : iprop(restOf c ∗ (∃ r, prngReg c r) ∗ StableHlo.held (c.tc : Thread nD τ) ∅ (V9 m c) ∗ Xk m c) ⊢ Φ₀ m c := by
  rw [held_empty]
  unfold Φ₀
  iintro ⟨Hr, Hp, -, HX⟩
  isplitl [Hr]; · iexact Hr
  isplitl [Hp] <;> iassumption

theorem hout (c : Dev nD) : (Φ₁ c : sProp 𝕄) ⊢ iprop(restOf c ∗ (∃ r, prngReg c r) ∗ StableHlo.held (c.tc : Thread nD τ) ∅ (withRes m (V9 m c) c) ∗ Pipeline.ownSems0 osem c ∗ Yk c) := by
  rw [held_empty]
  unfold Φ₁
  iintro ⟨Hr, Hp, Hs, HY⟩
  isplitl [Hr]; · iexact Hr
  isplitl [Hp]; · iexact Hp
  isplitr; · iempintro
  isplitl [Hs] <;> iassumption

theorem owed_zero (c : Dev nD) : (dats m 0 c).owed 0 = 0 + O₀ c := (zero_add _).symm
theorem owed_last (c : Dev nD) : (dats m 0 c).owed (Fin.last _) = 0 := rfl

set_option backward.isDefEq.respectTransparency.types false in
def reg0 : Pipeline.RegionSeg (pcfgs (F := F)) adm (dats m) 0 defs₀ 𝒱₀ L lv 0 :=
  Pipeline.RegionSeg.ofTalk (pcfgs (F := F)) adm (dats m) 0 defs₀ 𝒱₀ L lv 0 osem ownSemFacts
    ∅ others (Finset.empty_subset _) kit rfl (fun c => (body_obligation m c).loose)
    (fun _ => 0) O₀ (owed_zero m) (owed_last m) (fun _ => rfl) (share_eq m)
    (V9 m) (fun c => withRes m (V9 m c) c) (fun c b hb => withRes_of m (V9 m c) c b (others_ne b (Finset.mem_sdiff.mp hb).1))
    (Tk m) Yk (Xk m) Yk (hopen m) (hin m) (hout m)
    (fun c => by iintro H; imodintro; iexact H)
    (fun _ => 0)
    ⟨fun c w s => by rw [L_tc]; exact Finset.mem_range.mpr (by decide), fun c w s => le_rfl, fun c t g i h => owed_cut m c t g i h⟩
    (fun _ => iprop(emp))
    (fun c w => arr_start m (V9 m c) c w) (fun c w => arr_end m (V9 m c) c w)

/-- What rides beside the buffers to the kernel. -/
def E₀ (c : Dev nD) : sProp 𝕄 := iprop(Tk m c ∗ (∃ r, prngReg c r) ∗ ∃ W, owes (c : Thread nD τ) (O₀ c) W)

theorem arrs_sub : Pipeline.arrRefs (τ := τ) spec0 ⊆ Pipeline.ucRefs τ sig := by decide

theorem reg0_pre (c : Dev nD) : iprop(StableHlo.held (c : Thread nD τ) (Pipeline.ucRefs τ sig) (V9 m c) ∗ E₀ m c) ⊢ (reg0 m).pre c := by
  show _ ⊢ iprop(StableHlo.held (c.tc : Thread nD τ) (Pipeline.arrRefs (τ := τ) spec0) (V9 m c) ∗ (∃ r, prngReg c r)
    ∗ (StableHlo.held (c.tc : Thread nD τ) others (V9 m c) ∗ emp) ∗ Tk m c ∗ ∃ Wd, owes (c : Thread nD τ) (0 + O₀ c) Wd)
  rw [StableHlo.held_sub_split (c.tc : Thread nD τ) arrs_sub (V9 m c), zero_add]
  unfold E₀
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c
    ⊢ iprop(StableHlo.held (c : Thread nD τ) (Pipeline.ucRefs τ sig) (withRes m (V9 m c) c) ∗ semVal (cell c kBar) 0 ∗ ∃ W, owes (c : Thread nD τ) (0 : CellTallies nD τ sig ℕ) W) := by
  show iprop(StableHlo.held (c.tc : Thread nD τ) (Pipeline.arrRefs (τ := τ) spec0) (withRes m (V9 m c) c) ∗ (∃ r, prngReg c r)
    ∗ (StableHlo.held (c.tc : Thread nD τ) others (withRes m (V9 m c) c) ∗ emp) ∗ Yk c ∗ ∃ Wd, owes (c : Thread nD τ) (0 : CellTallies nD τ sig ℕ) Wd) ⊢ _
  rw [StableHlo.held_sub_split (c.tc : Thread nD τ) arrs_sub (withRes m (V9 m c) c)]
  unfold Yk
  iintro ⟨Ha, -, ⟨Hr, -⟩, Hb, HO⟩
  isplitl [Ha Hr]
  · isplitl [Ha] <;> iassumption
  isplitl [Hb] <;> iassumption

end Cert.KernelIdeal.RingProof

end
-- ==== Proof.KI.Credits.lean ====
/-
# The launch's credits

What the other devices owe a device, as the credits of its waits.
-/
module

public import proofs.«01_k».proof.Proof.KI.Start

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Lanes -/

omit [FloatOps F] in
theorem lanes_mono {Φ Ψ : Bool → Fin 2 → sProp 𝕄} (h : ∀ ρ j, Φ ρ j ⊢ Ψ ρ j) : lanes Φ ⊢ lanes Ψ := by
  unfold lanes
  exact BI.sep_mono (h _ _) (BI.sep_mono (h _ _) (BI.sep_mono (h _ _) (h _ _)))

omit [FloatOps F] in
theorem lanes_pair (Φ Ψ : Bool → Fin 2 → sProp 𝕄) : iprop(lanes Φ ∗ lanes Ψ) ⊢ lanes (fun ρ j => iprop(Φ ρ j ∗ Ψ ρ j)) := by
  unfold lanes
  iintro ⟨⟨H1, H2, H3, H4⟩, K1, K2, K3, K4⟩
  isplitl [H1 K1]; · isplitl [H1] <;> iassumption
  isplitl [H2 K2]; · isplitl [H2] <;> iassumption
  isplitl [H3 K3]; · isplitl [H3] <;> iassumption
  isplitl [H4] <;> iassumption

omit [FloatOps F] in
theorem lanes_bigSep {I : Type} [DecidableEq I] (s : Finset I) (Φ : I → Bool → Fin 2 → sProp 𝕄) :
    bigSep s (fun t => lanes (Φ t)) = lanes (fun ρ j => bigSep s (fun t => Φ t ρ j)) := by
  unfold lanes
  rw [bigSep_sep', bigSep_sep', bigSep_sep']

/-! ## The credits -/

/-- The credit of the payments `l d` every device `d` owes. -/
abbrev lc (l : Dev nD → List Pay) (c : Dev nD) : sProp 𝕄 := Pipeline.launchCred (fun d => oweL (l d)) c

section Credits
variable (l : Dev nD → List Pay) (c : Dev nD)

omit [FloatOps F] in
theorem cred_cons (ρ : Bool) (k : CK) (i n : ℕ) :
    lc (F := F) (fun d => (cell (tgt ρ d) k, i, n) :: l d) c ⊢ iprop(cred (tallyAt (cell c k) i n) ∗ lc l c) := by
  have h : lc (F := F) (fun d => (cell (tgt ρ d) k, i, n) :: l d) c
      = iprop(lc l c ∗ Pipeline.launchCred (fun d => tallyAt (((tgt ρ d).tc : Thread nD τ), semOf k) i n) c) :=
    Pipeline.launchCred_add (fun d => oweL (l d)) (fun d => tallyAt (((tgt ρ d).tc : Thread nD τ), semOf k) i n) c
  have h2 : (Pipeline.launchCred (fun d => tallyAt (((tgt ρ d).tc : Thread nD τ), semOf k) i n) c : sProp 𝕄) ⊢ cred (tallyAt (cell c k) i n) :=
    Pipeline.launchCred_tallyAt (semOf k) (tgt ρ) (tgt (!ρ)) (tgt_tgt ρ) (tgt_tgt' ρ) i n c
  rw [h]
  iintro ⟨H1, H2⟩
  isplitl [H2]; · iapply h2; iexact H2
  iexact H1

/-- The credit of a lane's send in step `t`; of its hand-back. -/
def sendCr (c : Dev nD) (ρ : Bool) (j : Fin 2) (t : ℕ) : sProp 𝕄 :=
  if sends ρ j t = true then cred (tallyAt (cell c (kRecv ρ (slotOf (t + 1)) j)) (t + 2) NN) else iprop(emp)
def sigCr (c : Dev nD) (ρ : Bool) (j : Fin 2) (t : ℕ) : sProp 𝕄 :=
  if t ≤ 14 then cred (tallyAt (cell c (kCred ρ j)) (t + 2) 1) else iprop(emp)
/-- The credit of a lane's last arrival. -/
def lastCr (c : Dev nD) (ρ : Bool) (j : Fin 2) : sProp 𝕄 :=
  if j = lastHalf ρ then cred (tallyAt (cell c (kRecv ρ 0 j)) 17 NN) else iprop(emp)

omit [FloatOps F] in
theorem cred_send (ρ : Bool) (j : Fin 2) (t : ℕ) : lc (F := F) (fun d => sendPays d ρ j t (l d)) c ⊢ iprop(sendCr c ρ j t ∗ lc l c) := by
  unfold sendPays sendCr
  cases hs : sends ρ j t
  · rw [if_neg (by decide)]
    iintro H
    isplitr; · iempintro
    iexact H
  · rw [if_pos rfl]
    exact cred_cons l c ρ _ _ _

omit [FloatOps F] in
theorem cred_sig (ρ : Bool) (j : Fin 2) (t : ℕ) : lc (F := F) (fun d => sigPays d ρ j t (l d)) c ⊢ iprop(sigCr c ρ j t ∗ lc l c) := by
  unfold sigPays sigCr
  by_cases ht : t ≤ 14
  · rw [if_pos ht, decide_eq_true ht]
    exact cred_cons l c (!ρ) _ _ _
  · rw [if_neg ht, decide_eq_false ht]
    iintro H
    isplitr; · iempintro
    iexact H

omit [FloatOps F] in
theorem cred_step (t : ℕ) : lc (F := F) (fun d => stepPay d t (l d)) c
    ⊢ iprop(lanes (fun ρ j => iprop(sendCr c ρ j t ∗ sigCr c ρ j t)) ∗ lc l c) := by
  unfold stepPay sendsPay sigsPay
  iintro H
  ihave H := (cred_send _ c true 0 t) $$ H; icases H with ⟨S1, H⟩
  ihave H := (cred_send _ c false 0 t) $$ H; icases H with ⟨S2, H⟩
  ihave H := (cred_send _ c true 1 t) $$ H; icases H with ⟨S3, H⟩
  ihave H := (cred_send _ c false 1 t) $$ H; icases H with ⟨S4, H⟩
  ihave H := (cred_sig _ c true 0 t) $$ H; icases H with ⟨C1, H⟩
  ihave H := (cred_sig _ c false 0 t) $$ H; icases H with ⟨C2, H⟩
  ihave H := (cred_sig _ c true 1 t) $$ H; icases H with ⟨C3, H⟩
  ihave H := (cred_sig _ c false 1 t) $$ H; icases H with ⟨C4, H⟩
  isplitr [H]
  · unfold lanes
    isplitl [S1 C1]; · isplitl [S1] <;> iassumption
    isplitl [S2 C2]; · isplitl [S2] <;> iassumption
    isplitl [S3 C3]; · isplitl [S3] <;> iassumption
    isplitl [S4] <;> iassumption
  iexact H

omit [FloatOps F] in
theorem step_cr (ρ : Bool) (j : Fin 2) (t : ℕ) (ht : t ≤ 14) : iprop(sendCr c ρ j t ∗ sigCr c ρ j t) ⊢ (laneCr c ρ j (t + 1) : sProp 𝕄) := by
  unfold sendCr sigCr laneCr
  rw [if_pos ht, if_pos ((sends_eq ρ j t).mpr (.inl ht))]
  iintro ⟨H1, H2⟩
  isplitl [H2] <;> iassumption
omit [FloatOps F] in
theorem step_last (ρ : Bool) (j : Fin 2) : iprop(sendCr c ρ j 15 ∗ sigCr c ρ j 15) ⊢ (lastCr c ρ j : sProp 𝕄) := by
  unfold sendCr lastCr
  by_cases h : j = lastHalf ρ
  · rw [if_pos h, if_pos ((sends_eq ρ j 15).mpr (.inr h))]
    iintro ⟨H1, -⟩
    iexact H1
  · rw [if_neg h]
    iintro -
    iempintro

omit [FloatOps F] in
theorem cred_steps (n : ℕ) (hn : n ≤ 15) : lc (F := F) (fun d => stepsPay d (n + 1)) c
    ⊢ iprop(lanes (fun ρ j => lastCr c ρ j) ∗ bigSep (Finset.Ico (16 - n) 16) (fun t => lanes (fun ρ j => laneCr c ρ j t))) := by
  induction n with
  | zero =>
    rw [show Finset.Ico (16 - 0) 16 = ∅ from by decide, bigSep_empty]
    iintro H
    ihave H := (show lc (F := F) (fun d => stepsPay d 1) c ⊢ _ from cred_step (fun _ => []) c 15) $$ H
    icases H with ⟨H, -⟩
    isplitl [H]
    · iapply (lanes_mono (fun ρ j => step_last (F := F) c ρ j)); iexact H
    iempintro
  | succ n ih =>
    rw [bigSep_Ico_succ_bot (show 16 - (n + 1) < 16 by omega), show 16 - (n + 1) + 1 = 16 - n by omega]
    have h14 : 15 - (n + 1) ≤ 14 := by omega
    have e : ∀ ρ j, iprop(sendCr c ρ j (15 - (n + 1)) ∗ sigCr c ρ j (15 - (n + 1))) ⊢ (laneCr c ρ j (16 - (n + 1)) : sProp 𝕄) := fun ρ j => by
      have h := step_cr (F := F) c ρ j _ h14
      rwa [show 15 - (n + 1) + 1 = 16 - (n + 1) by omega] at h
    iintro H
    ihave H := (show lc (F := F) (fun d => stepsPay d (n + 1 + 1)) c ⊢ _ from cred_step (fun d => stepsPay d (n + 1)) c (15 - (n + 1))) $$ H
    icases H with ⟨H, Hl⟩
    ihave Hl := (ih (by omega)) $$ Hl
    icases Hl with ⟨HL, Hl⟩
    isplitl [HL]; · iexact HL
    isplitl [H]
    · iapply (lanes_mono e); iexact H
    iexact Hl

omit [FloatOps F] in
/-- A device's credits at the launch. -/
theorem cred_all : lc (F := F) allPays c
    ⊢ iprop(cred (tallyAt (cell c kBar) 1 2) ∗ lanes (fun ρ j => iprop(lastCr c ρ j ∗ bigSep (Finset.Ico 1 16) (fun t => laneCr c ρ j t)))) := by
  iintro H
  ihave H := (show lc (F := F) allPays c ⊢ _ from cred_cons (fun d => (cell (tgt true d) kBar, 1, 1) :: stepPay d 0 (stepsPay d 15)) c false kBar 1 1) $$ H
  icases H with ⟨B1, H⟩
  ihave H := (cred_cons (fun d => stepPay d 0 (stepsPay d 15)) c true kBar 1 1) $$ H
  icases H with ⟨B2, H⟩
  ihave H := (show lc (F := F) (fun d => stepPay d 0 (stepsPay d 15)) c ⊢ _ from cred_steps c 15 le_rfl) $$ H
  icases H with ⟨HL, H⟩
  isplitl [B1 B2]
  · have h : iprop(cred (tallyAt (cell c kBar) 1 1) ∗ cred (tallyAt (cell c kBar) 1 1)) ⊢ (cred (tallyAt (cell c kBar) 1 2) : sProp 𝕄) :=
      (cred_add _ _).2.trans (Entails.of_eq (congrArg cred (tallyAt_add _ _ _ _)))
    iapply h
    isplitl [B1] <;> iassumption
  iapply lanes_pair
  isplitl [HL]; · iexact HL
  iapply (Entails.of_eq (lanes_bigSep (F := F) (Finset.Ico 1 16) (fun t ρ j => laneCr c ρ j t))); iexact H

end Credits

end Cert.KernelIdeal.RingProof

end
-- ==== Proof.KI.Deal.lean ====
/-
# The launch's tokens

The tokens of all the duties and of all the slots' writes, dealt to the devices that use them.
-/
module

public import proofs.«01_k».proof.Proof.KI.Credits

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Lists of lanes -/

omit [FloatOps F] in
theorem bigSep_lanes (Φ : Bool × Fin 2 → sProp 𝕄) : bigSep Finset.univ Φ = lanes (fun ρ j => Φ (ρ, j)) := by
  rw [bigSep_univ_eq_bigSepL [(true, 0), (false, 0), (true, 1), (false, 1)] (by decide) (by decide) Φ]
  unfold lanes
  rfl

omit [FloatOps F] in
theorem bigSep_slots (Φ : Bool × Fin 2 × Fin 2 → sProp 𝕄) :
    bigSep Finset.univ Φ = lanes (fun ρ j => iprop(Φ (ρ, j, 0) ∗ Φ (ρ, j, 1))) := by
  rw [bigSep_univ_eq_bigSepL [(true, 0, 0), (true, 0, 1), (false, 0, 0), (false, 0, 1), (true, 1, 0), (true, 1, 1), (false, 1, 0), (false, 1, 1)]
    (by decide) (by decide) Φ]
  unfold lanes
  simp only [sep_regroup]
  rfl

omit [FloatOps F] in
theorem bigSep_bool (Φ : Bool → sProp 𝕄) : bigSep Finset.univ Φ = iprop(Φ true ∗ Φ false) := by
  rw [bigSep_univ_eq_bigSepL [true, false] (by decide) (by decide) Φ]
  rfl

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide) Φ]
  rfl

omit [FloatOps F] in
theorem bigSep_fin_range (n : ℕ) (Φ : ℕ → sProp 𝕄) : bigSep Finset.univ (fun t : Fin n => Φ t.val) = bigSep (Finset.range n) Φ := by
  have h : Finset.range n = Finset.univ.map (Fin.valEmbedding (n := n)) := by
    ext i; simp only [Finset.mem_range, Finset.mem_map, Finset.mem_univ, true_and]
    exact ⟨fun hi => ⟨⟨i, hi⟩, rfl⟩, fun ⟨a, ha⟩ => ha ▸ a.isLt⟩
  rw [h, bigSep_map]
  rfl

omit [FloatOps F] in
theorem bigSep_times {α β : Type} [DecidableEq α] [DecidableEq β] (s : Finset α) (t : Finset β) (Φ : α × β → sProp 𝕄) :
    bigSep (s ×ˢ t) Φ = bigSep s (fun a => bigSep t (fun b => Φ (a, b))) := by
  induction s using Finset.induction_on with
  | empty => rw [Finset.empty_product, bigSep_empty, bigSep_empty]
  | insert a s ha ih =>
    have hd : Disjoint (({a} : Finset α) ×ˢ t) (s ×ˢ t) := Finset.disjoint_product.mpr (.inl (Finset.disjoint_singleton_left.mpr ha))
    rw [bigSep_insert ha, ← ih, Finset.insert_eq, Finset.union_product, bigSep_union hd, Finset.singleton_product, bigSep_map]
    rfl

/-! ## The duties' tokens -/

/-- The duties of one device's cells: the barrier's two; a lane's sends, arrivals and credits. -/
abbrev TI : Type := Bool ⊕ ((Bool × Fin 2) × Fin 3 × Fin 16)

def tokOf : TI → CK × ℕ × ℕ
  | .inl true => (kBar, 0, 1)
  | .inl false => (kBar, 0, 0)
  | .inr ((ρ, j), 0, t) => (kSend ρ (slotOf t) j, t / 2, 0)
  | .inr ((ρ, j), 1, t) => (kRecv ρ (slotOf (t + 1)) j, t / 2, 0)
  | .inr ((ρ, j), 2, t) => (kCred ρ j, 0, t)

theorem tokOf_inj : Function.Injective tokOf := by decide +kernel

def tokEmb : Dev nD × TI ↪ GSem nD τ sig × ℕ × ℕ :=
  ⟨fun x => (cell x.1 (tokOf x.2).1, (tokOf x.2).2), fun x y h => by
    have h1 := cell_inj (congrArg Prod.fst h)
    have h2 := congrArg Prod.snd h
    exact Prod.ext h1.1 (tokOf_inj (Prod.ext h1.2 h2))⟩

def duties : Finset (GSem nD τ sig × ℕ × ℕ) := Finset.univ.map tokEmb

/-- The tokens of device `c`'s own cells, lane by lane. -/
def ownToks (c : Dev nD) (ρ : Bool) (j : Fin 2) : sProp 𝕄 :=
  iprop(bigSep (Finset.range 16) (fun t => dutyTok ER (cell c (kSend ρ (slotOf t) j)) (t / 2) 0)
    ∗ bigSep (Finset.range 16) (fun t => dutyTok ER (cell c (kRecv ρ (slotOf (t + 1)) j)) (t / 2) 0)
    ∗ bigSep (Finset.range 16) (fun t => dutyTok ER (cell c (kCred ρ j)) 0 t))

omit [FloatOps F] in
theorem duties_eq : bigSep duties (fun x => (dutyTok ER x.1 x.2.1 x.2.2 : sProp 𝕄))
    = bigSep Finset.univ (fun c : Dev nD => iprop((dutyTok ER (cell c kBar) 0 1 ∗ dutyTok ER (cell c kBar) 0 0) ∗ lanes (fun ρ j => ownToks c ρ j))) := by
  unfold duties
  rw [bigSep_map, bigSep_univ_prod]
  refine bigSep_congr fun c _ => ?_
  rw [bigSep_univ_sum, bigSep_bool, bigSep_univ_prod, bigSep_lanes]
  have h : ∀ ρ j, bigSep Finset.univ (fun b : Fin 3 × Fin 16 => (dutyTok ER (tokEmb (c, Sum.inr ((ρ, j), b))).1 (tokEmb (c, Sum.inr ((ρ, j), b))).2.1 (tokEmb (c, Sum.inr ((ρ, j), b))).2.2 : sProp 𝕄))
      = ownToks c ρ j := fun ρ j => by
    unfold ownToks
    rw [bigSep_univ_prod, bigSep_three]
    rw [← bigSep_fin_range 16 (fun t => (dutyTok ER (cell c (kSend ρ (slotOf t) j)) (t / 2) 0 : sProp 𝕄)),
      ← bigSep_fin_range 16 (fun t => (dutyTok ER (cell c (kRecv ρ (slotOf (t + 1)) j)) (t / 2) 0 : sProp 𝕄)),
      ← bigSep_fin_range 16 (fun t => (dutyTok ER (cell c (kCred ρ j)) 0 t : sProp 𝕄))]
    rfl
  have hl := congrArg lanes (funext fun ρ => funext fun j => h ρ j)
  exact congrArg (fun X => iprop((dutyTok ER (cell c kBar) 0 1 ∗ dutyTok ER (cell c kBar) 0 0) ∗ X)) hl

/-! ## The slots' write tokens -/

omit [FloatOps F] in
/-- Two slots' lists, interleaved: the odd steps' at slot 0, the even steps' at slot 1. -/
theorem two_slots (Ψ : Fin 2 → ℕ → sProp 𝕄) (k : ℕ) :
    iprop(bigSep (Finset.range k) (Ψ 0) ∗ bigSep (Finset.range k) (Ψ 1)) ⊢ bigSep (Finset.range (2 * k)) (fun t => Ψ (slotOf (t + 1)) (t / 2)) := by
  induction k with
  | zero =>
    show _ ⊢ bigSep (Finset.range 0) _
    rw [Finset.range_zero, bigSep_empty]
    iintro -
    iempintro
  | succ k ih =>
    rw [bigSep_range_succ, bigSep_range_succ, show 2 * (k + 1) = 2 * k + 1 + 1 by omega, bigSep_range_succ, bigSep_range_succ,
      show slotOf (2 * k + 1 + 1) = 0 from Fin.ext (show (2 * k + 1 + 1) % 2 = 0 by omega),
      show slotOf (2 * k + 1) = 1 from Fin.ext (show (2 * k + 1) % 2 = 1 by omega), show (2 * k + 1) / 2 = k by omega, show 2 * k / 2 = k by omega]
    iintro ⟨⟨A, As⟩, B, Bs⟩
    isplitl [A]; · iexact A
    isplitl [B]; · iexact B
    iapply ih
    isplitl [As] <;> iassumption

/-- The token of the write that step `t` makes into device `c`'s slot, if it makes one. -/
def stepW (c : Dev nD) (ρ : Bool) (j : Fin 2) (t : ℕ) : sProp 𝕄 :=
  if sends ρ j t = true then writeTok ES (c, ρ, j, slotOf (t + 1)) (t / 2 + 1) else iprop(emp)
/-- The token left over in a lane without a last arrival. -/
def finW (c : Dev nD) (ρ : Bool) (j : Fin 2) : sProp 𝕄 :=
  if j = lastHalf ρ then iprop(emp) else writeTok ES (c, ρ, j, 0) 8

omit [FloatOps F] in
theorem lane_writes (c : Dev nD) (ρ : Bool) (j : Fin 2) :
    iprop(bigSep (Finset.range 8) (fun n => writeTok ES (c, ρ, j, 0) (n + 1)) ∗ bigSep (Finset.range 8) (fun n => writeTok ES (c, ρ, j, 1) (n + 1)))
      ⊢ (iprop(bigSep (Finset.range 16) (fun t => stepW c ρ j t) ∗ finW c ρ j) : sProp 𝕄) := by
  have h := two_slots (fun s n => (writeTok ES (c, ρ, j, s) (n + 1) : sProp 𝕄)) 8
  have h1 : bigSep (Finset.range 15) (fun t => (writeTok ES (c, ρ, j, slotOf (t + 1)) (t / 2 + 1) : sProp 𝕄)) = bigSep (Finset.range 15) (fun t => stepW c ρ j t) :=
    bigSep_congr fun t ht => by
      have ht := Finset.mem_range.mp ht
      unfold stepW
      rw [if_pos ((sends_eq ρ j t).mpr (.inl (by omega)))]
  have h2 : (writeTok ES (c, ρ, j, 0) 8 : sProp 𝕄) ⊢ iprop(stepW c ρ j 15 ∗ finW c ρ j) := by
    unfold stepW finW
    by_cases hj : j = lastHalf ρ
    · rw [if_pos hj, if_pos ((sends_eq ρ j 15).mpr (.inr hj))]
      iintro H
      isplitl [H]; · iexact H
      iempintro
    · rw [if_neg hj, if_neg (fun hs => ((sends_eq ρ j 15).mp hs).elim (by omega) hj)]
      iintro H
      isplitr; · iempintro
      iexact H
  refine h.trans ?_
  rw [show 2 * 8 = 15 + 1 from rfl, bigSep_range_succ 15, bigSep_range_succ 15 (fun t => stepW (F := F) c ρ j t), h1]
  iintro ⟨H, Hs⟩
  ihave H := (show (writeTok ES (c, ρ, j, slotOf (15 + 1)) (15 / 2 + 1) : sProp 𝕄) ⊢ _ from h2) $$ H
  icases H with ⟨H, Hf⟩
  isplitr [Hf]
  · isplitl [H] <;> iassumption
  iexact Hf

omit [FloatOps F] in
theorem writes_eq : bigSep ((Finset.univ : Finset KK) ×ˢ Finset.range 8) (fun x => (writeTok ES x.1 (x.2 + 1) : sProp 𝕄))
    ⊢ bigSep Finset.univ (fun c : Dev nD => lanes (fun ρ j => iprop(bigSep (Finset.range 16) (fun t => stepW c ρ j t) ∗ finW c ρ j))) := by
  rw [bigSep_times, bigSep_univ_prod]
  refine bigSep_mono fun c _ => ?_
  rw [bigSep_slots]
  exact lanes_mono fun ρ j => lane_writes c ρ j

/-! ## Dealing -/

/-- A device's tokens for its barrier signals. -/
def barToks (c : Dev nD) : sProp 𝕄 := iprop(dutyTok ER (cell (tgt false c) kBar) 0 1 ∗ dutyTok ER (cell (tgt true c) kBar) 0 0)

omit [FloatOps F] in
theorem ring_around (ρ : Bool) (Φ : Dev nD → sProp 𝕄) : bigSep Finset.univ Φ = bigSep Finset.univ (fun c => Φ (tgt ρ c)) :=
  bigSep_univ_equiv (ringE ρ) Φ

omit [FloatOps F] in
theorem lane_deal (ρ : Bool) (j : Fin 2) :
    iprop(bigSep Finset.univ (fun c : Dev nD => ownToks (F := F) c ρ j) ∗ bigSep Finset.univ (fun c : Dev nD => bigSep (Finset.range 16) (fun t => stepW (F := F) c ρ j t)))
      ⊢ bigSep Finset.univ (fun c : Dev nD => bigSep (Finset.range 16) (fun t => laneTok (F := F) c ρ j t)) := by
  have h : ∀ c : Dev nD, bigSep (Finset.range 16) (fun t => laneTok (F := F) c ρ j t)
      = iprop(bigSep (Finset.range 16) (fun t => dutyTok ER (cell c (kSend ρ (slotOf t) j)) (t / 2) 0)
        ∗ bigSep (Finset.range 16) (fun t => dutyTok ER (cell (tgt ρ c) (kRecv ρ (slotOf (t + 1)) j)) (t / 2) 0)
        ∗ bigSep (Finset.range 16) (fun t => stepW (tgt ρ c) ρ j t)
        ∗ bigSep (Finset.range 16) (fun t => dutyTok ER (cell (tgt (!ρ) c) (kCred ρ j)) 0 t)) := fun c => by
    rw [← bigSep_sep', ← bigSep_sep', ← bigSep_sep']
    rfl
  rw [bigSep_congr (s := Finset.univ) fun c _ => h c, bigSep_sep', bigSep_sep', bigSep_sep']
  unfold ownToks
  rw [bigSep_sep', bigSep_sep',
    ring_around ρ (fun c => bigSep (Finset.range 16) (fun t => (dutyTok ER (cell c (kRecv ρ (slotOf (t + 1)) j)) (t / 2) 0 : sProp 𝕄))),
    ring_around ρ (fun c => bigSep (Finset.range 16) (fun t => stepW (F := F) c ρ j t)),
    ring_around (!ρ) (fun c => bigSep (Finset.range 16) (fun t => (dutyTok ER (cell c (kCred ρ j)) 0 t : sProp 𝕄)))]
  iintro ⟨⟨H1, H2, H3⟩, H4⟩
  isplitl [H1]; · iexact H1
  isplitl [H2]; · iexact H2
  isplitl [H4] <;> iassumption

omit [FloatOps F] in
/-- Every device's share of the tokens. -/
theorem deal :
    iprop(bigSep duties (fun x => (dutyTok ER x.1 x.2.1 x.2.2 : sProp 𝕄)) ∗ bigSep ((Finset.univ : Finset KK) ×ˢ Finset.range 8) (fun x => writeTok ES x.1 (x.2 + 1)))
      ⊢ bigSep Finset.univ (fun c : Dev nD => iprop(barToks (F := F) c
        ∗ lanes (fun ρ j => bigSep (Finset.range 16) (fun t => laneTok c ρ j t)) ∗ lanes (fun ρ j => finW c ρ j))) := by
  rw [duties_eq, bigSep_sep', bigSep_sep', lanes_bigSep Finset.univ (fun (c : Dev nD) ρ j => ownToks (F := F) c ρ j)]
  unfold barToks
  rw [bigSep_sep', bigSep_sep', bigSep_sep', ring_around false (fun c => (dutyTok ER (cell c kBar) 0 1 : sProp 𝕄)),
    ring_around true (fun c => (dutyTok ER (cell c kBar) 0 0 : sProp 𝕄)),
    lanes_bigSep Finset.univ (fun (c : Dev nD) ρ j => bigSep (Finset.range 16) (fun t => laneTok (F := F) c ρ j t)),
    lanes_bigSep Finset.univ (fun (c : Dev nD) ρ j => finW (F := F) c ρ j)]
  iintro ⟨⟨⟨B1, B0⟩, HD⟩, HW⟩
  ihave HW := (writes_eq (F := F)) $$ HW
  ihave HW := (Entails.of_eq (lanes_bigSep (F := F) Finset.univ (fun (c : Dev nD) ρ j => iprop(bigSep (Finset.range 16) (fun t => stepW c ρ j t) ∗ finW c ρ j)))) $$ HW
  isplitl [B1 B0]
  · isplitl [B1] <;> iassumption
  have hl : ∀ ρ j, iprop(bigSep Finset.univ (fun c : Dev nD => ownToks (F := F) c ρ j)
        ∗ bigSep Finset.univ (fun c : Dev nD => iprop(bigSep (Finset.range 16) (fun t => stepW (F := F) c ρ j t) ∗ finW c ρ j)))
      ⊢ iprop(bigSep Finset.univ (fun c : Dev nD => bigSep (Finset.range 16) (fun t => laneTok (F := F) c ρ j t)) ∗ bigSep Finset.univ (fun c : Dev nD => finW (F := F) c ρ j)) := fun ρ j => by
    rw [bigSep_sep']
    iintro ⟨H1, H2, H3⟩
    isplitr [H3]
    · iapply (lane_deal ρ j)
      isplitl [H1] <;> iassumption
    iexact H3
  have hu : ∀ Φ Ψ : Bool → Fin 2 → sProp 𝕄, lanes (fun ρ j => iprop(Φ ρ j ∗ Ψ ρ j)) ⊢ iprop(lanes Φ ∗ lanes Ψ) := fun Φ Ψ => by
    unfold lanes
    iintro ⟨⟨A1, B1⟩, ⟨A2, B2⟩, ⟨A3, B3⟩, A4, B4⟩
    isplitl [A1 A2 A3 A4]
    · isplitl [A1]; · iexact A1
      isplitl [A2]; · iexact A2
      isplitl [A3] <;> iassumption
    isplitl [B1]; · iexact B1
    isplitl [B2]; · iexact B2
    isplitl [B3] <;> iassumption
  iapply (hu _ _)
  iapply (lanes_mono hl)
  iapply lanes_pair
  isplitl [HD] <;> iassumption

end Cert.KernelIdeal.RingProof

end
-- ==== Proof.KI.Launch.lean ====
/-
# The run

The launch allocates every cell's and slot's invariant and deals the tokens and credits; then the whole program's run, its
result every device's block of columns.
-/
module

public import proofs.«01_k».proof.Proof.KI.Region
public import proofs.«01_k».proof.Proof.KI.Deal

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

/-! ## The cells at the launch -/

def barEmb : Dev nD ↪ GSem nD τ sig := ⟨fun c => cell c kBar, fun _ _ h => (cell_inj h).1⟩
def ownEmb : Dev nD × OK ↪ GSem nD τ sig :=
  ⟨fun p => cell p.1 (some p.2), fun _ _ h => Prod.ext (cell_inj h).1 (Option.some.inj (cell_inj h).2)⟩
def allEmb : Dev nD × CK ↪ GSem nD τ sig := ⟨fun p => cell p.1 p.2, fun _ _ h => Prod.ext (cell_inj h).1 (cell_inj h).2⟩

def barCells : Finset (GSem nD τ sig) := Finset.univ.map barEmb
def ownCells : Finset (GSem nD τ sig) := Finset.univ.map ownEmb

theorem disjoint_cells : Disjoint barCells ownCells :=
  Finset.disjoint_left.mpr fun g h h' => by
    obtain ⟨c, -, rfl⟩ := Finset.mem_map.mp h
    obtain ⟨p, -, hp⟩ := Finset.mem_map.mp h'
    exact absurd (cell_inj hp).2 (by simp)

theorem all_sub : Finset.univ.map allEmb ⊆ barCells ∪ ownCells := fun g h => by
  obtain ⟨⟨c, k⟩, -, rfl⟩ := Finset.mem_map.mp h
  cases k with
  | none => exact Finset.mem_union_left _ (Finset.mem_map_of_mem barEmb (Finset.mem_univ c))
  | some k => exact Finset.mem_union_right _ (Finset.mem_map_of_mem ownEmb (Finset.mem_univ (c, k)))

/-- The launch's ghost state: the staging cells', the protocol's, the slots'. -/
def u₀ : UU :=
  (initOf (Pipeline.cells (Pipeline.pin (pcfgs (F := F)) adm) cellOf_inj) (Pipeline.launchToks (Pipeline.pin (pcfgs (F := F)) adm) cellOf_inj),
    launchOf barCells ownCells duties, initSlots Finset.univ 8)

/-- All of a resource held by device 0. -/
def parked (X : sProp 𝕄) (c : Dev nD) : sProp 𝕄 := if c = 0 then X else iprop(emp)
omit [FloatOps F] in
theorem parked_all (X : sProp 𝕄) : bigSep Finset.univ (parked (F := F) X) = X := by
  have h : bigSep (Finset.univ.erase (0 : Dev nD)) (parked (F := F) X) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const, show parked X 0 = X from if_pos rfl]
  exact BI.equiv_iff.mp sep_emp

/-- The protocol's and the slots' ghost state. -/
def ghost : sProp 𝕄 := iprop(BI.own (ER (launchOf barCells ownCells duties)) ∗ BI.own (ES (initSlots Finset.univ 8)))

abbrev G : Dev nD → sProp 𝕄 := parked (F := F) ghost

theorem launch_split : (ownU (u₀ (F := F)) : sProp 𝕄) ⊢ |={Set.univ}=>
    iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G ghost
  rw [parked_all]
  iintro Hu
  ihave H := (ownU_pair _ _) $$ Hu
  icases H with ⟨HP, HX⟩
  imodintro
  isplitl [HP]; · iexact HP
  iapply (own_pair_emb (embR : Emb (UB × USlots KK) 𝕄) (launchOf barCells ownCells duties) (initSlots Finset.univ 8)); iexact HX

variable (m : (ℓ : Loc nD τ sig) → Buf (Elt F) ℓ)

/-! ## One device's share -/

/-- What stays with device `c` of the ghost state. -/
def linear (c : Dev nD) : sProp 𝕄 :=
  iprop(atPos ER (cell c kBar) 0 ∅ 0 ∗ bigSep Finset.univ (fun k : OK => openTok ER (cell c (some k)))
    ∗ lanes (fun ρ j => iprop(readerAt ES (c, ρ, j, 0) 0 ∗ readerAt ES (c, ρ, j, 1) 0))
    ∗ barToks c ∗ lanes (fun ρ j => bigSep (Finset.range 16) (fun t => laneTok c ρ j t)) ∗ lanes (fun ρ j => finW c ρ j))

/-- The rest of its launch holdings. -/
def bundle (c : Dev nD) : sProp 𝕄 := iprop(owes (c : Thread nD τ) (O₀ c) ∅ ∗ Pipeline.launchCred O₀ c ∗ ∃ r, prngReg c r)

/-- Every barrier cell is at its start. -/
def barsAt : sProp 𝕄 := bigSep Finset.univ (fun c : Dev nD => reached ER (cell c kBar) 0)
instance barsAt_persistent : BI.Persistent (barsAt (F := F)) := by unfold barsAt; infer_instance

omit [FloatOps F] in
theorem bars_at (c : Dev nD) : (barsAt : sProp 𝕄) ⊢ reached ER (cell c kBar) 0 := by
  unfold barsAt; exact bigSep_elim (Finset.mem_univ c)

omit [FloatOps F] in
theorem lane_pre (c : Dev nD) (ρ : Bool) (j : Fin 2) :
    iprop((lastCr c ρ j ∗ bigSep (Finset.Ico 1 16) (fun t => laneCr c ρ j t)) ∗ (readerAt ES (c, ρ, j, 0) 0 ∗ readerAt ES (c, ρ, j, 1) 0)
        ∗ bigSep (Finset.range 16) (fun t => laneTok c ρ j t) ∗ finW c ρ j)
      ⊢ (lanePre c ρ j : sProp 𝕄) := by
  have hf : iprop(lastCr c ρ j ∗ finW c ρ j) ⊢ (laneFin c ρ j : sProp 𝕄) := by
    unfold lastCr finW laneFin
    by_cases hj : j = lastHalf ρ
    · rw [if_pos hj, if_pos hj, if_pos hj]; iintro ⟨H, -⟩; iexact H
    · rw [if_neg hj, if_neg hj, if_neg hj]; iintro ⟨-, H⟩; iexact H
  unfold lanePre laneRes
  rw [Finset.range_eq_Ico, bigSep_Ico_succ_bot (show 0 < 16 by decide), bigSep_sep']
  iintro ⟨⟨H1, H2⟩, ⟨R0, R1⟩, ⟨T0, Ts⟩, Hw⟩
  isplitl [R0]; · iexact R0
  isplitl [R1]; · iexact R1
  isplitl [H1 Hw]
  · iapply hf
    isplitl [H1] <;> iassumption
  isplitl [T0]; · iexact T0
  isplitl [Ts]; · iexact Ts
  iexact H2

omit [FloatOps F] in
theorem lanes_pre (c : Dev nD) :
    iprop(lanes (fun ρ j => iprop(lastCr c ρ j ∗ bigSep (Finset.Ico 1 16) (fun t => laneCr c ρ j t)))
        ∗ lanes (fun ρ j => iprop(readerAt ES (c, ρ, j, 0) 0 ∗ readerAt ES (c, ρ, j, 1) 0))
        ∗ lanes (fun ρ j => bigSep (Finset.range 16) (fun t => laneTok c ρ j t)) ∗ lanes (fun ρ j => finW c ρ j))
      ⊢ (lanes (fun ρ j => lanePre c ρ j) : sProp 𝕄) := by
  iintro ⟨H1, H2, H3, H4⟩
  iapply (lanes_mono (fun ρ j => lane_pre (F := F) c ρ j))
  iapply lanes_pair
  isplitl [H1]; · iexact H1
  iapply lanes_pair
  isplitl [H2]; · iexact H2
  iapply lanes_pair
  isplitl [H3] <;> iassumption

theorem start_intro (κ : Dev nD × CK → ℕ) (ιs : KK → ℕ) (c : Dev nD) :
    iprop((ctx (xOf m) κ ιs ∗ barsAt) ∗ (linear c ∗ bundle c)) ⊢ E₀ m c := by
  unfold linear bundle E₀ Tk barInit barToks
  iintro ⟨⟨#Hc, #Hb⟩, ⟨Ha, Ho, Hr, ⟨B1, B0⟩, Ht, Hf⟩, HO, Hcr, Hp⟩
  ihave Hcr := (show (Pipeline.launchCred O₀ c : sProp 𝕄) ⊢ _ from cred_all (F := F) c) $$ Hcr
  icases Hcr with ⟨Hbc, Hcr⟩
  isplitr [Hp HO]
  · iexists κ, ιs
    isplitr; · iexact Hc
    isplitl [Ho]; · iexact Ho
    isplitl [Hcr Hr Ht Hf]
    · iapply (lanes_pre (F := F) c)
      isplitl [Hcr]; · iexact Hcr
      isplitl [Hr]; · iexact Hr
      isplitl [Ht] <;> iassumption
    isplitl [Ha]; · iexact Ha
    isplitl [Hbc]; · iexact Hbc
    isplitl [B1]
    · isplitl [B1]; · iexact B1
      iapply (bars_at (F := F) (tgt false c)); iexact Hb
    · isplitl [B0]; · iexact B0
      iapply (bars_at (F := F) (tgt true c)); iexact Hb
  isplitl [Hp]; · iexact Hp
  iexists ∅; iexact HO

/-! ## The launch -/

omit [FloatOps F] in
theorem sems0_eq (c : Dev nD) : (unscopedSems0 c : sProp 𝕄) = semVal (cell c kBar) 0 := by
  unfold unscopedSems0
  rw [show (Finset.univ.filter fun sm : SemLoc sig => ¬ sm.isScoped .tc) = {SemLoc.reg barS} from by decide, BI.bigSep_singleton]
  rfl

omit [FloatOps F] in
theorem readers_eq : bigSep Finset.univ (fun k : KK => (readerAt ES k 0 : sProp 𝕄))
    = bigSep Finset.univ (fun c : Dev nD => lanes (fun ρ j => iprop(readerAt ES (c, ρ, j, 0) 0 ∗ readerAt ES (c, ρ, j, 1) 0))) := by
  rw [bigSep_univ_prod]
  exact bigSep_congr fun c _ => bigSep_slots (fun b => (readerAt ES (c, b) 0 : sProp 𝕄))

theorem dealt (κ : Dev nD × CK → ℕ) (ιs : KK → ℕ) :
    iprop((ctx (xOf m) κ ιs ∗ barsAt) ∗ bigSep Finset.univ (fun c : Dev nD => linear (F := F) c) ∗ bigSep Finset.univ (fun c : Dev nD => bundle (F := F) c))
      ⊢ bigSep Finset.univ (E₀ m) := by
  rw [← bigSep_sep']
  exact bigSep_with_persistent (R := iprop(ctx (xOf m) κ ιs ∗ barsAt)) (Φ := fun c => iprop(linear c ∗ bundle c)) fun c _ => start_intro m κ ιs c

theorem launch (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c))
        ∗ levAts L lv)
      ⊢ (|={Set.univ}=> bigSep Finset.univ (E₀ m) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(bundle c ∗ (semVal (cell c kBar) 0 ∗ G (F := F) c)) : sProp 𝕄) := by
    rw [sems0_eq]
    unfold bundle
    iintro ⟨Hv, HO, Hcr, Hp, HG⟩
    isplitl [HO Hcr Hp]
    · isplitl [HO]; · iexact HO
      isplitl [Hcr]; · iexact Hcr
      iexists (ρ c); iexact Hp
    isplitl [Hv] <;> iassumption
  have hv : bigSep Finset.univ (fun c : Dev nD => (semVal (cell c kBar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c kBar) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ barsAt :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep Finset.univ (fun k : OK => (openTok ER (cell c (some k)) : sProp 𝕄))) :=
    Entails.of_eq ((bigSep_map (s := Finset.univ) ownEmb (Φ := fun g : GSem nD τ sig => (openTok ER g : sProp 𝕄))).trans
      (bigSep_univ_prod (fun p : Dev nD × OK => (openTok ER (cell p.1 (some p.2)) : sProp 𝕄))))
  have hinv (κ : GSem nD τ sig → ℕ) : bigSep (barCells ∪ ownCells) (fun g => (cellInv ER (Rd (xOf m)) (κ g) g : sProp 𝕄))
      ⊢ bigSep Finset.univ (fun p : Dev nD × CK => cellInv ER (Rd (xOf m)) (κ (cell p.1 p.2)) (cell p.1 p.2)) :=
    (bigSep_subset all_sub).trans (Entails.of_eq (bigSep_map (s := Finset.univ) allEmb (Φ := fun g : GSem nD τ sig => (cellInv ER (Rd (xOf m)) (κ g) g : sProp 𝕄))))
  iintro ⟨H, #Hlev⟩
  ihave H := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(bundle c ∗ (semVal (cell c kBar) 0 ∗ G (F := F) c)) : sProp 𝕄) from bigSep_mono fun c _ => hcore c) $$ H
  ihave H := (Entails.of_eq (bigSep_sep' _ _ _)) $$ H; icases H with ⟨HB, H⟩
  ihave H := (Entails.of_eq (bigSep_sep' _ _ _)) $$ H; icases H with ⟨Hv, HG⟩
  ihave Hu := (show bigSep Finset.univ (G (F := F)) ⊢ ghost from Entails.of_eq (parked_all (F := F) ghost)) $$ HG
  ihave Hu := (show (ghost : sProp 𝕄) ⊢ iprop(BI.own (ER (launchOf barCells ownCells duties)) ∗ BI.own (ES (initSlots Finset.univ 8))) from .rfl) $$ Hu
  icases Hu with ⟨HR, HS⟩
  imod (Rounds.fund_launch ER (Rd (xOf m)) disjoint_cells (fun g _ h => h) duties) $$ [Hv HR] with ⟨%κ, -, #Hinv, #Hr, Hat, Hopen, Htok⟩
  · isplitl [Hv]
    · iapply hv; iexact Hv
    · iexact HR
  imod (slots_init ES (Finset.univ : Finset KK) 8 (fun k : KK => slotPts (F := F) k.2.1 k.2.2.2 k.2.2.1 k.1)) $$ HS with ⟨%ιs, -, #Hsl, Hrd, Hwr⟩
  imodintro
  ihave Hd := (deal (F := F)) $$ [Htok Hwr]
  · isplitl [Htok] <;> iassumption
  iapply (dealt m (fun p => κ (cell p.1 p.2)) ιs)
  isplitr
  · isplitr
    · unfold ctx
      isplitr; · iapply (hinv κ); iexact Hinv
      isplitr; · iexact Hsl
      iexact Hlev
    iapply hre; iexact Hr
  isplitr [HB]
  · unfold linear
    iapply (Entails.of_eq (bigSep_sep' _ _ _).symm); isplitl [Hat]; · iapply hat; iexact Hat
    iapply (Entails.of_eq (bigSep_sep' _ _ _).symm); isplitl [Hopen]; · iapply hop; iexact Hopen
    iapply (Entails.of_eq (bigSep_sep' _ _ _).symm); isplitl [Hrd]; · iapply (Entails.of_eq (readers_eq (F := F))); iexact Hrd
    iexact Hd
  iexact HB

/-! ## The run -/

/-- What device `c` ends with. -/
abbrev Tₙ (c : Dev nD) : sProp 𝕄 :=
  iprop(StableHlo.held (c : Thread nD τ) (Pipeline.ucRefs τ sig) (withRes m (V9 m c) c) ∗ semVal (cell c kBar) 0)

theorem launched (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (fun c : Dev nD => iprop(StableHlo.held (c : Thread nD τ) (Pipeline.ucRefs τ sig) (V0 m c) ∗ E₀ m c)) : sProp 𝕄) := by
  have hb (c : Dev nD) : (unscopedBufs c (fun b => m ((c.tc : Thread nD τ).loc b)) : sProp 𝕄) = StableHlo.held (c : Thread nD τ) (Pipeline.ucRefs τ sig) (V0 m c) :=
    Pipeline.unscopedBufs_held c (V0 m c)
  have hs : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c) : sProp 𝕄)
      = iprop((bigSep Finset.univ fun c : Dev nD => StableHlo.held (c : Thread nD τ) (Pipeline.ucRefs τ sig) (V0 m c))
        ∗ bigSep Finset.univ fun c : Dev nD => iprop(unscopedSems0 c ∗ owes (c : Thread nD τ) (O₀ c) ∅ ∗ Pipeline.launchCred O₀ c ∗ prngReg c (ρ c) ∗ G (F := F) c)) := by
    rw [bigSep_sep', bigSep_congr (s := Finset.univ) fun c _ => hb c]
  rw [hs]
  iintro ⟨⟨Hh, H⟩, Hlev⟩
  imod (launch m ρ) $$ [H Hlev] with HE
  · isplitl [H]; · iexact H
    iexact Hlev
  imodintro
  iapply (Entails.of_eq (bigSep_sep' _ _ _).symm)
  isplitl [Hh] <;> iassumption

theorem unscoped_eq : ∀ sm : SemLoc sig, sm.isScoped .tc = false → sm = .reg barS := by decide

theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

theorem chain (c : Dev nD) : Pipeline.Seg.ChainsAt c (fun c => iprop(StableHlo.held (c : Thread nD τ) (Pipeline.ucRefs τ sig) (V0 m c) ∗ E₀ m c))
    (segs m 𝒱₀ L lv (fun _ => E₀ m) 0 (dats m) (reg0 m) c) (fun c => iprop(Tₙ m c ∗ ∃ W, owes (c.tc : Thread nD τ) (0 : CellTallies nD τ sig ℕ) W)) :=
  ⟨.rfl, .rfl, .rfl, .rfl, .rfl, .rfl, .rfl, .rfl, .rfl, reg0_pre m c, (reg0_post m c).trans (by
    iintro ⟨Hh, Hb, HO⟩
    isplitr [HO]
    · isplitl [Hh] <;> iassumption
    · iexact HO)⟩

/-- What device `c` ends with, in memory. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v49) = resOf m c)
  ∧ s.sem (cell c kBar) = 0

theorem ends (c : Dev nD) (s' : Phys nD τ sig (Elt F)) : iprop(Tₙ m c ∗ SI s') ⊢ (|={Set.univ}=> iprop(⌜Ends m c s'.mem⌝ ∗ SI s') : sProp 𝕄) := by
  unfold Tₙ StableHlo.held
  iintro ⟨⟨Hh, Hb⟩, HSI⟩
  ihave Hr := (pointsTo_read_all (Pipeline.ucRefs τ sig) (fun b => ((c : Thread nD τ).1, b)) (withRes m (V9 m c) c) s') $$ [Hh HSI]
  · isplitl [Hh] <;> iassumption
  icases Hr with ⟨%h, HSI⟩
  icombine HSI Hb gives %hb
  imodintro
  isplitr
  · ipureintro
    exact ⟨⟨(h (Proc.devRef .tc main_arg0) (mem_uc main_arg0 (by decide))).trans ((withRes_of m (V9 m c) c _ (by decide)).trans (V9_arg0 m c)),
      (h (Proc.devRef .tc main_arg1) (mem_uc main_arg1 (by decide))).trans ((withRes_of m (V9 m c) c _ (by decide)).trans (V9_arg1 m c)),
      (h (Proc.devRef .tc main_v49) (mem_uc main_v49 (by decide))).trans (Function.update_self ..)⟩, by simpa using hb⟩
  · iexact HSI

set_option backward.isDefEq.respectTransparency.types false in
/-- From any memory with zero counters every weakly fair run of the program on the thirty-two devices terminates; each device
    ends with its arguments unchanged and its block of the result, and every counter at zero. -/
theorem run (ρ : Dev nD → PrngReg) : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v49) = resOf m c) ∧ r.2.sem = fun _ => 0) :=
  Pipeline.θ_run_regions_kit_dev_sems (pcfgs (F := F)) adm (dats m) 0 cellOf_inj EP defs₀ 𝒱₀ L lv m ρ main
    (segs m 𝒱₀ L lv (fun _ => E₀ m) 0 (dats m) (reg0 m))
    (fun c Q => by
      rewrite [main_chain c, Pipeline.Seg.run_eq_chain,
        show (segs m 𝒱₀ L lv (fun _ => E₀ m) 0 (dats m) (reg0 m) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F))
    launch_split (T₀ := fun c => iprop(StableHlo.held (c : Thread nD τ) (Pipeline.ucRefs τ sig) (V0 m c) ∗ E₀ m c)) (Tₙ := Tₙ m)
    (hch := chain m) (hinit := launched m ρ) (QY := Ends m) (hfin := ends m)
    (hQ := fun s h hs => ⟨fun c => (h c).1, sem_eq_zero hs fun c sm hsm => by
      obtain rfl := unscoped_eq sm hsm
      exact (h c).2⟩)

end Cert.KernelIdeal.RingProof

end
-- ==== Proof.Value.lean ====
/-
# The values

At exact arithmetic every device's block row of the result is the reference's: each of its products is the reference's sum over
the contracted axis, its rows those of the device whose block it is, its columns the device's own.
-/
module

public import proofs.«01_k».proof.Proof.KI.Launch
public import proofs.«01_k».proof.Proof.Gen.ReferenceIdeal.Run
public import Idealize.ShloMosaic.Lib.MatmulPlain
public import Idealize.ShloMosaic.Lib.KernelVsHost
public import Idealize.ShloMosaic.Lib.Layout

@[expose] public section

noncomputable section

namespace Cert.Value

open Idealize.ShloMosaic Idealize.ShloMosaic.TcCoe
open scoped BigOperators

open Cert.KernelIdeal.RingProof (gemm gemmH halfOf GO oBlk oIdx oHIdx oHalf oRow oHRow xRow)

/-- Row `r` of `X` times column `n` of `W`. -/
def dotAt {M N : ℕ} (X : FVec Ideal ⟨2, ![M, 8192]⟩ .f32) (W : FVec Ideal ⟨2, ![8192, N]⟩ .f32) (r : Fin M) (n : Fin N) : EReal :=
  ∑ k : Fin 8192, X (ValueIdx.ix2 r k) * W (ValueIdx.ix2 k n)

theorem matmul_at {M N : ℕ} (X : FVec Ideal ⟨2, ![M, 8192]⟩ .f32) (W : FVec Ideal ⟨2, ![8192, N]⟩ .f32) (r : Fin M) (n : Fin N) :
    matmul (DotDims.plain M 8192 N) none X W (constant ⟨2, ![M, N]⟩ .f32 0x00000000#32) (ValueIdx.ix2 r n) = dotAt X W r n := by
  refine (Ideal.matmul_plain_apply none X W _ r n).trans ?_
  show Ideal.ofBits .f32 0x00000000#32 + _ = _
  rw [Ideal.ofBits_zero_f32, zero_add]
  rfl

theorem max_at {s s' : Shape} (a b : FVec Ideal s .f32) (a' b' : FVec Ideal s' .f32) (i : s.Idx) (i' : s'.Idx) (h : a i = a' i') (hb : b i = b' i') :
    maximumf a b i = maximumf a' b' i' := by
  show FloatOps.maximumf (F := Ideal) (a i) (b i) = FloatOps.maximumf (F := Ideal) (a' i') (b' i')
  rw [h, hb]

/-- The reference's result. -/
abbrev ref (x : FVec Ideal ⟨2, ![8192, 8192]⟩ .f32) (w : FVec Ideal ⟨2, ![8192, 4096]⟩ .f32) : FVec Ideal ⟨2, ![8192, 4096]⟩ .f32 :=
  maximumf (Host.dotGeneral Cert.ReferenceIdeal.dot_S8192x8192_S8192x4096_S8192x4096_1_0_0_1_n_n none x w)
    (broadcastInDim Cert.ReferenceIdeal.S8192x4096 ![] Cert.ReferenceIdeal.Gen.bcast_S_S8192x4096 (constant Cert.ReferenceIdeal.S_ .f32 0x00000000#32))

theorem ref_dot (x : FVec Ideal ⟨2, ![8192, 8192]⟩ .f32) (w : FVec Ideal ⟨2, ![8192, 4096]⟩ .f32) (r : Fin 8192) (n : Fin 4096) :
    Host.dotGeneral Cert.ReferenceIdeal.dot_S8192x8192_S8192x4096_S8192x4096_1_0_0_1_n_n none x w (ValueIdx.ix2 r n) = dotAt x w r n := by
  rw [← matmul_zero_eq_dotGeneral]
  exact matmul_at x w r n

variable (x : FVec Ideal ⟨2, ![8192, 8192]⟩ .f32) (w : FVec Ideal ⟨2, ![8192, 4096]⟩ .f32)

/-- Device `d`'s block of rows; its block of columns. -/
abbrev xB (d : Fin 32) : FVec Ideal ⟨2, ![256, 8192]⟩ .f32 := Layout.block ⟨2, ![256, 8192]⟩ ⟨2, ![8192, 8192]⟩ 0 32 d x
abbrev wB (c : Fin 32) : FVec Ideal ⟨2, ![8192, 128]⟩ .f32 := Layout.block ⟨2, ![8192, 128]⟩ ⟨2, ![8192, 4096]⟩ 1 32 c w

/-- The result's column `n` of device `c`. -/
def colAt (c : Fin 32) (n : Fin 128) : Fin 4096 := ⟨c.val * 128 + n.val, by omega⟩

theorem wB_at (c : Fin 32) (k : Fin 8192) (n : Fin 128) : wB w c (ValueIdx.ix2 k n) = w (ValueIdx.ix2 k (colAt c n)) := by
  refine congrArg w (funext fun a => Fin.ext ?_)
  match a with
  | ⟨0, _⟩ => rfl
  | ⟨1, _⟩ => rfl

/-- A product of some rows of `x` by a device's columns is the whole product's. -/
theorem dot_rows {M : ℕ} (X : FVec Ideal ⟨2, ![M, 8192]⟩ .f32) (c : Fin 32) (r : Fin M) (R : Fin 8192) (n : Fin 128)
    (h : ∀ k, X (ValueIdx.ix2 r k) = x (ValueIdx.ix2 R k)) : dotAt X (wB w c) r n = dotAt x w R (colAt c n) :=
  Finset.sum_congr rfl fun k _ => by rw [h k, wB_at]

theorem GO_ref (c : Fin 32) : GO (F := Ideal) c (xB x) (wB w c) = Layout.block ⟨2, ![8192, 128]⟩ ⟨2, ![8192, 4096]⟩ 1 32 c (ref x w) := by
  funext i
  have hi : ∀ a : Fin 2, (i a).val < (![8192, 128] : Fin 2 → ℕ) a := fun a => (i a).isLt
  have h0 : (i 0).val < 8192 := hi 0
  have hr : (Layout.block ⟨2, ![8192, 128]⟩ ⟨2, ![8192, 4096]⟩ 1 32 c (ref x w)) i = ref x w (ValueIdx.ix2 (i 0) (colAt c (i 1))) := by
    refine congrArg (ref x w) (funext fun a => Fin.ext ?_)
    match a with
    | ⟨0, _⟩ => rfl
    | ⟨1, _⟩ => rfl
  rw [hr]
  unfold GO
  split_ifs with hc
  · refine max_at _ _ _ _ _ _ ?_ rfl
    have e : oHIdx i = ValueIdx.ix2 (oHRow i) (i 1) := funext fun a => by match a with | ⟨0, _⟩ => rfl | ⟨1, _⟩ => rfl
    rw [e, shapeCast_self]
    refine (matmul_at (halfOf (F := Ideal) (xB x (oBlk i)) (oHalf i)) (wB w c) (oHRow i) (i 1)).trans ?_
    refine (dot_rows x w _ c (oHRow i) (i 0) (i 1) fun k => ?_).trans (ref_dot x w (i 0) (colAt c (i 1))).symm
    refine congrArg x (funext fun a => Fin.ext ?_)
    match a with
    | ⟨0, _⟩ =>
      show (i 0).val / 256 * 256 + (128 * ((i 0).val % 256 / 128) + 1 * ((i 0).val % 128)) = (i 0).val
      omega
    | ⟨1, _⟩ => show 0 + 1 * k.val = k.val; omega
  · refine max_at _ _ _ _ _ _ ?_ rfl
    have e : oIdx i = ValueIdx.ix2 (oRow i) (i 1) := funext fun a => by match a with | ⟨0, _⟩ => rfl | ⟨1, _⟩ => rfl
    rw [e, shapeCast_self]
    refine (matmul_at (xB x (oBlk i)) (wB w c) (oRow i) (i 1)).trans ?_
    refine (dot_rows x w _ c (oRow i) (i 0) (i 1) fun k => ?_).trans (ref_dot x w (i 0) (colAt c (i 1))).symm
    refine congrArg x (funext fun a => Fin.ext ?_)
    match a with
    | ⟨0, _⟩ =>
      show (i 0).val / 256 * 256 + (i 0).val % 256 = (i 0).val
      omega
    | ⟨1, _⟩ => rfl

end Cert.Value

end
-- ==== Proof.lean ====
/- The proof of the certificate: every device's run of the kernel, read at the bits and at exact arithmetic, the reference's
   run, and their values equal at exact arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel over the bits terminates without fault, with its arguments as they were and every counter at zero. -/
theorem frame_kernel : Cert.quiescent_Kernel := fun m g _ =>
  (θ_run _ _ _).mono (fun _ h => ⟨fun c => ⟨(h.1 c).1, (h.1 c).2.1⟩, h.2⟩) (Cert.Kernel.RingProof.run m g)

/-- The kernel over the extended reals terminates without fault, with its arguments as they were and every counter at zero. -/
theorem frame_ideal : Cert.quiescent_KernelIdeal := fun m g _ =>
  (θ_run _ _ _).mono (fun _ h => ⟨fun c => ⟨(h.1 c).1, (h.1 c).2.1⟩, h.2⟩) (Cert.KernelIdeal.RingProof.run m g)

/-- The reference over the extended reals terminates with its arguments as they were; it has no semaphores. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Device `c`'s result is column block `c` of the rectified product of the whole arrays. -/
theorem values : Cert.algebraic_KernelIdeal_ReferenceIdeal := fun m g m' g' _ hm => by
  refine ⟨Cert.Value.ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).2.2.trans ?_, (h.1 c).1, (h.1 c).2.1⟩) (Cert.KernelIdeal.RingProof.run m g)
    have hx : Cert.KernelIdeal.RingProof.xOf m = Cert.Value.xB (m' (((0 : Dev Cert.ReferenceIdeal.nD).tc : Thread Cert.ReferenceIdeal.nD Cert.ReferenceIdeal.τ).loc Cert.ReferenceIdeal.main_arg0)) :=
      funext fun d => (hm d).1
    have hw : Cert.KernelIdeal.RingProof.wOf m c = Cert.Value.wB (m' (((0 : Dev Cert.ReferenceIdeal.nD).tc : Thread Cert.ReferenceIdeal.nD Cert.ReferenceIdeal.τ).loc Cert.ReferenceIdeal.main_arg1)) c :=
      (hm c).2
    unfold Cert.KernelIdeal.RingProof.resOf
    rw [hx, hw]
    exact Cert.Value.GO_ref _ _ c
  · exact (θ_run _ _ _).mono (fun r h => ⟨(h 0).1, (h 0).2.1, (h 0).2.2⟩) (Cert.ReferenceIdeal.Value.run m' g')

/-- Everything the certificate claims. -/
theorem claim : Cert.Claim := ⟨Cert.Kernel.Gen.facts, Cert.KernelIdeal.Gen.facts, Cert.ReferenceIdeal.Gen.facts,
  frame_kernel, frame_ideal, frame_reference, trivial, values⟩

end Cert.Proof

end
